-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_1)) (v1 : (c : Dev Cert.Kernel8Ideal.nD) → Buf (Elt Ideal) ((c.tc : Thread Cert.Kernel8Ideal.nD Cert.Kernel8Ideal.τ).loc Cert.Kernel8Ideal.main_v0_2)) (v2 : (c : Dev Cert.Kernel8Ideal.nD) → Buf (Elt Ideal) ((c.tc : Thread Cert.Kernel8Ideal.nD Cert.Kernel8Ideal.τ).loc Cert.Kernel8Ideal.main_v0_3)) (v3 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_1) = v0 c
          ∧ r.2.mem ((c.tc : Thread Cert.Kernel8Ideal.nD Cert.Kernel8Ideal.τ).loc Cert.Kernel8Ideal.main_v0_2) = v1 c
          ∧ r.2.mem ((c.tc : Thread Cert.Kernel8Ideal.nD Cert.Kernel8Ideal.τ).loc Cert.Kernel8Ideal.main_v0_3) = v2 c
          ∧ r.2.mem ((c.tc : Thread Cert.Kernel8Ideal.nD Cert.Kernel8Ideal.τ).loc Cert.Kernel8Ideal.main_v0_4) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0_1)) (v1 : (c : Dev Cert.Kernel9Ideal.nD) → Buf (Elt Ideal) ((c.tc : Thread Cert.Kernel9Ideal.nD Cert.Kernel9Ideal.τ).loc Cert.Kernel9Ideal.main_v0_2)) (v2 : (c : Dev Cert.Kernel9Ideal.nD) → Buf (Elt Ideal) ((c.tc : Thread Cert.Kernel9Ideal.nD Cert.Kernel9Ideal.τ).loc Cert.Kernel9Ideal.main_v0_3)) (v3 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_1) = v0 c
          ∧ r.2.mem ((c.tc : Thread Cert.Kernel9Ideal.nD Cert.Kernel9Ideal.τ).loc Cert.Kernel9Ideal.main_v0_2) = v1 c
          ∧ r.2.mem ((c.tc : Thread Cert.Kernel9Ideal.nD Cert.Kernel9Ideal.τ).loc Cert.Kernel9Ideal.main_v0_3) = v2 c
          ∧ r.2.mem ((c.tc : Thread Cert.Kernel9Ideal.nD Cert.Kernel9Ideal.τ).loc Cert.Kernel9Ideal.main_v0_4) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v33) = v2 c
          ∧ r.2.mem ((c.tc : Thread Cert.Reference9Ideal.nD Cert.Reference9Ideal.τ).loc Cert.Reference9Ideal.main_v38) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_logits.lean ====
abbrev S8 : Shape := ⟨1, ![8]⟩
abbrev S4096x1024 : Shape := ⟨2, ![4096, 1024]⟩
abbrev S4096x512 : Shape := ⟨2, ![4096, 512]⟩
abbrev S4096x128 : Shape := ⟨2, ![4096, 128]⟩
abbrev S2x512x1024 : Shape := ⟨3, ![2, 512, 1024]⟩
abbrev S2x512x512 : Shape := ⟨3, ![2, 512, 512]⟩
abbrev S2x2x512x2x64 : Shape := ⟨5, ![2, 2, 512, 2, 64]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x128 : S_.BroadcastsInDim S4096x128 (![] : Fin 0 → Fin S4096x128.rank)
  reducesTo_S4096x128_S_d0_1 : S4096x128.ReducesTo [0, 1] S_
  bcast_S_S2x512x1024 : S_.BroadcastsInDim S2x512x1024 (![] : Fin 0 → Fin S2x512x1024.rank)
  reducesTo_S2x512x1024_S_d0_1_2 : S2x512x1024.ReducesTo [0, 1, 2] S_
  bcast_S_S2x2x512x2x64 : S_.BroadcastsInDim S2x2x512x2x64 (![] : Fin 0 → Fin S2x2x512x2x64.rank)
  reducesTo_S2x2x512x2x64_S_d0_1_2_3_4 : S2x2x512x2x64.ReducesTo [0, 1, 2, 3, 4] S_

variable [Facts]

def fn_part2 {F : FTy → Type} [FloatOps F] (main_v33 : IVec S_ 1) (main_v34 : FVec F S2x2x512x2x64 .f32) (main_cst_10 : FVec F S_ .f32) : IVec S_ 1 :=
  let main_v35 : FVec F S2x2x512x2x64 .f32 := broadcastInDim S2x2x512x2x64 ![] bcast_S_S2x2x512x2x64 main_cst_10
  let main_v36 : IVec S2x2x512x2x64 1 := cmpf .olt main_v34 main_v35
  let main_c_11 : IVec S_ 1 := constantI S_ 1 1#1
  let main_v37 : IVec S_ 1 := (fun x v => Host.reduce IntOp.andi x v reducesTo_S2x2x512x2x64_S_d0_1_2_3_4 h_S_) main_v36 main_c_11
  let main_v38 : IVec S_ 1 := andi main_v33 main_v37
  main_v38

def fn_part1 {F : FTy → Type} [FloatOps F] (main_arg5 : FVec F S4096x128 .bf16) (main_arg7 : FVec F S2x512x1024 .bf16) (main_arg9 : FVec F S2x2x512x2x64 .f32) (main_v15 : IVec S_ 1) (main_v17 : FVec F S4096x512 .f32) : IVec S_ 1 :=
  let main_cst_4 : FVec F S_ .f32 := constant S_ .f32 0x7F800000#32
  let main_v18 : FVec F S4096x512 .f32 := broadcastInDim S4096x512 ![] bcast_S_S4096x512 main_cst_4
  let main_v19 : IVec S4096x512 1 := cmpf .olt main_v17 main_v18
  let main_c_5 : IVec S_ 1 := constantI S_ 1 1#1
  let main_v20 : IVec S_ 1 := (fun x v => Host.reduce IntOp.andi x v reducesTo_S4096x512_S_d0_1 h_S_) main_v19 main_c_5
  let main_v21 : IVec S_ 1 := andi main_v15 main_v20
  let main_v22 : FVec F S4096x128 .f32 := (extf .f32 · bitsLt_bf16_f32) main_arg5
  let main_v23 : FVec F S4096x128 .f32 := Host.absf main_v22
  let main_cst_6 : FVec F S_ .f32 := constant S_ .f32 0x7F800000#32
  let main_v24 : FVec F S4096x128 .f32 := broadcastInDim S4096x128 ![] bcast_S_S4096x128 main_cst_6
  let main_v25 : IVec S4096x128 1 := cmpf .olt main_v23 main_v24
  let main_c_7 : IVec S_ 1 := constantI S_ 1 1#1
  let main_v26 : IVec S_ 1 := (fun x v => Host.reduce IntOp.andi x v reducesTo_S4096x128_S_d0_1 h_S_) main_v25 main_c_7
  let main_v27 : IVec S_ 1 := andi main_v21 main_v26
  let main_v28 : FVec F S2x512x1024 .f32 := (extf .f32 · bitsLt_bf16_f32) main_arg7
  let main_v29 : FVec F S2x512x1024 .f32 := Host.absf main_v28
  let main_cst_8 : FVec F S_ .f32 := constant S_ .f32 0x7F800000#32
  let main_v30 : FVec F S2x512x1024 .f32 := broadcastInDim S2x512x1024 ![] bcast_S_S2x512x1024 main_cst_8
  let main_v31 : IVec S2x512x1024 1 := cmpf .olt main_v29 main_v30
  let main_c_9 : IVec S_ 1 := constantI S_ 1 1#1
  let main_v32 : IVec S_ 1 := (fun x v => Host.reduce IntOp.andi x v reducesTo_S2x512x1024_S_d0_1_2 h_S_) main_v31 main_c_9
  let main_v33 : IVec S_ 1 := andi main_v27 main_v32
  let main_v34 : FVec F S2x2x512x2x64 .f32 := Host.absf main_arg9
  let main_cst_10 : FVec F S_ .f32 := constant S_ .f32 0x7F800000#32
  fn_part2 (F := F) main_v33 main_v34 main_cst_10

def fn {F : FTy → Type} [FloatOps F] (main_arg0 : FVec F S8 .f32) (main_arg1 : FVec F S4096x1024 .bf16) (main_arg2 : FVec F S4096x1024 .bf16) (main_arg3 : FVec F S4096x512 .bf16) (main_arg4 : FVec F S4096x512 .bf16) (main_arg5 : FVec F S4096x128 .bf16) (main_arg6 : FVec F S4096x128 .bf16) (main_arg7 : FVec F S2x512x1024 .bf16) (main_arg8 : FVec F S2x512x512 .bf16) (main_arg9 : FVec F S2x2x512x2x64 .f32) (main_arg10 : FVec F S2x2x512x2x64 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  let main_v16 : FVec F S4096x512 .f32 := (extf .f32 · bitsLt_bf16_f32) main_arg4
  let main_v17 : FVec F S4096x512 .f32 := Host.absf main_v16
  fn_part1 (F := F) main_arg5 main_arg7 main_arg9 main_v15 main_v17
-- ==== Kernel.lean ====
abbrev S8 : Shape := ⟨1, ![8]⟩
abbrev S4096x1024 : Shape := ⟨2, ![4096, 1024]⟩
abbrev S4096x512 : Shape := ⟨2, ![4096, 512]⟩
abbrev S4096x128 : Shape := ⟨2, ![4096, 128]⟩
abbrev S2x512x1024 : Shape := ⟨3, ![2, 512, 1024]⟩
abbrev S2x512x512 : Shape := ⟨3, ![2, 512, 512]⟩
abbrev S2x2x512x2x64 : Shape := ⟨5, ![2, 2, 512, 2, 64]⟩
abbrev S2x2048x1024 : Shape := ⟨3, ![2, 2048, 1024]⟩
abbrev S2x2560x1024 : Shape := ⟨3, ![2, 2560, 1024]⟩
abbrev S2x2048x512 : Shape := ⟨3, ![2, 2048, 512]⟩
abbrev S2x2560x512 : Shape := ⟨3, ![2, 2560, 512]⟩
abbrev S2x2048x128 : Shape := ⟨3, ![2, 2048, 128]⟩
abbrev S_ : Shape := ⟨0, ![]⟩
abbrev S2x2304x128 : Shape := ⟨3, ![2, 2304, 128]⟩
abbrev S2x1x512x2x64 : Shape := ⟨5, ![2, 1, 512, 2, 64]⟩
abbrev S2x512x2x64 : Shape := ⟨4, ![2, 512, 2, 64]⟩
abbrev S2x512x128 : Shape := ⟨3, ![2, 512, 128]⟩
abbrev S512x1024 : Shape := ⟨2, ![512, 1024]⟩
abbrev S1x2560x1024 : Shape := ⟨3, ![1, 2560, 1024]⟩
abbrev S1x2560x512 : Shape := ⟨3, ![1, 2560, 512]⟩
abbrev S512x512 : Shape := ⟨2, ![512, 512]⟩
abbrev S1x2304x128 : Shape := ⟨3, ![1, 2304, 128]⟩
abbrev S1x512x128 : Shape := ⟨3, ![1, 512, 128]⟩
abbrev S512x128 : Shape := ⟨2, ![512, 128]⟩
abbrev S1x2560x128 : Shape := ⟨3, ![1, 2560, 128]⟩
abbrev S2560x128 : Shape := ⟨2, ![2560, 128]⟩
abbrev S512x2560 : Shape := ⟨2, ![512, 2560]⟩
abbrev S512 : Shape := ⟨1, ![512]⟩
abbrev S512x1 : Shape := ⟨2, ![512, 1]⟩
abbrev S512x384 : Shape := ⟨2, ![512, 384]⟩
abbrev S128x512 : Shape := ⟨2, ![128, 512]⟩
abbrev S128x64 : Shape := ⟨2, ![128, 64]⟩
abbrev S512x64 : Shape := ⟨2, ![512, 64]⟩
abbrev S1x384x64 : Shape := ⟨3, ![1, 384, 64]⟩
abbrev S384x64 : Shape := ⟨2, ![384, 64]⟩
abbrev S1 : Shape := ⟨1, ![1]⟩
abbrev S128x1 : Shape := ⟨2, ![128, 1]⟩

abbrev nBuf : Space → Nat
  | .hbm => 32
  | .vmem => 18
  | .smem => 1
  | _ => 0

abbrev bufTy : (tb : Table) → Fin (tcTables nBuf tb) → BufTy
  | .hbm, ⟨0, _⟩ => ⟨S8, .f32⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S4096x128, .bf16⟩
  | .hbm, ⟨7, _⟩ => ⟨S2x512x1024, .bf16⟩
  | .hbm, ⟨8, _⟩ => ⟨S2x512x512, .bf16⟩
  | .hbm, ⟨9, _⟩ => ⟨S2x2x512x2x64, .f32⟩
  | .hbm, ⟨10, _⟩ => ⟨S2x2x512x2x64, .f32⟩
  | .hbm, ⟨11, _⟩ => ⟨S2x2048x1024, .bf16⟩
  | .hbm, ⟨12, _⟩ => ⟨S2x2560x1024, .bf16⟩
  | .hbm, ⟨13, _⟩ => ⟨S2x2048x512, .bf16⟩
  | .hbm, ⟨14, _⟩ => ⟨S2x2560x512, .bf16⟩
  | .hbm, ⟨15, _⟩ => ⟨S2x2048x128, .bf16⟩
  | .hbm, ⟨16, _⟩ => ⟨S_, .i32⟩
  | .hbm, ⟨17, _⟩ => ⟨S_, .bf16⟩
  | .hbm, ⟨18, _⟩ => ⟨S2x2304x128, .bf16⟩
  | .hbm, ⟨19, _⟩ => ⟨S2x2048x128, .bf16⟩
  | .hbm, ⟨20, _⟩ => ⟨S_, .i32⟩
  | .hbm, ⟨21, _⟩ => ⟨S_, .bf16⟩
  | .hbm, ⟨22, _⟩ => ⟨S2x2304x128, .bf16⟩
  | .hbm, ⟨23, _⟩ => ⟨S2x1x512x2x64, .f32⟩
  | .hbm, ⟨24, _⟩ => ⟨S2x512x2x64, .f32⟩
  | .hbm, ⟨25, _⟩ => ⟨S2x512x128, .f32⟩
  | .hbm, ⟨26, _⟩ => ⟨S2x512x128, .bf16⟩
  | .hbm, ⟨27, _⟩ => ⟨S2x1x512x2x64, .f32⟩
  | .hbm, ⟨28, _⟩ => ⟨S2x512x2x64, .f32⟩
  | .hbm, ⟨29, _⟩ => ⟨S2x512x128, .f32⟩
  | .hbm, ⟨30, _⟩ => ⟨S2x512x128, .bf16⟩
  | .hbm, ⟨31, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x2560x1024, .bf16⟩
  | .local _ .vmem, ⟨3, _⟩ => ⟨S1x2560x1024, .bf16⟩
  | .local _ .vmem, ⟨4, _⟩ => ⟨S1x2560x512, .bf16⟩
  | .local _ .vmem, ⟨5, _⟩ => ⟨S1x2560x512, .bf16⟩
  | .local _ .vmem, ⟨6, _⟩ => ⟨S512x512, .bf16⟩
  | .local _ .vmem, ⟨7, _⟩ => ⟨S512x512, .bf16⟩
  | .local _ .vmem, ⟨8, _⟩ => ⟨S1x2304x128, .bf16⟩
  | .local _ .vmem, ⟨9, _⟩ => ⟨S1x2304x128, .bf16⟩
  | .local _ .vmem, ⟨10, _⟩ => ⟨S1x2304x128, .bf16⟩
  | .local _ .vmem, ⟨11, _⟩ => ⟨S1x2304x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S512x1024, .bf16⟩
  | .local _ .vmem, ⟨17, _⟩ => ⟨S512x1024, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c4_i32 : BitVec 32 := 4#32
  let v785 : BitVec 32 := Scalar.muli arg1 c4_i32
  let c0_i32 : BitVec 32 := 0#32
  let v786 : BitVec 32 := Scalar.addi v785 c0_i32
  let c128_i32 : BitVec 32 := 128#32
  let v787 : BitVec 32 := Scalar.muli v786 c128_i32
  v787
def k0_off1 (i : grid0.Coords) (c0_i32 : BitVec 32) : Fin 3 → Nat :=
  let c0_92 : Index := 0#32
  let arg1 : BitVec 32 := BitVec.ofNat 32 (i 1).val
  let c4_i32 : BitVec 32 := 4#32
  let v785 : BitVec 32 := Scalar.muli arg1 c4_i32
  let v786 : BitVec 32 := Scalar.addi v785 c0_i32
  let c128_i32 : BitVec 32 := 128#32
  let v787 : BitVec 32 := Scalar.muli v786 c128_i32
  let v788 : BitVec 32 := v787
  let v809 : Index := Scalar.indexCast v788
  let c0_93 : Index := 0#32
  ![0, v809.toNat, 0]
def k0_mult2 (i : grid0.Coords) : BitVec 32 :=
  let arg1 : BitVec 32 := BitVec.ofNat 32 (i 1).val
  let c4_i32_97 : BitVec 32 := 4#32
  let v817 : BitVec 32 := Scalar.muli arg1 c4_i32_97
  let c0_i32_98 : BitVec 32 := 0#32
  let v818 : BitVec 32 := Scalar.addi v817 c0_i32_98
  let c128_i32_99 : BitVec 32 := 128#32
  let v819 : BitVec 32 := Scalar.muli v818 c128_i32_99
  v819
def k0_off2 (i : grid0.Coords) (c0_i32_98 : BitVec 32) : Fin 3 → Nat :=
  let c0_106 : Index := 0#32
  let arg1 : BitVec 32 := BitVec.ofNat 32 (i 1).val
  let c4_i32_97 : BitVec 32 := 4#32
  let v817 : BitVec 32 := Scalar.muli arg1 c4_i32_97
  let v818 : BitVec 32 := Scalar.addi v817 c0_i32_98
  let c128_i32_99 : BitVec 32 := 128#32
  let v819 : BitVec 32 := Scalar.muli v818 c128_i32_99
  let v820 : BitVec 32 := v819
  let v841 : Index := Scalar.indexCast v820
  let c64 : Index := 64#32
  ![0, v841.toNat, 64]
def k0_mult3 (i : grid0.Coords) : BitVec 32 :=
  let arg1 : BitVec 32 := BitVec.ofNat 32 (i 1).val
  let c4_i32_110 : BitVec 32 := 4#32
  let v849 : BitVec 32 := Scalar.muli arg1 c4_i32_110
  let c1_i32_111 : BitVec 32 := 1#32
  let v850 : BitVec 32 := Scalar.addi v849 c1_i32_111
  let c128_i32_112 : BitVec 32 := 128#32
  let v851 : BitVec 32 := Scalar.muli v850 c128_i32_112
  v851
def k0_mult4 (i : grid0.Coords) : BitVec 32 :=
  let arg1 : BitVec 32 := BitVec.ofNat 32 (i 1).val
  let c4_i32_124 : BitVec 32 := 4#32
  let v881 : BitVec 32 := Scalar.muli arg1 c4_i32_124
  let c1_i32_125 : BitVec 32 := 1#32
  let v882 : BitVec 32 := Scalar.addi v881 c1_i32_125
  let c128_i32_126 : BitVec 32 := 128#32
  let v883 : BitVec 32 := Scalar.muli v882 c128_i32_126
  v883
def k0_mult5 (i : grid0.Coords) : BitVec 32 :=
  let arg1 : BitVec 32 := BitVec.ofNat 32 (i 1).val
  let c4_i32_151 : BitVec 32 := 4#32
  let v985 : BitVec 32 := Scalar.muli arg1 c4_i32_151
  let c2_i32 : BitVec 32 := 2#32
  let v986 : BitVec 32 := Scalar.addi v985 c2_i32
  let c128_i32_152 : BitVec 32 := 128#32
  let v987 : BitVec 32 := Scalar.muli v986 c128_i32_152
  v987
def k0_mult6 (i : grid0.Coords) : BitVec 32 :=
  let arg1 : BitVec 32 := BitVec.ofNat 32 (i 1).val
  let c4_i32_176 : BitVec 32 := 4#32
  let v1089 : BitVec 32 := Scalar.muli arg1 c4_i32_176
  let c2_i32_177 : BitVec 32 := 2#32
  let v1090 : BitVec 32 := Scalar.addi v1089 c2_i32_177
  let c128_i32_178 : BitVec 32 := 128#32
  let v1091 : BitVec 32 := Scalar.muli v1090 c128_i32_178
  v1091
def k0_mult7 (i : grid0.Coords) : BitVec 32 :=
  let arg1 : BitVec 32 := BitVec.ofNat 32 (i 1).val
  let c4_i32_208 : BitVec 32 := 4#32
  let v1193 : BitVec 32 := Scalar.muli arg1 c4_i32_208
  let c3_i32 : BitVec 32 := 3#32
  let v1194 : BitVec 32 := Scalar.addi v1193 c3_i32
  let c128_i32_209 : BitVec 32 := 128#32
  let v1195 : BitVec 32 := Scalar.muli v1194 c128_i32_209
  v1195
def k0_mult8 (i : grid0.Coords) : BitVec 32 :=
  let arg1 : BitVec 32 := BitVec.ofNat 32 (i 1).val
  let c4_i32_239 : BitVec 32 := 4#32
  let v1297 : BitVec 32 := Scalar.muli arg1 c4_i32_239
  let c3_i32_240 : BitVec 32 := 3#32
  let v1298 : BitVec 32 := Scalar.addi v1297 c3_i32_240
  let c128_i32_241 : BitVec 32 := 128#32
  let v1299 : BitVec 32 := Scalar.muli v1298 c128_i32_241
  v1299
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2560x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2560x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2304x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8 : Shape := ⟨1, ![8]⟩
abbrev S4096x1024 : Shape := ⟨2, ![4096, 1024]⟩
abbrev S4096x512 : Shape := ⟨2, ![4096, 512]⟩
abbrev S4096x128 : Shape := ⟨2, ![4096, 128]⟩
abbrev S2x512x1024 : Shape := ⟨3, ![2, 512, 1024]⟩
abbrev S2x512x512 : Shape := ⟨3, ![2, 512, 512]⟩
abbrev S2x2x512x2x64 : Shape := ⟨5, ![2, 2, 512, 2, 64]⟩
abbrev S2x2048x8x128 : Shape := ⟨4, ![2, 2048, 8, 128]⟩
abbrev S2x512x8x128 : Shape := ⟨4, ![2, 512, 8, 128]⟩
abbrev S2x2560x8x128 : Shape := ⟨4, ![2, 2560, 8, 128]⟩
abbrev S2x2048x8x64 : Shape := ⟨4, ![2, 2048, 8, 64]⟩
abbrev S2x512x8x64 : Shape := ⟨4, ![2, 512, 8, 64]⟩
abbrev S2x2560x8x64 : Shape := ⟨4, ![2, 2560, 8, 64]⟩
abbrev S2x8x2048x2560 : Shape := ⟨4, ![2, 8, 2048, 2560]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x2x64 : Shape := ⟨4, ![2, 2048, 2, 64]⟩
abbrev S2x2304x2x64 : Shape := ⟨4, ![2, 2304, 2, 64]⟩
abbrev S2x18x128x2x64 : Shape := ⟨5, ![2, 18, 128, 2, 64]⟩
abbrev S2x16x128x2x64 : Shape := ⟨5, ![2, 16, 128, 2, 64]⟩
abbrev S2x16x384x2x64 : Shape := ⟨5, ![2, 16, 384, 2, 64]⟩
abbrev S2x1x512x2x64 : Shape := ⟨5, ![2, 1, 512, 2, 64]⟩
abbrev S2x512x2x64 : Shape := ⟨4, ![2, 512, 2, 64]⟩
abbrev S2x16x128x2x4x64 : Shape := ⟨6, ![2, 16, 128, 2, 4, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S128x384 : Shape := ⟨2, ![128, 384]⟩
abbrev S1x128x384 : Shape := ⟨3, ![1, 128, 384]⟩
abbrev S16x128x384 : Shape := ⟨3, ![16, 128, 384]⟩
abbrev S2x16x2x384x128x4 : Shape := ⟨6, ![2, 16, 2, 384, 128, 4]⟩
abbrev S2x16x2x4x128x384 : Shape := ⟨6, ![2, 16, 2, 4, 128, 384]⟩
abbrev S1x16x1x1x128x384 : Shape := ⟨6, ![1, 16, 1, 1, 128, 384]⟩
abbrev S2x2x512x16x128x4 : Shape := ⟨6, ![2, 2, 512, 16, 128, 4]⟩
abbrev S2x16x2x4x128x512 : Shape := ⟨6, ![2, 16, 2, 4, 128, 512]⟩
abbrev S2x16x2x4x128x896 : Shape := ⟨6, ![2, 16, 2, 4, 128, 896]⟩
abbrev S2x4 : Shape := ⟨2, ![2, 4]⟩
abbrev S2x4x1x1 : Shape := ⟨4, ![2, 4, 1, 1]⟩
abbrev S2x16x2x4x128x1 : Shape := ⟨6, ![2, 16, 2, 4, 128, 1]⟩
abbrev S2x16x2x4x128x897 : Shape := ⟨6, ![2, 16, 2, 4, 128, 897]⟩
abbrev S2x16x2x4x128 : Shape := ⟨5, ![2, 16, 2, 4, 128]⟩
abbrev S2x16x2x64x4x128 : Shape := ⟨6, ![2, 16, 2, 64, 4, 128]⟩
abbrev S2x2x64x16x4x128 : Shape := ⟨6, ![2, 2, 64, 16, 4, 128]⟩

abbrev nBuf : Space → Nat
  | .hbm => 145
  | .vmem => 0
  | .smem => 0
  | _ => 0

abbrev hbmTy0_0 (i : Nat) : BufTy := match i % 128 with
  | 0 => ⟨S8, .f32⟩
  | 1 => ⟨S4096x1024, .bf16⟩
  | 2 => ⟨S4096x1024, .bf16⟩
  | 3 => ⟨S4096x512, .bf16⟩
  | 4 => ⟨S4096x512, .bf16⟩
  | 5 => ⟨S4096x128, .bf16⟩
  | 6 => ⟨S4096x128, .bf16⟩
  | 7 => ⟨S2x512x1024, .bf16⟩
  | 8 => ⟨S2x512x512, .bf16⟩
  | 9 => ⟨S2x2x512x2x64, .f32⟩
  | 10 => ⟨S2x2x512x2x64, .f32⟩
  | 11 => ⟨S4096x1024, .f32⟩
  | 12 => ⟨S2x2048x8x128, .f32⟩
  | 13 => ⟨S4096x1024, .f32⟩
  | 14 => ⟨S2x2048x8x128, .f32⟩
  | 15 => ⟨S2x512x1024, .f32⟩
  | 16 => ⟨S2x512x8x128, .f32⟩
  | 17 => ⟨S2x2560x8x128, .f32⟩
  | 18 => ⟨S4096x512, .f32⟩
  | 19 => ⟨S2x2048x8x64, .f32⟩
  | 20 => ⟨S2x512x512, .f32⟩
  | 21 => ⟨S2x512x8x64, .f32⟩
  | 22 => ⟨S2x2560x8x64, .f32⟩
  | 23 => ⟨S2x8x2048x2560, .f32⟩
  | 24 => ⟨S_, .f32⟩
  | 25 => ⟨S2x8x2048, .f32⟩
  | 26 => ⟨S_, .f32⟩
  | 27 => ⟨S2x8x2048, .f32⟩
  | 28 => ⟨S2x8x2048, .f32⟩
  | 29 => ⟨S2x8x2048x1, .f32⟩
  | 30 => ⟨S2x8x2048x2560, .f32⟩
  | 31 => ⟨S2x8x2048x2560, .f32⟩
  | 32 => ⟨S2x8x2048x2560, .f32⟩
  | 33 => ⟨S_, .f32⟩
  | 34 => ⟨S2x8x2048, .f32⟩
  | 35 => ⟨S2x8x2048x1, .f32⟩
  | 36 => ⟨S2x8x2048x2560, .f32⟩
  | 37 => ⟨S2x8x2048x2560, .f32⟩
  | 38 => ⟨S2x8x64x2048, .f32⟩
  | 39 => ⟨S2x2048x8x64, .f32⟩
  | 40 => ⟨S4096x128, .f32⟩
  | 41 => ⟨S2x2048x2x64, .f32⟩
  | 42 => ⟨S_, .i32⟩
  | 43 => ⟨S_, .f32⟩
  | 44 => ⟨S2x2304x2x64, .f32⟩
  | 45 => ⟨S2x18x128x2x64, .f32⟩
  | 46 => ⟨S4096x128, .f32⟩
  | 47 => ⟨S2x2048x2x64, .f32⟩
  | 48 => ⟨S_, .i32⟩
  | 49 => ⟨S_, .f32⟩
  | 50 => ⟨S2x2304x2x64, .f32⟩
  | 51 => ⟨S2x18x128x2x64, .f32⟩
  | 52 => ⟨S2x16x128x2x64, .f32⟩
  | 53 => ⟨S2x16x128x2x64, .f32⟩
  | 54 => ⟨S2x16x128x2x64, .f32⟩
  | 55 => ⟨S2x16x384x2x64, .f32⟩
  | 56 => ⟨S2x16x128x2x64, .f32⟩
  | 57 => ⟨S2x16x128x2x64, .f32⟩
  | 58 => ⟨S2x16x128x2x64, .f32⟩
  | 59 => ⟨S2x16x384x2x64, .f32⟩
  | 60 => ⟨S2x1x512x2x64, .f32⟩
  | 61 => ⟨S2x512x2x64, .f32⟩
  | 62 => ⟨S2x1x512x2x64, .f32⟩
  | 63 => ⟨S2x512x2x64, .f32⟩
  | 64 => ⟨S4096x512, .f32⟩
  | 65 => ⟨S2x16x128x2x4x64, .f32⟩
  | 66 => ⟨S128, .i32⟩
  | 67 => ⟨S128x1, .i32⟩
  | 68 => ⟨S_, .i32⟩
  | 69 => ⟨S128x1, .i32⟩
  | 70 => ⟨S128x1, .i32⟩
  | 71 => ⟨S384, .i32⟩
  | 72 => ⟨S1x384, .i32⟩
  | 73 => ⟨S16, .i32⟩
  | 74 => ⟨S16x1x1, .i32⟩
  | 75 => ⟨S_, .i32⟩
  | 76 => ⟨S16x1x1, .i32⟩
  | 77 => ⟨S16x1x1, .i32⟩
  | 78 => ⟨S_, .i32⟩
  | 79 => ⟨S16x1x1, .i32⟩
  | 80 => ⟨S16x1x1, .i32⟩
  | 81 => ⟨S1x1x384, .i32⟩
  | 82 => ⟨S16x1x384, .i32⟩
  | 83 => ⟨S16x1x384, .i32⟩
  | 84 => ⟨S16x1x384, .i32⟩
  | 85 => ⟨S128x384, .i32⟩
  | 86 => ⟨S128x384, .i32⟩
  | 87 => ⟨S128x384, .i32⟩
  | 88 => ⟨S128x384, .i32⟩
  | 89 => ⟨S_, .i32⟩
  | 90 => ⟨S128x384, .i32⟩
  | 91 => ⟨S128x384, .i1⟩
  | 92 => ⟨S1x128x384, .i1⟩
  | 93 => ⟨S_, .i32⟩
  | 94 => ⟨S16x1x384, .i32⟩
  | 95 => ⟨S16x1x384, .i1⟩
  | 96 => ⟨S16x128x384, .i1⟩
  | 97 => ⟨S16x128x384, .i1⟩
  | 98 => ⟨S16x128x384, .i1⟩
  | 99 => ⟨S_, .i32⟩
  | 100 => ⟨S16x1x384, .i32⟩
  | 101 => ⟨S16x1x384, .i1⟩
  | 102 => ⟨S16x128x384, .i1⟩
  | 103 => ⟨S16x128x384, .i1⟩
  | 104 => ⟨S2x16x2x384x128x4, .f32⟩
  | 105 => ⟨S2x16x2x4x128x384, .f32⟩
  | 106 => ⟨S1x16x1x1x128x384, .i1⟩
  | 107 => ⟨S_, .f32⟩
  | 108 => ⟨S_, .f32⟩
  | 109 => ⟨S2x16x2x4x128x384, .i1⟩
  | 110 => ⟨S2x16x2x4x128x384, .f32⟩
  | 111 => ⟨S2x16x2x4x128x384, .f32⟩
  | 112 => ⟨S2x2x512x16x128x4, .f32⟩
  | 113 => ⟨S2x16x2x4x128x512, .f32⟩
  | 114 => ⟨S2x16x2x4x128x896, .f32⟩
  | 115 => ⟨S2x4, .f32⟩
  | 116 => ⟨S2x4x1x1, .f32⟩
  | 117 => ⟨S2x16x2x4x128x1, .f32⟩
  | 118 => ⟨S2x16x2x4x128x897, .f32⟩
  | 119 => ⟨S_, .f32⟩
  | 120 => ⟨S2x16x2x4x128, .f32⟩
  | 121 => ⟨S_, .f32⟩
  | 122 => ⟨S2x16x2x4x128, .f32⟩
  | 123 => ⟨S2x16x2x4x128, .f32⟩
  | 124 => ⟨S2x16x2x4x128x1, .f32⟩
  | 125 => ⟨S2x16x2x4x128x897, .f32⟩
  | 126 => ⟨S2x16x2x4x128x897, .f32⟩
  | 127 => ⟨S2x16x2x4x128x897, .f32⟩
  | _ => ⟨S8, .f32⟩

abbrev hbmTy0_1 (i : Nat) : BufTy := match i % 128 with
  | 0 => ⟨S_, .f32⟩
  | 1 => ⟨S2x16x2x4x128, .f32⟩
  | 2 => ⟨S2x16x2x4x128x1, .f32⟩
  | 3 => ⟨S2x16x2x4x128x897, .f32⟩
  | 4 => ⟨S2x16x2x4x128x897, .f32⟩
  | 5 => ⟨S2x16x2x4x128x896, .f32⟩
  | 6 => ⟨S2x16x2x4x128x384, .f32⟩
  | 7 => ⟨S2x16x2x64x4x128, .f32⟩
  | 8 => ⟨S2x16x128x2x4x64, .f32⟩
  | 9 => ⟨S2x16x2x4x128x512, .f32⟩
  | 10 => ⟨S2x2x64x16x4x128, .f32⟩
  | 11 => ⟨S2x16x128x2x4x64, .f32⟩
  | 12 => ⟨S2x16x128x2x4x64, .f32⟩
  | 13 => ⟨S4096x512, .f32⟩
  | 14 => ⟨S4096x512, .f32⟩
  | 15 => ⟨S4096x1024, .f32⟩
  | 16 => ⟨S4096x1024, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_2 : Ref sig .tc := ⟨.hbm, 48, rfl⟩
abbrev main_call1_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_4 : Ref sig .tc := ⟨.hbm, 75, rfl⟩
abbrev main_v56 : Ref sig .tc := ⟨.hbm, 76, rfl⟩
abbrev main_v57 : Ref sig .tc := ⟨.hbm, 77, rfl⟩
abbrev main_c_5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_10 : Ref sig .tc := ⟨.hbm, 119, rfl⟩
abbrev main_v91 : Ref sig .tc := ⟨.hbm, 120, rfl⟩
abbrev main_cst_11 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩

abbrev nD : Nat := 1
abbrev τ : Topo := Topo.v7x

variable {F : FTy → Type} [FloatOps F]
-- ==== Kernel2.lean ====
abbrev S16x1024x1024 : Shape := ⟨3, ![16, 1024, 1024]⟩
abbrev S16x512x1024 : Shape := ⟨3, ![16, 512, 1024]⟩
abbrev S16x1024x1 : Shape := ⟨3, ![16, 1024, 1]⟩
abbrev S16x512x1 : Shape := ⟨3, ![16, 512, 1]⟩
abbrev S4x16x1024x2048 : Shape := ⟨4, ![4, 16, 1024, 2048]⟩
abbrev S4x16x2048x1024 : Shape := ⟨4, ![4, 16, 2048, 1024]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x512x1 : Shape := ⟨3, ![1, 512, 1]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S512x1024 : Shape := ⟨2, ![512, 1024]⟩
abbrev S1x256x1024 : Shape := ⟨3, ![1, 256, 1024]⟩
abbrev S256x1024 : Shape := ⟨2, ![256, 1024]⟩
abbrev S1024x512 : Shape := ⟨2, ![1024, 512]⟩
abbrev S256x512 : Shape := ⟨2, ![256, 512]⟩
abbrev S1024x1 : Shape := ⟨2, ![1024, 1]⟩
abbrev S512x1 : Shape := ⟨2, ![512, 1]⟩

abbrev nBuf : Space → Nat
  | .hbm => 9
  | .vmem => 20
  | .smem => 0
  | _ => 0

abbrev bufTy : (tb : Table) → Fin (tcTables nBuf tb) → BufTy
  | .hbm, ⟨0, _⟩ => ⟨S16x1024x1024, .bf16⟩
  | .hbm, ⟨1, _⟩ => ⟨S16x512x1024, .bf16⟩
  | .hbm, ⟨2, _⟩ => ⟨S16x1024x1, .f32⟩
  | .hbm, ⟨3, _⟩ => ⟨S16x512x1, .f32⟩
  | .hbm, ⟨4, _⟩ => ⟨S4x16x1024x2048, .f32⟩
  | .hbm, ⟨5, _⟩ => ⟨S4x16x1024x2048, .f32⟩
  | .hbm, ⟨6, _⟩ => ⟨S4x16x2048x1024, .f32⟩
  | .hbm, ⟨7, _⟩ => ⟨S16x1024x1024, .bf16⟩
  | .hbm, ⟨8, _⟩ => ⟨S16x512x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1, .f32⟩
  | .local _ .vmem, ⟨5, _⟩ => ⟨S1x1024x1, .f32⟩
  | .local _ .vmem, ⟨6, _⟩ => ⟨S1x512x1, .f32⟩
  | .local _ .vmem, ⟨7, _⟩ => ⟨S1x512x1, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1x1024x512, .f32⟩
  | .local _ .vmem, ⟨12, _⟩ => ⟨S1x1x512x1024, .f32⟩
  | .local _ .vmem, ⟨13, _⟩ => ⟨S1x1x512x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1024x1024, .f32⟩
  | .local _ .vmem, ⟨19, _⟩ => ⟨S512x1024, .f32⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v132 : BitVec 1 := Scalar.cmpi .eq arg1 c3_i32
  let v133 : BitVec 32 := Scalar.extui v132
  let c0_i32_86 : BitVec 32 := 0#32
  let v134 : BitVec 1 := Scalar.cmpi .ne v133 c0_i32_86
  v134

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16x1024x1024 : Shape := ⟨3, ![16, 1024, 1024]⟩
abbrev S16x512x1024 : Shape := ⟨3, ![16, 512, 1024]⟩
abbrev S16x1024x1 : Shape := ⟨3, ![16, 1024, 1]⟩
abbrev S16x512x1 : Shape := ⟨3, ![16, 512, 1]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x512x2048 : Shape := ⟨3, ![16, 512, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x512x1024, .bf16⟩
  | .hbm, ⟨2, _⟩ => ⟨S16x1024x1, .f32⟩
  | .hbm, ⟨3, _⟩ => ⟨S16x512x1, .f32⟩
  | .hbm, ⟨4, _⟩ => ⟨S4x16x1024x2048, .f32⟩
  | .hbm, ⟨5, _⟩ => ⟨S4x16x1024x2048, .f32⟩
  | .hbm, ⟨6, _⟩ => ⟨S4x16x2048x1024, .f32⟩
  | .hbm, ⟨7, _⟩ => ⟨S16x1024x1024, .f32⟩
  | .hbm, ⟨8, _⟩ => ⟨S1x16x1024x2048, .f32⟩
  | .hbm, ⟨9, _⟩ => ⟨S16x1024x2048, .f32⟩
  | .hbm, ⟨10, _⟩ => ⟨S16x1024x2048, .f32⟩
  | .hbm, ⟨11, _⟩ => ⟨S16x1024x2048, .f32⟩
  | .hbm, ⟨12, _⟩ => ⟨S16x1024x2048, .f32⟩
  | .hbm, ⟨13, _⟩ => ⟨S_, .f32⟩
  | .hbm, ⟨14, _⟩ => ⟨S16x1024x2048, .f32⟩
  | .hbm, ⟨15, _⟩ => ⟨S16x1024x2048, .f32⟩
  | .hbm, ⟨16, _⟩ => ⟨S_, .f32⟩
  | .hbm, ⟨17, _⟩ => ⟨S16x1024x2048, .f32⟩
  | .hbm, ⟨18, _⟩ => ⟨S16x1024x2048, .f32⟩
  | .hbm, ⟨19, _⟩ => ⟨S16x1024x2048, .f32⟩
  | .hbm, ⟨20, _⟩ => ⟨S1x16x1024x2048, .f32⟩
  | .hbm, ⟨21, _⟩ => ⟨S16x1024x2048, .f32⟩
  | .hbm, ⟨22, _⟩ => ⟨S16x1024x2048, .f32⟩
  | .hbm, ⟨23, _⟩ => ⟨S16x1024x2048, .f32⟩
  | .hbm, ⟨24, _⟩ => ⟨S1x16x2048x1024, .f32⟩
  | .hbm, ⟨25, _⟩ => ⟨S16x2048x1024, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S16x1024x1024, .bf16⟩
  | .hbm, ⟨30, _⟩ => ⟨S16x512x1024, .f32⟩
  | .hbm, ⟨31, _⟩ => ⟨S1x16x1024x2048, .f32⟩
  | .hbm, ⟨32, _⟩ => ⟨S16x1024x2048, .f32⟩
  | .hbm, ⟨33, _⟩ => ⟨S16x512x2048, .f32⟩
  | .hbm, ⟨34, _⟩ => ⟨S16x512x2048, .f32⟩
  | .hbm, ⟨35, _⟩ => ⟨S16x512x2048, .f32⟩
  | .hbm, ⟨36, _⟩ => ⟨S_, .f32⟩
  | .hbm, ⟨37, _⟩ => ⟨S16x512x2048, .f32⟩
  | .hbm, ⟨38, _⟩ => ⟨S16x512x2048, .f32⟩
  | .hbm, ⟨39, _⟩ => ⟨S_, .f32⟩
  | .hbm, ⟨40, _⟩ => ⟨S16x512x2048, .f32⟩
  | .hbm, ⟨41, _⟩ => ⟨S16x512x2048, .f32⟩
  | .hbm, ⟨42, _⟩ => ⟨S16x512x2048, .f32⟩
  | .hbm, ⟨43, _⟩ => ⟨S1x16x1024x2048, .f32⟩
  | .hbm, ⟨44, _⟩ => ⟨S16x1024x2048, .f32⟩
  | .hbm, ⟨45, _⟩ => ⟨S16x512x2048, .f32⟩
  | .hbm, ⟨46, _⟩ => ⟨S16x512x2048, .f32⟩
  | .hbm, ⟨47, _⟩ => ⟨S1x16x2048x1024, .f32⟩
  | .hbm, ⟨48, _⟩ => ⟨S16x2048x1024, .f32⟩
  | .hbm, ⟨49, _⟩ => ⟨S16x512x1024, .f32⟩
  | .hbm, ⟨50, _⟩ => ⟨S16x512x1024, .f32⟩
  | .hbm, ⟨51, _⟩ => ⟨S16x512x1024, .f32⟩
  | .hbm, ⟨52, _⟩ => ⟨S16x512x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S3x6x1024 : Shape := ⟨3, ![3, 6, 1024]⟩
abbrev S1024x5120 : Shape := ⟨2, ![1024, 5120]⟩
abbrev S4096x5120 : Shape := ⟨2, ![4096, 5120]⟩
abbrev S512x1024 : Shape := ⟨2, ![512, 1024]⟩
abbrev S1x6x1024 : Shape := ⟨3, ![1, 6, 1024]⟩
abbrev S512x5120 : Shape := ⟨2, ![512, 5120]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x6x1024, .f32⟩
  | .hbm, ⟨3, _⟩ => ⟨S1024x5120, .bf16⟩
  | .hbm, ⟨4, _⟩ => ⟨S4096x5120, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x5120, .bf16⟩
  | .local _ .vmem, ⟨6, _⟩ => ⟨S512x5120, .f32⟩
  | .local _ .vmem, ⟨7, _⟩ => ⟨S512x5120, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x1024 : Shape := ⟨2, ![4096, 1024]⟩
abbrev S1x1024 : Shape := ⟨2, ![1, 1024]⟩
abbrev S3x6x1024 : Shape := ⟨3, ![3, 6, 1024]⟩
abbrev S1024x5120 : Shape := ⟨2, ![1024, 5120]⟩
abbrev S2x2048x1024 : Shape := ⟨3, ![2, 2048, 1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩
abbrev S2x2048x5120 : Shape := ⟨3, ![2, 2048, 5120]⟩
abbrev S4096x5120 : Shape := ⟨2, ![4096, 5120]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x6x1024, .f32⟩
  | .hbm, ⟨3, _⟩ => ⟨S1024x5120, .bf16⟩
  | .hbm, ⟨4, _⟩ => ⟨S2x2048x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S1024x5120, .f32⟩
  | .hbm, ⟨36, _⟩ => ⟨S2x2048x5120, .f32⟩
  | .hbm, ⟨37, _⟩ => ⟨S4096x5120, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S3x6x1024 : Shape := ⟨3, ![3, 6, 1024]⟩
abbrev S1024x1536 : Shape := ⟨2, ![1024, 1536]⟩
abbrev S4096x1536 : Shape := ⟨2, ![4096, 1536]⟩
abbrev S512x1024 : Shape := ⟨2, ![512, 1024]⟩
abbrev S1x6x1024 : Shape := ⟨3, ![1, 6, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x6x1024, .f32⟩
  | .hbm, ⟨3, _⟩ => ⟨S1024x1536, .bf16⟩
  | .hbm, ⟨4, _⟩ => ⟨S4096x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S1x1024 : Shape := ⟨2, ![1, 1024]⟩
abbrev S3x6x1024 : Shape := ⟨3, ![3, 6, 1024]⟩
abbrev S1024x1536 : Shape := ⟨2, ![1024, 1536]⟩
abbrev S2x2048x1024 : Shape := ⟨3, ![2, 2048, 1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩
abbrev S2x2048x1536 : Shape := ⟨3, ![2, 2048, 1536]⟩
abbrev S4096x1536 : Shape := ⟨2, ![4096, 1536]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x6x1024, .f32⟩
  | .hbm, ⟨3, _⟩ => ⟨S1024x1536, .bf16⟩
  | .hbm, ⟨4, _⟩ => ⟨S2x2048x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S1024x1536, .f32⟩
  | .hbm, ⟨36, _⟩ => ⟨S2x2048x1536, .f32⟩
  | .hbm, ⟨37, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S3x6x1024 : Shape := ⟨3, ![3, 6, 1024]⟩
abbrev S1x1024 : Shape := ⟨2, ![1, 1024]⟩
abbrev S16x1024 : Shape := ⟨2, ![16, 1024]⟩
abbrev S16x4096 : Shape := ⟨2, ![16, 4096]⟩
abbrev S1x6x1024 : Shape := ⟨3, ![1, 6, 1024]⟩
abbrev S1x1x1024 : Shape := ⟨3, ![1, 1, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S3x6x1024, .f32⟩
  | .hbm, ⟨4, _⟩ => ⟨S1x1024, .f32⟩
  | .hbm, ⟨5, _⟩ => ⟨S16x1024, .bf16⟩
  | .hbm, ⟨6, _⟩ => ⟨S4096x1024, .f32⟩
  | .hbm, ⟨7, _⟩ => ⟨S4096x1024, .bf16⟩
  | .hbm, ⟨8, _⟩ => ⟨S16x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S16x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S16x1024, .f32⟩
  | .local _ .vmem, ⟨14, _⟩ => ⟨S16x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S4096x1024 : Shape := ⟨2, ![4096, 1024]⟩
abbrev S1024x1024 : Shape := ⟨2, ![1024, 1024]⟩
abbrev S3x6x1024 : Shape := ⟨3, ![3, 6, 1024]⟩
abbrev S1x1024 : Shape := ⟨2, ![1, 1024]⟩
abbrev S16x1024 : Shape := ⟨2, ![16, 1024]⟩
abbrev S2x1x1024 : Shape := ⟨3, ![2, 1, 1024]⟩
abbrev S2x1024 : Shape := ⟨2, ![2, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩
abbrev S2x2048x16 : Shape := ⟨3, ![2, 2048, 16]⟩
abbrev S4096x16 : Shape := ⟨2, ![4096, 16]⟩
abbrev S16x4096 : Shape := ⟨2, ![16, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S3x6x1024, .f32⟩
  | .hbm, ⟨4, _⟩ => ⟨S1x1024, .f32⟩
  | .hbm, ⟨5, _⟩ => ⟨S16x1024, .bf16⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x2048x1024, .f32⟩
  | .hbm, ⟨13, _⟩ => ⟨S2x1x1024, .f32⟩
  | .hbm, ⟨14, _⟩ => ⟨S2x2048x1024, .bf16⟩
  | .hbm, ⟨15, _⟩ => ⟨S2x2048x1024, .f32⟩
  | .hbm, ⟨16, _⟩ => ⟨S1024x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S2x2048x1024, .f32⟩
  | .hbm, ⟨33, _⟩ => ⟨S2x2048x1024, .f32⟩
  | .hbm, ⟨34, _⟩ => ⟨S1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S2x1x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S16x1024, .f32⟩
  | .hbm, ⟨48, _⟩ => ⟨S2x2048x16, .f32⟩
  | .hbm, ⟨49, _⟩ => ⟨S_, .f32⟩
  | .hbm, ⟨50, _⟩ => ⟨S2x2048, .f32⟩
  | .hbm, ⟨51, _⟩ => ⟨S_, .f32⟩
  | .hbm, ⟨52, _⟩ => ⟨S2x2048, .f32⟩
  | .hbm, ⟨53, _⟩ => ⟨S2x2048, .f32⟩
  | .hbm, ⟨54, _⟩ => ⟨S2x2048x1, .f32⟩
  | .hbm, ⟨55, _⟩ => ⟨S2x2048x16, .f32⟩
  | .hbm, ⟨56, _⟩ => ⟨S2x2048x16, .f32⟩
  | .hbm, ⟨57, _⟩ => ⟨S2x2048x16, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x16, .f32⟩
  | .hbm, ⟨62, _⟩ => ⟨S2x2048x16, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S4096x16, .f32⟩
  | .hbm, ⟨67, _⟩ => ⟨S16x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel6.lean ====
abbrev S16x4096 : Shape := ⟨2, ![16, 4096]⟩
abbrev S16x512x1024 : Shape := ⟨3, ![16, 512, 1024]⟩
abbrev S4096x1024 : Shape := ⟨2, ![4096, 1024]⟩
abbrev S3x6x1024 : Shape := ⟨3, ![3, 6, 1024]⟩
abbrev S1x1024 : Shape := ⟨2, ![1, 1024]⟩
abbrev S16x512 : Shape := ⟨2, ![16, 512]⟩
abbrev S16x256x1024 : Shape := ⟨3, ![16, 256, 1024]⟩
abbrev S512x1024 : Shape := ⟨2, ![512, 1024]⟩
abbrev S1x6x1024 : Shape := ⟨3, ![1, 6, 1024]⟩
abbrev S256x512 : Shape := ⟨2, ![256, 512]⟩
abbrev S1x512 : Shape := ⟨2, ![1, 512]⟩
abbrev S512x512 : Shape := ⟨2, ![512, 512]⟩
abbrev S2x256x1024 : Shape := ⟨3, ![2, 256, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16x4096, .i32⟩
  | .hbm, ⟨1, _⟩ => ⟨S16x512x1024, .bf16⟩
  | .hbm, ⟨2, _⟩ => ⟨S4096x1024, .f32⟩
  | .hbm, ⟨3, _⟩ => ⟨S3x6x1024, .f32⟩
  | .hbm, ⟨4, _⟩ => ⟨S1x1024, .f32⟩
  | .hbm, ⟨5, _⟩ => ⟨S4096x1024, .f32⟩
  | .local _ .vmem, ⟨0, _⟩ => ⟨S16x512, .i32⟩
  | .local _ .vmem, ⟨1, _⟩ => ⟨S16x512, .i32⟩
  | .local _ .vmem, ⟨2, _⟩ => ⟨S16x256x1024, .bf16⟩
  | .local _ .vmem, ⟨3, _⟩ => ⟨S16x256x1024, .bf16⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16x4096 : Shape := ⟨2, ![16, 4096]⟩
abbrev S16x512x1024 : Shape := ⟨3, ![16, 512, 1024]⟩
abbrev S4096x1024 : Shape := ⟨2, ![4096, 1024]⟩
abbrev S3x6x1024 : Shape := ⟨3, ![3, 6, 1024]⟩
abbrev S1x1024 : Shape := ⟨2, ![1, 1024]⟩
abbrev S2x2048x1024 : Shape := ⟨3, ![2, 2048, 1024]⟩
abbrev S2x1x1024 : Shape := ⟨3, ![2, 1, 1024]⟩
abbrev S2x1024 : Shape := ⟨2, ![2, 1024]⟩
abbrev S16x2x2048x1 : Shape := ⟨4, ![16, 2, 2048, 1]⟩
abbrev S16x2x1x256x1024 : Shape := ⟨5, ![16, 2, 1, 256, 1024]⟩
abbrev S256 : Shape := ⟨1, ![256]⟩
abbrev S1x1x1x256 : Shape := ⟨4, ![1, 1, 1, 256]⟩
abbrev S16x2x2048x256 : Shape := ⟨4, ![16, 2, 2048, 256]⟩
abbrev S16x2x2048x256x1 : Shape := ⟨5, ![16, 2, 2048, 256, 1]⟩
abbrev S_ : Shape := ⟨0, ![]⟩
abbrev S16x2x2048x256x1024 : Shape := ⟨5, ![16, 2, 2048, 256, 1024]⟩
abbrev S16x2x2048x1024 : Shape := ⟨4, ![16, 2, 2048, 1024]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16x512x1024, .bf16⟩
  | .hbm, ⟨2, _⟩ => ⟨S4096x1024, .f32⟩
  | .hbm, ⟨3, _⟩ => ⟨S3x6x1024, .f32⟩
  | .hbm, ⟨4, _⟩ => ⟨S1x1024, .f32⟩
  | .hbm, ⟨5, _⟩ => ⟨S2x2048x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S16x2x2048x1, .i32⟩
  | .hbm, ⟨10, _⟩ => ⟨S16x512x1024, .f32⟩
  | .hbm, ⟨11, _⟩ => ⟨S16x2x1x256x1024, .f32⟩
  | .hbm, ⟨12, _⟩ => ⟨S256, .i32⟩
  | .hbm, ⟨13, _⟩ => ⟨S1x1x1x256, .i32⟩
  | .hbm, ⟨14, _⟩ => ⟨S16x2x2048x256, .i32⟩
  | .hbm, ⟨15, _⟩ => ⟨S16x2x2048x256, .i32⟩
  | .hbm, ⟨16, _⟩ => ⟨S16x2x2048x256, .i1⟩
  | .hbm, ⟨17, _⟩ => ⟨S16x2x2048x256x1, .i1⟩
  | .hbm, ⟨18, _⟩ => ⟨S_, .f32⟩
  | .hbm, ⟨19, _⟩ => ⟨S_, .f32⟩
  | .hbm, ⟨20, _⟩ => ⟨S16x2x2048x256x1024, .i1⟩
  | .hbm, ⟨21, _⟩ => ⟨S16x2x2048x256x1024, .f32⟩
  | .hbm, ⟨22, _⟩ => ⟨S16x2x2048x256x1024, .f32⟩
  | .hbm, ⟨23, _⟩ => ⟨S16x2x2048x256x1024, .f32⟩
  | .hbm, ⟨24, _⟩ => ⟨S_, .f32⟩
  | .hbm, ⟨25, _⟩ => ⟨S16x2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S_, .f32⟩
  | .hbm, ⟨39, _⟩ => ⟨S2x2048x1, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S1024, .f32⟩
  | .hbm, ⟨45, _⟩ => ⟨S1x1x1024, .f32⟩
  | .hbm, ⟨46, _⟩ => ⟨S2x2048x1024, .f32⟩
  | .hbm, ⟨47, _⟩ => ⟨S2x2048x1024, .f32⟩
  | .hbm, ⟨48, _⟩ => ⟨S4096x1024, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel7.lean ====
abbrev S16x8192 : Shape := ⟨2, ![16, 8192]⟩
abbrev S16x1024x1024 : Shape := ⟨3, ![16, 1024, 1024]⟩
abbrev S8192x1024 : Shape := ⟨2, ![8192, 1024]⟩
abbrev S3x6x1024 : Shape := ⟨3, ![3, 6, 1024]⟩
abbrev S1x1024 : Shape := ⟨2, ![1, 1024]⟩
abbrev S16x1024 : Shape := ⟨2, ![16, 1024]⟩
abbrev S16x128x1024 : Shape := ⟨3, ![16, 128, 1024]⟩
abbrev S1024x1024 : Shape := ⟨2, ![1024, 1024]⟩
abbrev S1x6x1024 : Shape := ⟨3, ![1, 6, 1024]⟩
abbrev S16x256 : Shape := ⟨2, ![16, 256]⟩
abbrev S256x1024 : Shape := ⟨2, ![256, 1024]⟩
abbrev S32x256 : Shape := ⟨2, ![32, 256]⟩
abbrev S1x256 : Shape := ⟨2, ![1, 256]⟩
abbrev S512x256 : Shape := ⟨2, ![512, 256]⟩
abbrev S16x32x1024 : Shape := ⟨3, ![16, 32, 1024]⟩
abbrev S512x1024 : Shape := ⟨2, ![512, 1024]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x8192, .i32⟩
  | .hbm, ⟨1, _⟩ => ⟨S16x1024x1024, .bf16⟩
  | .hbm, ⟨2, _⟩ => ⟨S8192x1024, .f32⟩
  | .hbm, ⟨3, _⟩ => ⟨S3x6x1024, .f32⟩
  | .hbm, ⟨4, _⟩ => ⟨S1x1024, .f32⟩
  | .hbm, ⟨5, _⟩ => ⟨S8192x1024, .f32⟩
  | .local _ .vmem, ⟨0, _⟩ => ⟨S16x1024, .i32⟩
  | .local _ .vmem, ⟨1, _⟩ => ⟨S16x1024, .i32⟩
  | .local _ .vmem, ⟨2, _⟩ => ⟨S16x128x1024, .bf16⟩
  | .local _ .vmem, ⟨3, _⟩ => ⟨S16x128x1024, .bf16⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16x8192 : Shape := ⟨2, ![16, 8192]⟩
abbrev S16x1024x1024 : Shape := ⟨3, ![16, 1024, 1024]⟩
abbrev S8192x1024 : Shape := ⟨2, ![8192, 1024]⟩
abbrev S3x6x1024 : Shape := ⟨3, ![3, 6, 1024]⟩
abbrev S1x1024 : Shape := ⟨2, ![1, 1024]⟩
abbrev S32x256x1024 : Shape := ⟨3, ![32, 256, 1024]⟩
abbrev S1x1x1024 : Shape := ⟨3, ![1, 1, 1024]⟩
abbrev S1024 : Shape := ⟨1, ![1024]⟩
abbrev S16x32x256x1 : Shape := ⟨4, ![16, 32, 256, 1]⟩
abbrev S16x32x1x32x1024 : Shape := ⟨5, ![16, 32, 1, 32, 1024]⟩
abbrev S32 : Shape := ⟨1, ![32]⟩
abbrev S1x1x1x32 : Shape := ⟨4, ![1, 1, 1, 32]⟩
abbrev S16x32x256x32 : Shape := ⟨4, ![16, 32, 256, 32]⟩
abbrev S16x32x256x32x1 : Shape := ⟨5, ![16, 32, 256, 32, 1]⟩
abbrev S_ : Shape := ⟨0, ![]⟩
abbrev S16x32x256x32x1024 : Shape := ⟨5, ![16, 32, 256, 32, 1024]⟩
abbrev S16x32x256x1024 : Shape := ⟨4, ![16, 32, 256, 1024]⟩
abbrev S32x256 : Shape := ⟨2, ![32, 256]⟩
abbrev S32x256x1 : Shape := ⟨3, ![32, 256, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x8192, .i32⟩
  | .hbm, ⟨1, _⟩ => ⟨S16x1024x1024, .bf16⟩
  | .hbm, ⟨2, _⟩ => ⟨S8192x1024, .f32⟩
  | .hbm, ⟨3, _⟩ => ⟨S3x6x1024, .f32⟩
  | .hbm, ⟨4, _⟩ => ⟨S1x1024, .f32⟩
  | .hbm, ⟨5, _⟩ => ⟨S32x256x1024, .f32⟩
  | .hbm, ⟨6, _⟩ => ⟨S1x1x1024, .f32⟩
  | .hbm, ⟨7, _⟩ => ⟨S1024, .f32⟩
  | .hbm, ⟨8, _⟩ => ⟨S16x32x256x1, .i32⟩
  | .hbm, ⟨9, _⟩ => ⟨S16x1024x1024, .f32⟩
  | .hbm, ⟨10, _⟩ => ⟨S16x32x1x32x1024, .f32⟩
  | .hbm, ⟨11, _⟩ => ⟨S32, .i32⟩
  | .hbm, ⟨12, _⟩ => ⟨S1x1x1x32, .i32⟩
  | .hbm, ⟨13, _⟩ => ⟨S16x32x256x32, .i32⟩
  | .hbm, ⟨14, _⟩ => ⟨S16x32x256x32, .i32⟩
  | .hbm, ⟨15, _⟩ => ⟨S16x32x256x32, .i1⟩
  | .hbm, ⟨16, _⟩ => ⟨S16x32x256x32x1, .i1⟩
  | .hbm, ⟨17, _⟩ => ⟨S_, .f32⟩
  | .hbm, ⟨18, _⟩ => ⟨S_, .f32⟩
  | .hbm, ⟨19, _⟩ => ⟨S16x32x256x32x1024, .i1⟩
  | .hbm, ⟨20, _⟩ => ⟨S16x32x256x32x1024, .f32⟩
  | .hbm, ⟨21, _⟩ => ⟨S16x32x256x32x1024, .f32⟩
  | .hbm, ⟨22, _⟩ => ⟨S16x32x256x32x1024, .f32⟩
  | .hbm, ⟨23, _⟩ => ⟨S_, .f32⟩
  | .hbm, ⟨24, _⟩ => ⟨S16x32x256x1024, .f32⟩
  | .hbm, ⟨25, _⟩ => ⟨S_, .f32⟩
  | .hbm, ⟨26, _⟩ => ⟨S32x256x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S_, .f32⟩
  | .hbm, ⟨33, _⟩ => ⟨S32x256, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S32x256x1, .f32⟩
  | .hbm, ⟨42, _⟩ => ⟨S32x256x1024, .f32⟩
  | .hbm, ⟨43, _⟩ => ⟨S32x256x1024, .f32⟩
  | .hbm, ⟨44, _⟩ => ⟨S1024, .f32⟩
  | .hbm, ⟨45, _⟩ => ⟨S1x1x1024, .f32⟩
  | .hbm, ⟨46, _⟩ => ⟨S32x256x1024, .f32⟩
  | .hbm, ⟨47, _⟩ => ⟨S32x256x1024, .f32⟩
  | .hbm, ⟨48, _⟩ => ⟨S8192x1024, .f32⟩
  | _, _ => ⟨S16x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel8.lean ====
abbrev S8192x1536 : Shape := ⟨2, ![8192, 1536]⟩
abbrev S8 : Shape := ⟨1, ![8]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S8192x1024 : Shape := ⟨2, ![8192, 1024]⟩
abbrev S32x2x256x256 : Shape := ⟨4, ![32, 2, 256, 256]⟩
abbrev S32x2x256x32 : Shape := ⟨4, ![32, 2, 256, 32]⟩
abbrev S32x2x256x128 : Shape := ⟨4, ![32, 2, 256, 128]⟩
abbrev S1024x1536 : Shape := ⟨2, ![1024, 1536]⟩
abbrev S1024x1024 : Shape := ⟨2, ![1024, 1024]⟩
abbrev S4x2x256x256 : Shape := ⟨4, ![4, 2, 256, 256]⟩
abbrev S4x2x256x32 : Shape := ⟨4, ![4, 2, 256, 32]⟩
abbrev S4x2x256x128 : Shape := ⟨4, ![4, 2, 256, 128]⟩
abbrev S1024x384 : Shape := ⟨2, ![1024, 384]⟩
abbrev S1024x128 : Shape := ⟨2, ![1024, 128]⟩
abbrev S1024 : Shape := ⟨1, ![1024]⟩
abbrev S1024x1 : Shape := ⟨2, ![1024, 1]⟩
abbrev S1024x768 : Shape := ⟨2, ![1024, 768]⟩
abbrev S1024x256 : Shape := ⟨2, ![1024, 256]⟩
abbrev S1024x32 : Shape := ⟨2, ![1024, 32]⟩
abbrev S256x256 : Shape := ⟨2, ![256, 256]⟩
abbrev S1x1x256x256 : Shape := ⟨4, ![1, 1, 256, 256]⟩
abbrev S256x32 : Shape := ⟨2, ![256, 32]⟩
abbrev S1x1x256x32 : Shape := ⟨4, ![1, 1, 256, 32]⟩
abbrev S256x128 : Shape := ⟨2, ![256, 128]⟩
abbrev S1x1x256x128 : Shape := ⟨4, ![1, 1, 256, 128]⟩
abbrev S1024x512 : Shape := ⟨2, ![1024, 512]⟩
abbrev S256 : Shape := ⟨1, ![256]⟩
abbrev S256x1 : Shape := ⟨2, ![256, 1]⟩
abbrev S1 : Shape := ⟨1, ![1]⟩

abbrev nBuf : Space → Nat
  | .hbm => 11
  | .vmem => 16
  | .smem => 1
  | _ => 0

abbrev bufTy : (tb : Table) → Fin (tcTables nBuf tb) → BufTy
  | .hbm, ⟨0, _⟩ => ⟨S8192x1536, .f32⟩
  | .hbm, ⟨1, _⟩ => ⟨S8, .f32⟩
  | .hbm, ⟨2, _⟩ => ⟨S1x384, .f32⟩
  | .hbm, ⟨3, _⟩ => ⟨S384x768, .bf16⟩
  | .hbm, ⟨4, _⟩ => ⟨S1x256, .f32⟩
  | .hbm, ⟨5, _⟩ => ⟨S256x1024, .bf16⟩
  | .hbm, ⟨6, _⟩ => ⟨S8192x1024, .bf16⟩
  | .hbm, ⟨7, _⟩ => ⟨S32x2x256x256, .f32⟩
  | .hbm, ⟨8, _⟩ => ⟨S32x2x256x32, .f32⟩
  | .hbm, ⟨9, _⟩ => ⟨S32x2x256x128, .f32⟩
  | .hbm, ⟨10, _⟩ => ⟨S32x2x256x128, .f32⟩
  | .local _ .vmem, ⟨0, _⟩ => ⟨S1024x1536, .f32⟩
  | .local _ .vmem, ⟨1, _⟩ => ⟨S1024x1536, .f32⟩
  | .local _ .vmem, ⟨2, _⟩ => ⟨S1x384, .f32⟩
  | .local _ .vmem, ⟨3, _⟩ => ⟨S384x768, .bf16⟩
  | .local _ .vmem, ⟨4, _⟩ => ⟨S1x256, .f32⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x2x256x256, .f32⟩
  | .local _ .vmem, ⟨9, _⟩ => ⟨S4x2x256x256, .f32⟩
  | .local _ .vmem, ⟨10, _⟩ => ⟨S4x2x256x32, .f32⟩
  | .local _ .vmem, ⟨11, _⟩ => ⟨S4x2x256x32, .f32⟩
  | .local _ .vmem, ⟨12, _⟩ => ⟨S4x2x256x128, .f32⟩
  | .local _ .vmem, ⟨13, _⟩ => ⟨S4x2x256x128, .f32⟩
  | .local _ .vmem, ⟨14, _⟩ => ⟨S4x2x256x128, .f32⟩
  | .local _ .vmem, ⟨15, _⟩ => ⟨S4x2x256x128, .f32⟩
  | .local _ .smem, ⟨0, _⟩ => ⟨S8, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2x256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S8192x1536 : Shape := ⟨2, ![8192, 1536]⟩
abbrev S8 : Shape := ⟨1, ![8]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S32x256x1536 : Shape := ⟨3, ![32, 256, 1536]⟩
abbrev S32x256x256 : Shape := ⟨3, ![32, 256, 256]⟩
abbrev S_ : Shape := ⟨0, ![]⟩
abbrev S32x256 : Shape := ⟨2, ![32, 256]⟩
abbrev S32x256x1 : Shape := ⟨3, ![32, 256, 1]⟩
abbrev S256 : Shape := ⟨1, ![256]⟩
abbrev S1x1x256 : Shape := ⟨3, ![1, 1, 256]⟩
abbrev S32x256x32 : Shape := ⟨3, ![32, 256, 32]⟩
abbrev S32x256x128 : Shape := ⟨3, ![32, 256, 128]⟩
abbrev S32x1x256x256 : Shape := ⟨4, ![32, 1, 256, 256]⟩
abbrev S32x2x256x256 : Shape := ⟨4, ![32, 2, 256, 256]⟩
abbrev S32x1x256x32 : Shape := ⟨4, ![32, 1, 256, 32]⟩
abbrev S32x2x256x32 : Shape := ⟨4, ![32, 2, 256, 32]⟩
abbrev S32x1x256x128 : Shape := ⟨4, ![32, 1, 256, 128]⟩
abbrev S32x2x256x128 : Shape := ⟨4, ![32, 2, 256, 128]⟩

abbrev nBuf : Space → Nat
  | .hbm => 48
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8, .f32⟩
  | .hbm, ⟨2, _⟩ => ⟨S1x384, .f32⟩
  | .hbm, ⟨3, _⟩ => ⟨S384x768, .bf16⟩
  | .hbm, ⟨4, _⟩ => ⟨S1x256, .f32⟩
  | .hbm, ⟨5, _⟩ => ⟨S256x1024, .bf16⟩
  | .hbm, ⟨6, _⟩ => ⟨S32x256x1536, .f32⟩
  | .hbm, ⟨7, _⟩ => ⟨S32x256x256, .f32⟩
  | .hbm, ⟨8, _⟩ => ⟨S32x256x256, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x256, .f32⟩
  | .hbm, ⟨20, _⟩ => ⟨S32x256x256, .f32⟩
  | .hbm, ⟨21, _⟩ => ⟨S256, .f32⟩
  | .hbm, ⟨22, _⟩ => ⟨S1x1x256, .f32⟩
  | .hbm, ⟨23, _⟩ => ⟨S32x256x256, .f32⟩
  | .hbm, ⟨24, _⟩ => ⟨S32x256x256, .f32⟩
  | .hbm, ⟨25, _⟩ => ⟨S32x256x32, .f32⟩
  | .hbm, ⟨26, _⟩ => ⟨S32x256x128, .f32⟩
  | .hbm, ⟨27, _⟩ => ⟨S32x256x128, .f32⟩
  | .hbm, ⟨28, _⟩ => ⟨S_, .f32⟩
  | .hbm, ⟨29, _⟩ => ⟨S32x256x256, .f32⟩
  | .hbm, ⟨30, _⟩ => ⟨S32x1x256x256, .f32⟩
  | .hbm, ⟨31, _⟩ => ⟨S32x1x256x256, .f32⟩
  | .hbm, ⟨32, _⟩ => ⟨S32x2x256x256, .f32⟩
  | .hbm, ⟨33, _⟩ => ⟨S_, .f32⟩
  | .hbm, ⟨34, _⟩ => ⟨S32x256x32, .f32⟩
  | .hbm, ⟨35, _⟩ => ⟨S32x1x256x32, .f32⟩
  | .hbm, ⟨36, _⟩ => ⟨S32x1x256x32, .f32⟩
  | .hbm, ⟨37, _⟩ => ⟨S32x2x256x32, .f32⟩
  | .hbm, ⟨38, _⟩ => ⟨S_, .f32⟩
  | .hbm, ⟨39, _⟩ => ⟨S32x256x128, .f32⟩
  | .hbm, ⟨40, _⟩ => ⟨S32x1x256x128, .f32⟩
  | .hbm, ⟨41, _⟩ => ⟨S32x1x256x128, .f32⟩
  | .hbm, ⟨42, _⟩ => ⟨S32x2x256x128, .f32⟩
  | .hbm, ⟨43, _⟩ => ⟨S_, .f32⟩
  | .hbm, ⟨44, _⟩ => ⟨S32x256x128, .f32⟩
  | .hbm, ⟨45, _⟩ => ⟨S32x1x256x128, .f32⟩
  | .hbm, ⟨46, _⟩ => ⟨S32x1x256x128, .f32⟩
  | .hbm, ⟨47, _⟩ => ⟨S32x2x256x128, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel9.lean ====
abbrev S8192x1536 : Shape := ⟨2, ![8192, 1536]⟩
abbrev S8 : Shape := ⟨1, ![8]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S32x2x256x256 : Shape := ⟨4, ![32, 2, 256, 256]⟩
abbrev S32x2x256x32 : Shape := ⟨4, ![32, 2, 256, 32]⟩
abbrev S32x2x256x128 : Shape := ⟨4, ![32, 2, 256, 128]⟩
abbrev S8192x1024 : Shape := ⟨2, ![8192, 1024]⟩
abbrev S1024x1536 : Shape := ⟨2, ![1024, 1536]⟩
abbrev S1024x1024 : Shape := ⟨2, ![1024, 1024]⟩
abbrev S4x1x256x256 : Shape := ⟨4, ![4, 1, 256, 256]⟩
abbrev S4x1x256x32 : Shape := ⟨4, ![4, 1, 256, 32]⟩
abbrev S4x1x256x128 : Shape := ⟨4, ![4, 1, 256, 128]⟩
abbrev S1024x384 : Shape := ⟨2, ![1024, 384]⟩
abbrev S1024x128 : Shape := ⟨2, ![1024, 128]⟩
abbrev S1024 : Shape := ⟨1, ![1024]⟩
abbrev S1024x1 : Shape := ⟨2, ![1024, 1]⟩
abbrev S1024x768 : Shape := ⟨2, ![1024, 768]⟩
abbrev S1024x256 : Shape := ⟨2, ![1024, 256]⟩
abbrev S1024x32 : Shape := ⟨2, ![1024, 32]⟩
abbrev S256x256 : Shape := ⟨2, ![256, 256]⟩
abbrev S1x1x256x256 : Shape := ⟨4, ![1, 1, 256, 256]⟩
abbrev S256x32 : Shape := ⟨2, ![256, 32]⟩
abbrev S1x1x256x32 : Shape := ⟨4, ![1, 1, 256, 32]⟩
abbrev S256x128 : Shape := ⟨2, ![256, 128]⟩
abbrev S1x1x256x128 : Shape := ⟨4, ![1, 1, 256, 128]⟩
abbrev S1024x512 : Shape := ⟨2, ![1024, 512]⟩
abbrev S256 : Shape := ⟨1, ![256]⟩
abbrev S256x1 : Shape := ⟨2, ![256, 1]⟩
abbrev S1 : Shape := ⟨1, ![1]⟩

abbrev nBuf : Space → Nat
  | .hbm => 15
  | .vmem => 16
  | .smem => 1
  | _ => 0

abbrev bufTy : (tb : Table) → Fin (tcTables nBuf tb) → BufTy
  | .hbm, ⟨0, _⟩ => ⟨S8192x1536, .f32⟩
  | .hbm, ⟨1, _⟩ => ⟨S8, .f32⟩
  | .hbm, ⟨2, _⟩ => ⟨S1x384, .f32⟩
  | .hbm, ⟨3, _⟩ => ⟨S384x768, .bf16⟩
  | .hbm, ⟨4, _⟩ => ⟨S1x256, .f32⟩
  | .hbm, ⟨5, _⟩ => ⟨S256x1024, .bf16⟩
  | .hbm, ⟨6, _⟩ => ⟨S32x2x256x256, .f32⟩
  | .hbm, ⟨7, _⟩ => ⟨S32x2x256x32, .f32⟩
  | .hbm, ⟨8, _⟩ => ⟨S32x2x256x128, .f32⟩
  | .hbm, ⟨9, _⟩ => ⟨S32x2x256x128, .f32⟩
  | .hbm, ⟨10, _⟩ => ⟨S8192x1024, .bf16⟩
  | .hbm, ⟨11, _⟩ => ⟨S32x2x256x256, .f32⟩
  | .hbm, ⟨12, _⟩ => ⟨S32x2x256x32, .f32⟩
  | .hbm, ⟨13, _⟩ => ⟨S32x2x256x128, .f32⟩
  | .hbm, ⟨14, _⟩ => ⟨S32x2x256x128, .f32⟩
  | .local _ .vmem, ⟨0, _⟩ => ⟨S1024x1536, .f32⟩
  | .local _ .vmem, ⟨1, _⟩ => ⟨S1024x1536, .f32⟩
  | .local _ .vmem, ⟨2, _⟩ => ⟨S1x384, .f32⟩
  | .local _ .vmem, ⟨3, _⟩ => ⟨S384x768, .bf16⟩
  | .local _ .vmem, ⟨4, _⟩ => ⟨S1x256, .f32⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x1x256x256, .f32⟩
  | .local _ .vmem, ⟨9, _⟩ => ⟨S4x1x256x256, .f32⟩
  | .local _ .vmem, ⟨10, _⟩ => ⟨S4x1x256x32, .f32⟩
  | .local _ .vmem, ⟨11, _⟩ => ⟨S4x1x256x32, .f32⟩
  | .local _ .vmem, ⟨12, _⟩ => ⟨S4x1x256x128, .f32⟩
  | .local _ .vmem, ⟨13, _⟩ => ⟨S4x1x256x128, .f32⟩
  | .local _ .vmem, ⟨14, _⟩ => ⟨S4x1x256x128, .f32⟩
  | .local _ .vmem, ⟨15, _⟩ => ⟨S4x1x256x128, .f32⟩
  | .local _ .smem, ⟨0, _⟩ => ⟨S8, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_12 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_13 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_14 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S8192x1536 : Shape := ⟨2, ![8192, 1536]⟩
abbrev S8 : Shape := ⟨1, ![8]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S32x2x256x256 : Shape := ⟨4, ![32, 2, 256, 256]⟩
abbrev S32x2x256x32 : Shape := ⟨4, ![32, 2, 256, 32]⟩
abbrev S32x2x256x128 : Shape := ⟨4, ![32, 2, 256, 128]⟩
abbrev S32x256x1536 : Shape := ⟨3, ![32, 256, 1536]⟩
abbrev S32x256x256 : Shape := ⟨3, ![32, 256, 256]⟩
abbrev S_ : Shape := ⟨0, ![]⟩
abbrev S32x256 : Shape := ⟨2, ![32, 256]⟩
abbrev S32x256x1 : Shape := ⟨3, ![32, 256, 1]⟩
abbrev S256 : Shape := ⟨1, ![256]⟩
abbrev S1x1x256 : Shape := ⟨3, ![1, 1, 256]⟩
abbrev S32x256x32 : Shape := ⟨3, ![32, 256, 32]⟩
abbrev S32x256x128 : Shape := ⟨3, ![32, 256, 128]⟩
abbrev S32x1x256x256 : Shape := ⟨4, ![32, 1, 256, 256]⟩
abbrev S32x1x256x32 : Shape := ⟨4, ![32, 1, 256, 32]⟩
abbrev S32x1x256x128 : Shape := ⟨4, ![32, 1, 256, 128]⟩

abbrev nBuf : Space → Nat
  | .hbm => 52
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8, .f32⟩
  | .hbm, ⟨2, _⟩ => ⟨S1x384, .f32⟩
  | .hbm, ⟨3, _⟩ => ⟨S384x768, .bf16⟩
  | .hbm, ⟨4, _⟩ => ⟨S1x256, .f32⟩
  | .hbm, ⟨5, _⟩ => ⟨S256x1024, .bf16⟩
  | .hbm, ⟨6, _⟩ => ⟨S32x2x256x256, .f32⟩
  | .hbm, ⟨7, _⟩ => ⟨S32x2x256x32, .f32⟩
  | .hbm, ⟨8, _⟩ => ⟨S32x2x256x128, .f32⟩
  | .hbm, ⟨9, _⟩ => ⟨S32x2x256x128, .f32⟩
  | .hbm, ⟨10, _⟩ => ⟨S32x256x1536, .f32⟩
  | .hbm, ⟨11, _⟩ => ⟨S32x256x256, .f32⟩
  | .hbm, ⟨12, _⟩ => ⟨S32x256x256, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x256, .f32⟩
  | .hbm, ⟨24, _⟩ => ⟨S32x256x256, .f32⟩
  | .hbm, ⟨25, _⟩ => ⟨S256, .f32⟩
  | .hbm, ⟨26, _⟩ => ⟨S1x1x256, .f32⟩
  | .hbm, ⟨27, _⟩ => ⟨S32x256x256, .f32⟩
  | .hbm, ⟨28, _⟩ => ⟨S32x256x256, .f32⟩
  | .hbm, ⟨29, _⟩ => ⟨S32x256x32, .f32⟩
  | .hbm, ⟨30, _⟩ => ⟨S32x256x128, .f32⟩
  | .hbm, ⟨31, _⟩ => ⟨S32x256x128, .f32⟩
  | .hbm, ⟨32, _⟩ => ⟨S32x1x256x256, .f32⟩
  | .hbm, ⟨33, _⟩ => ⟨S32x256x256, .f32⟩
  | .hbm, ⟨34, _⟩ => ⟨S32x1x256x256, .f32⟩
  | .hbm, ⟨35, _⟩ => ⟨S32x1x256x256, .f32⟩
  | .hbm, ⟨36, _⟩ => ⟨S32x2x256x256, .f32⟩
  | .hbm, ⟨37, _⟩ => ⟨S32x1x256x32, .f32⟩
  | .hbm, ⟨38, _⟩ => ⟨S32x256x32, .f32⟩
  | .hbm, ⟨39, _⟩ => ⟨S32x1x256x32, .f32⟩
  | .hbm, ⟨40, _⟩ => ⟨S32x1x256x32, .f32⟩
  | .hbm, ⟨41, _⟩ => ⟨S32x2x256x32, .f32⟩
  | .hbm, ⟨42, _⟩ => ⟨S32x1x256x128, .f32⟩
  | .hbm, ⟨43, _⟩ => ⟨S32x256x128, .f32⟩
  | .hbm, ⟨44, _⟩ => ⟨S32x1x256x128, .f32⟩
  | .hbm, ⟨45, _⟩ => ⟨S32x1x256x128, .f32⟩
  | .hbm, ⟨46, _⟩ => ⟨S32x2x256x128, .f32⟩
  | .hbm, ⟨47, _⟩ => ⟨S32x1x256x128, .f32⟩
  | .hbm, ⟨48, _⟩ => ⟨S32x256x128, .f32⟩
  | .hbm, ⟨49, _⟩ => ⟨S32x1x256x128, .f32⟩
  | .hbm, ⟨50, _⟩ => ⟨S32x1x256x128, .f32⟩
  | .hbm, ⟨51, _⟩ => ⟨S32x2x256x128, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.AttnFrames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

/-! The attention call runs and leaves its arguments as they were; so does its plain program. -/

@[expose] public section

noncomputable section

open Idealize.ShloMosaic Idealize.SL.Sem

namespace Cert.Attn

theorem frame_kernel : Cert.quiescent_Kernel := fun m ρ _ => Cert.Kernel.Gen.frame m ρ

theorem frame_ideal : Cert.quiescent_KernelIdeal := fun m ρ _ => Cert.KernelIdeal.Gen.frame m ρ

theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem kept : Cert.preserves_Kernel_KernelIdeal := trivial

end Cert.Attn
-- ==== Proof.AttnMath.lean ====
module

public import Idealize.ShloMosaic.PureOps.Ideal
public import Idealize.ShloMosaic.Lib.IdealHost
public import Idealize.ShloMosaic.Lib.Pointwise
public import Idealize.ShloMosaic.Lib.Pipeline.ValueKit

/-! Softmax over the extended reals: a row reduced lane by lane, and the division taken before or after the product with the values. -/

@[expose] public section

noncomputable section

open Idealize.ShloMosaic

namespace Cert.Attn

/-- `n + 1` groups of 128 lanes combined group by group, read at lane `k`. -/
def lanes (op : EReal → EReal → EReal) (f : ℕ → EReal) : ℕ → ℕ → EReal
  | 0, k => f k
  | n + 1, k => op (lanes op f n k) (f ((n + 1) * 128 + k))

theorem lanes_add (f : ℕ → EReal) (n k : ℕ) : lanes (fun a b => a + b) f n k = ∑ j ∈ Finset.range (n + 1), f (j * 128 + k) := by
  induction n with
  | zero => simp [lanes]
  | succ n ih => rw [Finset.sum_range_succ, ← ih]; rfl

theorem lanes_max (f : ℕ → EReal) (n k : ℕ) : lanes max f n k = (Finset.range (n + 1)).sup fun j => f (j * 128 + k) := by
  induction n with
  | zero => simp [lanes]
  | succ n ih => rw [Finset.range_add_one, Finset.sup_insert, ← ih, sup_comm]; rfl

/-- Adding the groups and then the lanes adds the whole row. -/
theorem sum_lanes (f : ℕ → EReal) (n : ℕ) :
    ∑ k : Fin 128, lanes (fun a b => a + b) f n k = ∑ l : Fin ((n + 1) * 128), f l := by
  simp only [lanes_add]
  rw [Finset.sum_comm, Finset.sum_range (fun j => ∑ k : Fin 128, f (j * 128 + k.val))]
  exact Fin.sum_univ_univ_mul_add (n + 1) 128 f

/-- The greatest of the groups and then of the lanes is the greatest of the whole row. -/
theorem sup_lanes (f : ℕ → EReal) (n : ℕ) :
    (Finset.univ.sup fun k : Fin 128 => lanes max f n k) = Finset.univ.sup fun l : Fin ((n + 1) * 128) => f l := by
  simp only [lanes_max]
  apply le_antisymm
  · refine Finset.sup_le fun k _ => Finset.sup_le fun j hj => ?_
    have hj' := Finset.mem_range.mp hj
    have hk := k.isLt
    exact Finset.le_sup (f := fun l : Fin ((n + 1) * 128) => f l) (Finset.mem_univ ⟨j * 128 + k.val, by nlinarith⟩)
  · refine Finset.sup_le fun l _ => ?_
    have hl := l.isLt
    have h1 : l.val / 128 < n + 1 := by omega
    have h2 : l.val % 128 < 128 := Nat.mod_lt _ (by norm_num)
    have e : l.val / 128 * 128 + l.val % 128 = l.val := Nat.div_add_mod' _ _
    calc f l = f (l.val / 128 * 128 + l.val % 128) := by rw [e]
      _ ≤ (Finset.range (n + 1)).sup fun j => f (j * 128 + l.val % 128) :=
        Finset.le_sup (f := fun j => f (j * 128 + l.val % 128)) (Finset.mem_range.mpr h1)
      _ ≤ _ := Finset.le_sup (f := fun k : Fin 128 => (Finset.range (n + 1)).sup fun j => f (j * 128 + k.val))
        (Finset.mem_univ (⟨l.val % 128, h2⟩ : Fin 128))

/-! ## Division -/

theorem div_mul (a b l : EReal) (h0 : 0 < l) : Ideal.div (a * b) l = Ideal.div a l * b := by
  unfold Ideal.div
  rw [if_neg h0.ne', if_neg h0.ne', mul_right_comm]

theorem div_add (a b l : EReal) (h0 : 0 < l) (h1 : l ≠ ⊤) : Ideal.div (a + b) l = Ideal.div a l + Ideal.div b l := by
  unfold Ideal.div
  rw [if_neg h0.ne', if_neg h0.ne', if_neg h0.ne']
  lift l to ℝ using ⟨h1, (bot_lt_iff_ne_bot.mp (lt_trans EReal.bot_lt_zero h0))⟩
  rw [← EReal.coe_inv]
  refine EReal.right_distrib_of_nonneg_of_ne_top ?_ (EReal.coe_ne_top _) a b
  exact EReal.coe_nonneg.mpr (inv_nonneg.mpr (EReal.coe_nonneg.mp h0.le))

theorem div_sum {ι : Type} (s : Finset ι) (f : ι → EReal) (l : EReal) (h0 : 0 < l) (h1 : l ≠ ⊤) :
    Ideal.div (∑ k ∈ s, f k) l = ∑ k ∈ s, Ideal.div (f k) l := by
  classical
  induction s using Finset.induction_on with
  | empty => simp [Ideal.div, h0.ne']
  | insert a s ha ih => rw [Finset.sum_insert ha, Finset.sum_insert ha, div_add _ _ _ h0 h1, ih]

/-! ## Finite numbers -/

/-- Neither of the two infinities. -/
def Fin' (x : EReal) : Prop := x ≠ ⊤ ∧ x ≠ ⊥

theorem fin_coe (x : ℝ) : Fin' (x : EReal) := ⟨EReal.coe_ne_top _, EReal.coe_ne_bot _⟩

theorem fin_add {x y : EReal} (hx : Fin' x) (hy : Fin' y) : Fin' (x + y) := by
  lift x to ℝ using hx
  lift y to ℝ using hy
  rw [← EReal.coe_add]; exact fin_coe _

theorem fin_sub {x y : EReal} (hx : Fin' x) (hy : Fin' y) : Fin' (x - y) := by
  lift x to ℝ using hx
  lift y to ℝ using hy
  rw [← EReal.coe_sub]; exact fin_coe _

theorem fin_mul {x y : EReal} (hx : Fin' x) (hy : Fin' y) : Fin' (x * y) := by
  lift x to ℝ using hx
  lift y to ℝ using hy
  rw [← EReal.coe_mul]; exact fin_coe _

theorem fin_sum {ι : Type} (s : Finset ι) (f : ι → EReal) (h : ∀ k ∈ s, Fin' (f k)) : Fin' (∑ k ∈ s, f k) :=
  Finset.sum_induction f Fin' (fun _ _ => fin_add) (by exact fin_coe 0) h

theorem fin_max {x y : EReal} (hx : Fin' x) (hy : Fin' y) : Fin' (max x y) := by
  rcases max_choice x y with h | h <;> rw [h] <;> assumption

theorem fin_sup {n : ℕ} (f : Fin (n + 1) → EReal) (h : ∀ k, Fin' (f k)) : Fin' (Finset.univ.sup f) := by
  obtain ⟨k, _, e⟩ := Finset.exists_mem_eq_sup Finset.univ Finset.univ_nonempty f
  rw [e]; exact h k

theorem exp_pos {x : EReal} (hx : Fin' x) : 0 < Ideal.exp x ∧ Fin' (Ideal.exp x) := by
  lift x to ℝ using hx
  have e : Ideal.exp (x : EReal) = ((Real.exp x : ℝ) : EReal) := rfl
  rw [e]
  exact ⟨EReal.coe_pos.mpr (Real.exp_pos x), fin_coe _⟩

theorem sum_exp_pos {n : ℕ} (f : Fin (n + 1) → EReal) (h : ∀ k, Fin' (f k)) :
    0 < ∑ k, Ideal.exp (f k) ∧ Fin' (∑ k, Ideal.exp (f k)) := by
  refine ⟨?_, fin_sum _ _ fun k _ => (exp_pos (h k)).2⟩
  refine Finset.sum_induction_nonempty _ (fun y : EReal => 0 < y) (fun _ _ => EReal.add_pos) Finset.univ_nonempty ?_
  exact fun k _ => (exp_pos (h k)).1

/-! ## Attention over one set of keys -/

/-- The values weighed by the softmax of the scores, the division taken last. -/
def attend {n : ℕ} (s v : Fin n → EReal) : EReal :=
  Ideal.div (∑ k, Ideal.exp (s k - Finset.univ.sup s) * v k) (∑ k, Ideal.exp (s k - Finset.univ.sup s))

/-- With finite scores the division may be taken weight by weight; the values are arbitrary. -/
theorem attend_eq {n : ℕ} (s v : Fin (n + 1) → EReal) (h : ∀ k, Fin' (s k)) :
    attend s v = ∑ k, Ideal.div (Ideal.exp (s k - Finset.univ.sup s)) (∑ k, Ideal.exp (s k - Finset.univ.sup s)) * v k := by
  have hm := fin_sup s h
  obtain ⟨h0, h1⟩ := sum_exp_pos (fun k => s k - Finset.univ.sup s) fun k => fin_sub (h k) hm
  unfold attend
  rw [div_sum _ _ _ h0 h1.1]
  exact Finset.sum_congr rfl fun k _ => div_mul _ _ _ h0

/-! ## Attention over near keys, context keys and a sink -/

/-- The greatest of the near scores, the context scores and the sink. -/
def top {n n' : ℕ} (s : Fin n → EReal) (t : Fin n' → EReal) (g : EReal) : EReal := max (max (Finset.univ.sup s) (Finset.univ.sup t)) g

/-- The weights' sum. -/
def mass {n n' : ℕ} (s : Fin n → EReal) (t : Fin n' → EReal) (g : EReal) : EReal :=
  ((∑ k, Ideal.exp (s k - top s t g)) + ∑ k, Ideal.exp (t k - top s t g)) + Ideal.exp (g - top s t g)

/-- Both sets of values weighed by the common softmax, the division taken last. -/
def attend2 {n n' : ℕ} (s : Fin n → EReal) (t : Fin n' → EReal) (g : EReal) (v : Fin n → EReal) (w : Fin n' → EReal) : EReal :=
  Ideal.div ((∑ k, Ideal.exp (s k - top s t g) * v k) + ∑ k, Ideal.exp (t k - top s t g) * w k) (mass s t g)

theorem attend2_eq {n n' : ℕ} (s : Fin (n + 1) → EReal) (t : Fin (n' + 1) → EReal) (g : EReal) (v : Fin (n + 1) → EReal)
    (w : Fin (n' + 1) → EReal) (hs : ∀ k, Fin' (s k)) (ht : ∀ k, Fin' (t k)) (hg : Fin' g) :
    attend2 s t g v w = (∑ k, Ideal.div (Ideal.exp (s k - top s t g)) (mass s t g) * v k)
      + ∑ k, Ideal.div (Ideal.exp (t k - top s t g)) (mass s t g) * w k := by
  have hm : Fin' (top s t g) := fin_max (fin_max (fin_sup s hs) (fin_sup t ht)) hg
  obtain ⟨a0, a1⟩ := sum_exp_pos (fun k => s k - top s t g) fun k => fin_sub (hs k) hm
  obtain ⟨b0, b1⟩ := sum_exp_pos (fun k => t k - top s t g) fun k => fin_sub (ht k) hm
  obtain ⟨c0, c1⟩ := exp_pos (fin_sub hg hm)
  have h0 : 0 < mass s t g := EReal.add_pos (EReal.add_pos a0 b0) c0
  have h1 : Fin' (mass s t g) := fin_add (fin_add a1 b1) c1
  unfold attend2
  rw [div_add _ _ _ h0 h1.1, div_sum _ _ _ h0 h1.1, div_sum _ _ _ h0 h1.1]
  exact congrArg₂ (· + ·) (Finset.sum_congr rfl fun k _ => div_mul _ _ _ h0) (Finset.sum_congr rfl fun k _ => div_mul _ _ _ h0)

end Cert.Attn
-- ==== Proof.AttnRef.lean ====
module

public import proofs.«01_k».proof.Proof.AttnMath
public import proofs.«01_k».proof.Proof.Gen.ReferenceIdeal.Run
public import Idealize.ShloMosaic.Lib.Tactic.CleanTypes
public import Idealize.ShloMosaic.Lib.Pointwise

/-! The plain attention cut into its steps: scores, weights and weighted sums of its two halves. -/

@[expose] public section

set_option maxRecDepth 16384
set_option maxHeartbeats 4000000

noncomputable section

open Idealize.ShloMosaic Idealize.ShloMosaic.TcCoe Idealize.SL.Sem
open Cert.ReferenceIdeal Cert.ReferenceIdeal.Gen Cert.ReferenceIdeal.Value

namespace Cert.Attn.Ref

variable {F : FTy → Type} [FloatOps F]

/-- The full half's scores. -/
def scores (x1 x2 : FVec F S4096x1024 .bf16) (x7 : FVec F S2x512x1024 .bf16) : FVec F S2x8x2048x2560 .f32 :=
  Host.dotGeneral dot_S2x2048x8x128_S2x2560x8x128_S2x8x2048x2560_3_3_1_1_02_02 none (shapeCast _ (extf .f32 x1 bitsLt_bf16_f32) shapeCasts_S4096x1024_S2x2048x8x128)
    (concatenate S2x2560x8x128 1 [⟨S2x2048x8x128, (shapeCast _ (extf .f32 x2 bitsLt_bf16_f32) shapeCasts_S4096x1024_S2x2048x8x128)⟩, ⟨S2x512x8x128, (shapeCast _ (extf .f32 x7 bitsLt_bf16_f32) shapeCasts_S2x512x1024_S2x512x8x128)⟩] concatenates_S2x2048x8x128_S2x512x8x128_S2x2560x8x128_d1)

/-- A row's greatest score. -/
def peak4 (s : FVec F S2x8x2048x2560 .f32) : FVec F S2x8x2048 .f32 :=
  maximumf (broadcastInDim S2x8x2048 ![] bcast_S_S2x8x2048 (constant S_ .f32 0xFF800000#32)) (Host.reduce FloatOps.maximumf s (constant S_ .f32 0xFF800000#32) reducesTo_S2x8x2048x2560_S2x8x2048_d3 h_S_)

/-- The exponentials of the scores less their row's greatest. -/
def exps4 (s : FVec F S2x8x2048x2560 .f32) (p : FVec F S2x8x2048 .f32) : FVec F S2x8x2048x2560 .f32 :=
  Host.exp (subf s (broadcastInDim S2x8x2048x2560 ![0, 1, 2, 3] bcast_S2x8x2048x1_S2x8x2048x2560_0_1_2_3 (broadcastInDim S2x8x2048x1 ![0, 1, 2] bcast_S2x8x2048_S2x8x2048x1_0_1_2 p)))

/-- A row's sum. -/
def total4 (s : FVec F S2x8x2048x2560 .f32) : FVec F S2x8x2048 .f32 :=
  Host.reduceAdd s (constant S_ .f32 0x00000000#32) reducesTo_S2x8x2048x2560_S2x8x2048_d3 h_S_

/-- Every entry divided by its row's number. -/
def part4 (s : FVec F S2x8x2048x2560 .f32) (p : FVec F S2x8x2048 .f32) : FVec F S2x8x2048x2560 .f32 :=
  Host.divf s (broadcastInDim S2x8x2048x2560 ![0, 1, 2, 3] bcast_S2x8x2048x1_S2x8x2048x2560_0_1_2_3 (broadcastInDim S2x8x2048x1 ![0, 1, 2] bcast_S2x8x2048_S2x8x2048x1_0_1_2 p))

/-- Softmax over the last of four axes. -/
def soft4 (s : FVec F S2x8x2048x2560 .f32) : FVec F S2x8x2048x2560 .f32 :=
  part4 (exps4 s (peak4 s)) (total4 (exps4 s (peak4 s)))

/-- The full half's result, from its weights. -/
def fullOut (x3 : FVec F S4096x512 .bf16) (x8 : FVec F S2x512x512 .bf16) (w : FVec F S2x8x2048x2560 .f32) : FVec F S4096x512 .f32 :=
  shapeCast _ (transpose S2x2048x8x64 [0, 3, 1, 2] (Host.dotGeneral dot_S2x2560x8x64_S2x8x2048x2560_S2x8x64x2048_1_3_3_2_02_01 none (concatenate S2x2560x8x64 1 [⟨S2x2048x8x64, (shapeCast _ (extf .f32 x3 bitsLt_bf16_f32) shapeCasts_S4096x512_S2x2048x8x64)⟩, ⟨S2x512x8x64, (shapeCast _ (extf .f32 x8 bitsLt_bf16_f32) shapeCasts_S2x512x512_S2x512x8x64)⟩] concatenates_S2x2048x8x64_S2x512x8x64_S2x2560x8x64_d1) w) transposes_S2x8x64x2048_S2x2048x8x64_0_3_1_2) shapeCasts_S2x2048x8x64_S4096x512

/-- The padded rows in blocks of 128. -/
def blocks (x : FVec F S4096x128 .bf16) : FVec F S2x18x128x2x64 .f32 :=
  shapeCast _ (pad S2x2304x2x64 ![0, 128, 0, 0] ![0, 128, 0, 0] ![0, 0, 0, 0] (shapeCast _ (extf .f32 x bitsLt_bf16_f32) shapeCasts_S4096x128_S2x2048x2x64) (sitofp .f32 (constantI S_ 32 0#32)) pads_S2x2048x2x64_S2x2304x2x64_000_1281280_000_000 h_S_) shapeCasts_S2x2304x2x64_S2x18x128x2x64

/-- Three neighbouring blocks side by side. -/
def three (x : FVec F S2x18x128x2x64 .f32) : FVec F S2x16x384x2x64 .f32 :=
  concatenate S2x16x384x2x64 2 [⟨S2x16x128x2x64, extractStridedSlice S2x16x128x2x64 ![0, 0, 0, 0, 0] x slices_S2x18x128x2x64_S2x16x128x2x64_0_0_0_0_0⟩,
    ⟨S2x16x128x2x64, extractStridedSlice S2x16x128x2x64 ![0, 1, 0, 0, 0] x slices_S2x18x128x2x64_S2x16x128x2x64_0_1_0_0_0⟩,
    ⟨S2x16x128x2x64, extractStridedSlice S2x16x128x2x64 ![0, 2, 0, 0, 0] x slices_S2x18x128x2x64_S2x16x128x2x64_0_2_0_0_0⟩] concatenates_S2x16x128x2x64_S2x16x128x2x64_S2x16x128x2x64_S2x16x384x2x64_d2

/-- The cached context's rows. -/
def context (x : FVec F S2x2x512x2x64 .f32) : FVec F S2x512x2x64 .f32 :=
  shapeCast _ (extractStridedSlice S2x1x512x2x64 ![0, 0, 0, 0, 0] x slices_S2x2x512x2x64_S2x1x512x2x64_0_0_0_0_0) shapeCasts_S2x1x512x2x64_S2x512x2x64

/-- The queries by block and head. -/
def queries (x : FVec F S4096x512 .bf16) : FVec F S2x16x128x2x4x64 .f32 :=
  shapeCast _ (extf .f32 x bitsLt_bf16_f32) shapeCasts_S4096x512_S2x16x128x2x4x64

/-- A band column's place in the sequence. -/
def place : IVec S16x1x384 32 :=
  addi (broadcastInDim S16x1x384 ![0, 1, 2] bcast_S16x1x1_S16x1x384_0_1_2 (muli (subi (broadcastInDim S16x1x1 ![0] bcast_S16_S16x1x1_0 (iotaInDim S16 32 0)) (broadcastInDim S16x1x1 ![] bcast_S_S16x1x1 (constantI S_ 32 1#32))) (broadcastInDim S16x1x1 ![] bcast_S_S16x1x1 (constantI S_ 32 128#32))))
    (broadcastInDim S16x1x384 ![0, 1, 2] bcast_S1x1x384_S16x1x384_0_1_2 (broadcastInDim S1x1x384 ![1, 2] bcast_S1x384_S1x1x384_1_2 (broadcastInDim S1x384 ![1] bcast_S384_S1x384_1 (iotaInDim S384 32 0))))

/-- Which band columns a row may see. -/
def visible : IVec S16x128x384 1 :=
  andi (andi
    (broadcastInDim S16x128x384 ![0, 1, 2] bcast_S1x128x384_S16x128x384_0_1_2 (broadcastInDim S1x128x384 ![1, 2] bcast_S128x384_S1x128x384_1_2
      (cmpi .sle (absi (subi (broadcastInDim S128x384 ![0, 1] bcast_S128x1_S128x384_0_1 (addi (broadcastInDim S128x1 ![0] bcast_S128_S128x1_0 (iotaInDim S128 32 0)) (broadcastInDim S128x1 ![] bcast_S_S128x1 (constantI S_ 32 128#32))))
        (broadcastInDim S128x384 ![0, 1] bcast_S1x384_S128x384_0_1 (broadcastInDim S1x384 ![1] bcast_S384_S1x384_1 (iotaInDim S384 32 0)))))
        (broadcastInDim S128x384 ![] bcast_S_S128x384 (constantI S_ 32 128#32)))))
    (broadcastInDim S16x128x384 ![0, 1, 2] bcast_S16x1x384_S16x128x384_0_1_2 (cmpi .sge place (broadcastInDim S16x1x384 ![] bcast_S_S16x1x384 (constantI S_ 32 0#32)))))
    (broadcastInDim S16x128x384 ![0, 1, 2] bcast_S16x1x384_S16x128x384_0_1_2 (cmpi .slt place (broadcastInDim S16x1x384 ![] bcast_S_S16x1x384 (constantI S_ 32 2048#32))))

/-- The banded half's scores against its band. -/
def near (q : FVec F S2x16x128x2x4x64 .f32) (k : FVec F S2x16x384x2x64 .f32) : FVec F S2x16x2x4x128x384 .f32 :=
  select (broadcastInDim S2x16x2x4x128x384 ![0, 1, 2, 3, 4, 5] bcast_S1x16x1x1x128x384_S2x16x2x4x128x384_0_1_2_3_4_5 (broadcastInDim S1x16x1x1x128x384 ![1, 4, 5] bcast_S16x128x384_S1x16x1x1x128x384_1_4_5 visible))
    (transpose S2x16x2x4x128x384 [0, 1, 2, 5, 4, 3] (Host.dotGeneral dot_S2x16x384x2x64_S2x16x128x2x4x64_S2x16x2x384x128x4_4_5_2_24_013_013 none k q) transposes_S2x16x2x384x128x4_S2x16x2x4x128x384_0_1_2_5_4_3)
    (broadcastInDim S2x16x2x4x128x384 ![] bcast_S_S2x16x2x4x128x384 (constant S_ .f32 0xF149F2CA#32))

/-- The banded half's scores against the cached context. -/
def far (q : FVec F S2x16x128x2x4x64 .f32) (k : FVec F S2x512x2x64 .f32) : FVec F S2x16x2x4x128x512 .f32 :=
  transpose S2x16x2x4x128x512 [0, 3, 1, 5, 4, 2] (Host.dotGeneral dot_S2x512x2x64_S2x16x128x2x4x64_S2x2x512x16x128x4_3_5_1_124_02_03 none k q) transposes_S2x2x512x16x128x4_S2x16x2x4x128x512_0_3_1_5_4_2

/-- All scores of the banded half, the sink's last. -/
def every (x0 : FVec F S8 .f32) (a : FVec F S2x16x2x4x128x384 .f32) (b : FVec F S2x16x2x4x128x512 .f32) : FVec F S2x16x2x4x128x897 .f32 :=
  concatenate S2x16x2x4x128x897 5 [⟨S2x16x2x4x128x896, concatenate S2x16x2x4x128x896 5 [⟨S2x16x2x4x128x384, a⟩, ⟨S2x16x2x4x128x512, b⟩] concatenates_S2x16x2x4x128x384_S2x16x2x4x128x512_S2x16x2x4x128x896_d5⟩,
    ⟨S2x16x2x4x128x1, broadcastInDim S2x16x2x4x128x1 ![2, 3, 4, 5] bcast_S2x4x1x1_S2x16x2x4x128x1_2_3_4_5 (broadcastInDim S2x4x1x1 ![0, 1] bcast_S2x4_S2x4x1x1_0_1 (shapeCast _ x0 shapeCasts_S8_S2x4))⟩] concatenates_S2x16x2x4x128x896_S2x16x2x4x128x1_S2x16x2x4x128x897_d5

/-- A row's greatest score. -/
def peak6 (s : FVec F S2x16x2x4x128x897 .f32) : FVec F S2x16x2x4x128 .f32 :=
  maximumf (broadcastInDim S2x16x2x4x128 ![] bcast_S_S2x16x2x4x128 (constant S_ .f32 0xFF800000#32)) (Host.reduce FloatOps.maximumf s (constant S_ .f32 0xFF800000#32) reducesTo_S2x16x2x4x128x897_S2x16x2x4x128_d5 h_S_)

/-- The exponentials of the scores less their row's greatest. -/
def exps6 (s : FVec F S2x16x2x4x128x897 .f32) (p : FVec F S2x16x2x4x128 .f32) : FVec F S2x16x2x4x128x897 .f32 :=
  Host.exp (subf s (broadcastInDim S2x16x2x4x128x897 ![0, 1, 2, 3, 4, 5] bcast_S2x16x2x4x128x1_S2x16x2x4x128x897_0_1_2_3_4_5 (broadcastInDim S2x16x2x4x128x1 ![0, 1, 2, 3, 4] bcast_S2x16x2x4x128_S2x16x2x4x128x1_0_1_2_3_4 p)))

/-- A row's sum. -/
def total6 (s : FVec F S2x16x2x4x128x897 .f32) : FVec F S2x16x2x4x128 .f32 :=
  Host.reduceAdd s (constant S_ .f32 0x00000000#32) reducesTo_S2x16x2x4x128x897_S2x16x2x4x128_d5 h_S_

/-- Every entry divided by its row's number. -/
def part6 (s : FVec F S2x16x2x4x128x897 .f32) (p : FVec F S2x16x2x4x128 .f32) : FVec F S2x16x2x4x128x897 .f32 :=
  Host.divf s (broadcastInDim S2x16x2x4x128x897 ![0, 1, 2, 3, 4, 5] bcast_S2x16x2x4x128x1_S2x16x2x4x128x897_0_1_2_3_4_5 (broadcastInDim S2x16x2x4x128x1 ![0, 1, 2, 3, 4] bcast_S2x16x2x4x128_S2x16x2x4x128x1_0_1_2_3_4 p))

/-- Softmax over the last of six axes. -/
def soft6 (s : FVec F S2x16x2x4x128x897 .f32) : FVec F S2x16x2x4x128x897 .f32 :=
  part6 (exps6 s (peak6 s)) (total6 (exps6 s (peak6 s)))

/-- The banded half's weights without the sink's. -/
def kept (w : FVec F S2x16x2x4x128x897 .f32) : FVec F S2x16x2x4x128x896 .f32 :=
  extractStridedSlice S2x16x2x4x128x896 ![0, 0, 0, 0, 0, 0] w slices_S2x16x2x4x128x897_S2x16x2x4x128x896_0_0_0_0_0_0

/-- The banded half's result, from its weights. -/
def bandedOut (v : FVec F S2x16x384x2x64 .f32) (u : FVec F S2x512x2x64 .f32) (w : FVec F S2x16x2x4x128x896 .f32) : FVec F S4096x512 .f32 :=
  shapeCast _ (addf
    (transpose S2x16x128x2x4x64 [0, 1, 5, 2, 4, 3] (Host.dotGeneral dot_S2x16x384x2x64_S2x16x2x4x128x384_S2x16x2x64x4x128_2_5_4_34_013_012 none v (extractStridedSlice S2x16x2x4x128x384 ![0, 0, 0, 0, 0, 0] w slices_S2x16x2x4x128x896_S2x16x2x4x128x384_0_0_0_0_0_0)) transposes_S2x16x2x64x4x128_S2x16x128x2x4x64_0_1_5_2_4_3)
    (transpose S2x16x128x2x4x64 [0, 3, 5, 1, 4, 2] (Host.dotGeneral dot_S2x512x2x64_S2x16x2x4x128x512_S2x2x64x16x4x128_1_5_3_134_02_02 none u (extractStridedSlice S2x16x2x4x128x512 ![0, 0, 0, 0, 0, 384] w slices_S2x16x2x4x128x896_S2x16x2x4x128x512_0_0_0_0_0_384)) transposes_S2x2x64x16x4x128_S2x16x128x2x4x64_0_3_5_1_4_2)) shapeCasts_S2x16x128x2x4x64_S4096x512

/-- The two halves side by side. -/
def out (x0 : FVec F S8 .f32) (x1 x2 : FVec F S4096x1024 .bf16) (x3 x4 : FVec F S4096x512 .bf16) (x5 x6 : FVec F S4096x128 .bf16)
    (x7 : FVec F S2x512x1024 .bf16) (x8 : FVec F S2x512x512 .bf16) (x9 x10 : FVec F S2x2x512x2x64 .f32) : FVec F S4096x1024 .bf16 :=
  truncf .bf16 (concatenate S4096x1024 1 [⟨S4096x512, fullOut x3 x8 (soft4 (scores x1 x2 x7))⟩,
    ⟨S4096x512, bandedOut (three (blocks x6)) (context x10) (kept (soft6 (every x0 (near (queries x4) (three (blocks x5))) (far (queries x4) (context x9)))))⟩] concatenates_S4096x512_S4096x512_S4096x1024_d1) bitsLt_bf16_f32

/-- The plain program's result is these steps in turn. -/
theorem res_eq (m : (ℓ : Loc nD τ sig) → Buf (Elt F) ℓ) (c : Dev nD) : res_main_v113 m c =
    out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  unfold res_main_v113 out fullOut soft4 part4 total4 exps4 peak4 scores bandedOut three blocks context kept soft6 part6 total6 exps6 peak6 every near far queries visible place
  rfl

end Cert.Attn.Ref
-- ==== Proof.AttnVec.lean ====
module

public import proofs.«01_k».proof.Defs
public import proofs.«01_k».proof.Proof.AttnMath
public import Idealize.ShloMosaic.Lib.Tactic.CleanTypes
public import Idealize.ShloMosaic.Lib.Quiescent
public import proofs.«01_k».proof.Proof.Gen.KernelIdeal.Skeleton

/-! The two kinds of attention as the kernel computes them on vectors: rows folded in groups of 128 lanes, the division last. -/

@[expose] public section

set_option maxRecDepth 16384

noncomputable section

open Idealize.ShloMosaic Idealize.ShloMosaic.TcCoe
open Cert.KernelIdeal Cert.KernelIdeal.Gen

namespace Cert.Attn

theorem bottom : Ideal.ofBits .f32 0xFF800000#32 = ⊥ := by simp [Ideal.ofBits, Ideal.ieee]

abbrev Part := FVec Ideal S512x128 .f32

/-- The twenty groups of a row over all keys. -/
def fold20 (op : Part → Part → Part) (S : FVec Ideal S512x2560 .f32) : Part :=
  op (op (op (op (op (op (op (op (op (op (op (op (op (op (op (op (op (op (op (extractStridedSlice S512x128 ![0, 0] S slices_S512x2560_o0_0_S512x128)
    (extractStridedSlice S512x128 ![0, 128] S slices_S512x2560_o0_128_S512x128))
    (extractStridedSlice S512x128 ![0, 256] S slices_S512x2560_o0_256_S512x128))
    (extractStridedSlice S512x128 ![0, 384] S slices_S512x2560_o0_384_S512x128))
    (extractStridedSlice S512x128 ![0, 512] S slices_S512x2560_o0_512_S512x128))
    (extractStridedSlice S512x128 ![0, 640] S slices_S512x2560_o0_640_S512x128))
    (extractStridedSlice S512x128 ![0, 768] S slices_S512x2560_o0_768_S512x128))
    (extractStridedSlice S512x128 ![0, 896] S slices_S512x2560_o0_896_S512x128))
    (extractStridedSlice S512x128 ![0, 1024] S slices_S512x2560_o0_1024_S512x128))
    (extractStridedSlice S512x128 ![0, 1152] S slices_S512x2560_o0_1152_S512x128))
    (extractStridedSlice S512x128 ![0, 1280] S slices_S512x2560_o0_1280_S512x128))
    (extractStridedSlice S512x128 ![0, 1408] S slices_S512x2560_o0_1408_S512x128))
    (extractStridedSlice S512x128 ![0, 1536] S slices_S512x2560_o0_1536_S512x128))
    (extractStridedSlice S512x128 ![0, 1664] S slices_S512x2560_o0_1664_S512x128))
    (extractStridedSlice S512x128 ![0, 1792] S slices_S512x2560_o0_1792_S512x128))
    (extractStridedSlice S512x128 ![0, 1920] S slices_S512x2560_o0_1920_S512x128))
    (extractStridedSlice S512x128 ![0, 2048] S slices_S512x2560_o0_2048_S512x128))
    (extractStridedSlice S512x128 ![0, 2176] S slices_S512x2560_o0_2176_S512x128))
    (extractStridedSlice S512x128 ![0, 2304] S slices_S512x2560_o0_2304_S512x128))
    (extractStridedSlice S512x128 ![0, 2432] S slices_S512x2560_o0_2432_S512x128)

/-- The three groups of a row over the band. -/
def fold3 (op : Part → Part → Part) (S : FVec Ideal S512x384 .f32) : Part :=
  op (op (extractStridedSlice S512x128 ![0, 0] S slices_S512x384_o0_0_S512x128)
    (extractStridedSlice S512x128 ![0, 128] S slices_S512x384_o0_128_S512x128))
    (extractStridedSlice S512x128 ![0, 256] S slices_S512x384_o0_256_S512x128)

/-- The four groups of a row over the context. -/
def fold4 (op : Part → Part → Part) (S : FVec Ideal S512x512 .f32) : Part :=
  op (op (op (extractStridedSlice S512x128 ![0, 0] S slices_S512x512_o0_0_S512x128)
    (extractStridedSlice S512x128 ![0, 128] S slices_S512x512_o0_128_S512x128))
    (extractStridedSlice S512x128 ![0, 256] S slices_S512x512_o0_256_S512x128))
    (extractStridedSlice S512x128 ![0, 384] S slices_S512x512_o0_384_S512x128)

abbrev rowMax (x : Part) : FVec Ideal S512x1 .f32 :=
  shapeCast S512x1 (multiReduction .maximumf [1] S512 x 0xFF800000#32 reduces_S512x128_S512 (.inl rfl) rfl) shapeCasts_S512_S512x1

abbrev rowSum (x : Part) : FVec Ideal S512x1 .f32 :=
  shapeCast S512x1 (multiReduction .add [1] S512 x 0x00000000#32 reduces_S512x128_S512 (.inl rfl) rfl) shapeCasts_S512_S512x1

/-- A row continued by zero. -/
def past {n : ℕ} (x : Fin n → EReal) (k : ℕ) : EReal := if h : k < n then x ⟨k, h⟩ else 0

theorem past_val {n : ℕ} (x : Fin n → EReal) (k : ℕ) (h : k < n) : x ⟨k, h⟩ = past x k := by
  unfold past
  rw [dif_pos h]

theorem sup_past (n : ℕ) (x : Fin ((n + 1) * 128) → EReal) : (Finset.univ.sup fun k : Fin 128 => lanes max (past x) n k) = Finset.univ.sup x :=
  (sup_lanes (past x) n).trans (Finset.sup_congr rfl fun k _ => dif_pos k.isLt)

theorem sum_past (n : ℕ) (x : Fin ((n + 1) * 128) → EReal) : (∑ k : Fin 128, lanes (fun a b => a + b) (past x) n k) = ∑ k, x k :=
  (sum_lanes (past x) n).trans (Finset.sum_congr rfl fun k _ => dif_pos k.isLt)

theorem fold20_max (S : FVec Ideal S512x2560 .f32) (r : Fin 512) (k : Fin 128) :
    fold20 maximumf S (ix2 r k) = lanes max (past fun k : Fin 2560 => S (ix2 r k)) 19 k := by
  unfold fold20
  pointwise []
  have h := past_val fun k : Fin 2560 => S (ix2 r k)
  generalize past (fun k : Fin 2560 => S (ix2 r k)) = f at h ⊢
  replace h : ∀ j (hj : j < 2560), S (ix2 r ⟨j, hj⟩) = f j := h
  simp only [h]
  rfl

theorem fold20_add (S : FVec Ideal S512x2560 .f32) (r : Fin 512) (k : Fin 128) :
    fold20 addf S (ix2 r k) = lanes (fun a b => a + b) (past fun k : Fin 2560 => S (ix2 r k)) 19 k := by
  unfold fold20
  pointwise []
  have h := past_val fun k : Fin 2560 => S (ix2 r k)
  generalize past (fun k : Fin 2560 => S (ix2 r k)) = f at h ⊢
  replace h : ∀ j (hj : j < 2560), S (ix2 r ⟨j, hj⟩) = f j := h
  simp only [h]
  rfl

theorem fold3_max (S : FVec Ideal S512x384 .f32) (r : Fin 512) (k : Fin 128) :
    fold3 maximumf S (ix2 r k) = lanes max (past fun k : Fin 384 => S (ix2 r k)) 2 k := by
  unfold fold3
  pointwise []
  have h := past_val fun k : Fin 384 => S (ix2 r k)
  generalize past (fun k : Fin 384 => S (ix2 r k)) = f at h ⊢
  replace h : ∀ j (hj : j < 384), S (ix2 r ⟨j, hj⟩) = f j := h
  simp only [h]
  rfl

theorem fold3_add (S : FVec Ideal S512x384 .f32) (r : Fin 512) (k : Fin 128) :
    fold3 addf S (ix2 r k) = lanes (fun a b => a + b) (past fun k : Fin 384 => S (ix2 r k)) 2 k := by
  unfold fold3
  pointwise []
  have h := past_val fun k : Fin 384 => S (ix2 r k)
  generalize past (fun k : Fin 384 => S (ix2 r k)) = f at h ⊢
  replace h : ∀ j (hj : j < 384), S (ix2 r ⟨j, hj⟩) = f j := h
  simp only [h]
  rfl

theorem fold4_max (S : FVec Ideal S512x512 .f32) (r : Fin 512) (k : Fin 128) :
    fold4 maximumf S (ix2 r k) = lanes max (past fun k : Fin 512 => S (ix2 r k)) 3 k := by
  unfold fold4
  pointwise []
  have h := past_val fun k : Fin 512 => S (ix2 r k)
  generalize past (fun k : Fin 512 => S (ix2 r k)) = f at h ⊢
  replace h : ∀ j (hj : j < 512), S (ix2 r ⟨j, hj⟩) = f j := h
  simp only [h]
  rfl

theorem fold4_add (S : FVec Ideal S512x512 .f32) (r : Fin 512) (k : Fin 128) :
    fold4 addf S (ix2 r k) = lanes (fun a b => a + b) (past fun k : Fin 512 => S (ix2 r k)) 3 k := by
  unfold fold4
  pointwise []
  have h := past_val fun k : Fin 512 => S (ix2 r k)
  generalize past (fun k : Fin 512 => S (ix2 r k)) = f at h ⊢
  replace h : ∀ j (hj : j < 512), S (ix2 r ⟨j, hj⟩) = f j := h
  simp only [h]
  rfl

theorem rowMax_at (x : Part) (r : Fin 512) : rowMax x (ix2 r 0) = Finset.univ.sup fun k : Fin 128 => x (ix2 r k) := by
  unfold rowMax
  pointwise []
  rw [bottom]
  rfl

theorem rowSum_at (x : Part) (r : Fin 512) : rowSum x (ix2 r 0) = ∑ k : Fin 128, x (ix2 r k) := by
  unfold rowSum
  pointwise []

/-! ## One head over all keys -/

def weights (S : FVec Ideal S512x2560 .f32) : FVec Ideal S512x2560 .f32 :=
  exp (subf S (broadcastTo S512x2560 (rowMax (fold20 maximumf S)) broadcasts_S512x1_S512x2560))

def headOut (S : FVec Ideal S512x2560 .f32) (V : FVec Ideal S2560x128 .bf16) : Part :=
  divf (matmul dot_S512x2560_S2560x128_S512x128_1_0_0_1_n_n none (truncf .bf16 (weights S) bitsLt_bf16_f32) V (constant S512x128 .f32 0x00000000#32))
    (broadcastTo S512x128 (rowSum (fold20 addf (weights S))) broadcasts_S512x1_S512x128)

theorem weights_at (S : FVec Ideal S512x2560 .f32) (r : Fin 512) (k : Fin 2560) :
    weights S (ix2 r k) = Ideal.exp (S (ix2 r k) - Finset.univ.sup fun k : Fin 2560 => S (ix2 r k)) := by
  unfold weights
  have e : rowMax (fold20 maximumf S) (ix2 r 0) = Finset.univ.sup fun k : Fin 2560 => S (ix2 r k) := by
    rw [rowMax_at]
    simp only [fold20_max]
    exact sup_past 19 _
  rw [← e]
  generalize rowMax (fold20 maximumf S) = M
  pointwise []

theorem headOut_at (S : FVec Ideal S512x2560 .f32) (V : FVec Ideal S2560x128 .bf16) (r : Fin 512) (l : Fin 128) :
    headOut S V (ix2 r l) = attend (fun k : Fin 2560 => S (ix2 r k)) (fun k => V (ix2 k l)) := by
  unfold headOut attend
  simp only [← weights_at]
  have e : rowSum (fold20 addf (weights S)) (ix2 r 0) = ∑ k : Fin 2560, weights S (ix2 r k) := by
    rw [rowSum_at]
    simp only [fold20_add]
    exact sum_past 19 _
  rw [← e]
  generalize rowSum (fold20 addf (weights S)) = M
  generalize weights S = P
  pointwise []

/-! ## Four heads over the band, the context and their sinks -/

section band

variable (S : FVec Ideal S512x384 .f32) (T : FVec Ideal S512x512 .f32) (g : FVec Ideal S512x1 .f32)

def bandTop : FVec Ideal S512x1 .f32 := maximumf (rowMax (maximumf (fold3 maximumf S) (fold4 maximumf T))) g

def near : FVec Ideal S512x384 .f32 := exp (subf S (broadcastTo S512x384 (bandTop S T g) broadcasts_S512x1_S512x384))

def far : FVec Ideal S512x512 .f32 := exp (subf T (broadcastTo S512x512 (bandTop S T g) broadcasts_S512x1_S512x512))

def bandMass : FVec Ideal S512x1 .f32 :=
  addf (rowSum (addf (fold3 addf (near S T g)) (fold4 addf (far S T g)))) (exp (subf g (bandTop S T g)))

def bandOut (V : FVec Ideal S384x64 .bf16) (W : FVec Ideal S512x64 .bf16) : FVec Ideal S512x64 .f32 :=
  divf (addf (matmul dot_S512x384_S384x64_S512x64_1_0_0_1_n_n none (truncf .bf16 (near S T g) bitsLt_bf16_f32) V (constant S512x64 .f32 0x00000000#32))
      (matmul dot_S512x512_S512x64_S512x64_1_0_0_1_n_n none (truncf .bf16 (far S T g) bitsLt_bf16_f32) W (constant S512x64 .f32 0x00000000#32)))
    (broadcastTo S512x64 (bandMass S T g) broadcasts_S512x1_S512x64)

theorem bandTop_at (r : Fin 512) : bandTop S T g (ix2 r 0) =
    top (fun k : Fin 384 => S (ix2 r k)) (fun k : Fin 512 => T (ix2 r k)) (g (ix2 r 0)) := by
  have e : rowMax (maximumf (fold3 maximumf S) (fold4 maximumf T)) (ix2 r 0) =
      max (Finset.univ.sup fun k : Fin 384 => S (ix2 r k)) (Finset.univ.sup fun k : Fin 512 => T (ix2 r k)) := by
    rw [rowMax_at]
    refine Eq.trans ?_ (congrArg₂ max (sup_past 2 fun k : Fin 384 => S (ix2 r k)) (sup_past 3 fun k : Fin 512 => T (ix2 r k)))
    refine Eq.trans ?_ Finset.sup_sup
    exact Finset.sup_congr rfl fun k _ => congrArg₂ max (fold3_max S r k) (fold4_max T r k)
  unfold bandTop top
  rw [← e]
  generalize rowMax (maximumf (fold3 maximumf S) (fold4 maximumf T)) = M
  pointwise []

theorem near_at (r : Fin 512) (k : Fin 384) : near S T g (ix2 r k) =
    Ideal.exp (S (ix2 r k) - top (fun k : Fin 384 => S (ix2 r k)) (fun k : Fin 512 => T (ix2 r k)) (g (ix2 r 0))) := by
  unfold near
  rw [← bandTop_at]
  generalize bandTop S T g = M
  pointwise []

theorem far_at (r : Fin 512) (k : Fin 512) : far S T g (ix2 r k) =
    Ideal.exp (T (ix2 r k) - top (fun k : Fin 384 => S (ix2 r k)) (fun k : Fin 512 => T (ix2 r k)) (g (ix2 r 0))) := by
  unfold far
  rw [← bandTop_at]
  generalize bandTop S T g = M
  pointwise []

theorem bandMass_at (r : Fin 512) : bandMass S T g (ix2 r 0) =
    mass (fun k : Fin 384 => S (ix2 r k)) (fun k : Fin 512 => T (ix2 r k)) (g (ix2 r 0)) := by
  have e : rowSum (addf (fold3 addf (near S T g)) (fold4 addf (far S T g))) (ix2 r 0) =
      (∑ k : Fin 384, near S T g (ix2 r k)) + ∑ k : Fin 512, far S T g (ix2 r k) := by
    rw [rowSum_at]
    refine Eq.trans ?_ (congrArg₂ (fun a b : EReal => a + b) (sum_past 2 fun k : Fin 384 => near S T g (ix2 r k)) (sum_past 3 fun k : Fin 512 => far S T g (ix2 r k)))
    refine Eq.trans ?_ Finset.sum_add_distrib
    exact Finset.sum_congr rfl fun k _ => congrArg₂ (fun a b : EReal => a + b) (fold3_add _ r k) (fold4_add _ r k)
  unfold mass
  simp only [← near_at, ← far_at]
  rw [← e, ← bandTop_at]
  unfold bandMass
  generalize rowSum (addf (fold3 addf (near S T g)) (fold4 addf (far S T g))) = M
  generalize bandTop S T g = N
  pointwise []

theorem bandOut_at (V : FVec Ideal S384x64 .bf16) (W : FVec Ideal S512x64 .bf16) (r : Fin 512) (d : Fin 64) : bandOut S T g V W (ix2 r d) =
    attend2 (fun k : Fin 384 => S (ix2 r k)) (fun k : Fin 512 => T (ix2 r k)) (g (ix2 r 0)) (fun k => V (ix2 k d)) (fun k => W (ix2 k d)) := by
  unfold bandOut attend2
  simp only [← near_at, ← far_at]
  rw [← bandMass_at]
  generalize bandMass S T g = M
  generalize near S T g = P
  generalize far S T g = Q
  pointwise []

end band

end Cert.Attn
-- ==== Proof.AttnSoft.lean ====
module

public import proofs.«01_k».proof.Proof.AttnRef
public import proofs.«01_k».proof.Proof.AttnVec

/-! The plain attention's steps, entry by entry: its two softmaxes. -/

@[expose] public section

set_option maxRecDepth 16384
set_option maxHeartbeats 4000000

noncomputable section

open Idealize.ShloMosaic Idealize.ShloMosaic.TcCoe Idealize.SL.Sem
open Cert.ReferenceIdeal Cert.ReferenceIdeal.Gen Cert.ReferenceIdeal.Value

namespace Cert.Attn.Ref

/-- The greatest along one axis, started at the least. -/
theorem greatest {s t u : Shape} {a : Fin s.rank} (x : FVec Ideal s .f32) (init : FVec Ideal u .f32) (h' : s.ReducesTo [a] t) (h : s.Reduces [a] t)
    (hu : 0 < u.numel) (h0 : init (Shape.Idx.first hu) = (⊥ : EReal)) (j : t.Idx) {n : ℕ} (hn : n = s.size a) (f : Fin n → s.Idx)
    (hf : ∀ k, h.lift j (k.cast hn) = f k) :
    Host.reduce FloatOps.maximumf x init h' hu j = (Finset.univ.sup fun k => x (f k) : EReal) := by
  haveI : Std.Commutative (FloatOps.maximumf : Ideal .f32 → Ideal .f32 → Ideal .f32) := ⟨fun a b => max_comm (a : EReal) b⟩
  haveI : Std.Associative (FloatOps.maximumf : Ideal .f32 → Ideal .f32 → Ideal .f32) := ⟨fun a b c => max_assoc (a : EReal) b c⟩
  rw [Host.reduce_eq_fold_single FloatOps.maximumf x init h' h hu j, h0]
  subst hn
  obtain rfl : f = h.lift j := funext fun k => (hf k).symm
  rfl

/-- The sum along one axis. -/
theorem summed {s t u : Shape} {a : Fin s.rank} (x : FVec Ideal s .f32) (init : FVec Ideal u .f32) (h' : s.ReducesTo [a] t) (h : s.Reduces [a] t)
    (hu : 0 < u.numel) (h0 : init (Shape.Idx.first hu) = (0 : EReal)) (j : t.Idx) {n : ℕ} (hn : n = s.size a) (f : Fin n → s.Idx)
    (hf : ∀ k, h.lift j (k.cast hn) = f k) :
    Host.reduceAdd x init h' hu j = (∑ k, x (f k) : EReal) := by
  subst hn
  obtain rfl : f = h.lift j := funext fun k => (hf k).symm
  refine (Ideal.hostReduceAdd_single h' h x (init (Shape.Idx.first hu)) j).trans ?_
  rw [h0, zero_add]

/-- The least and whatever else. -/
theorem raised {t : Shape} (x y : FVec Ideal t .f32) (j : t.Idx) (h : x j = (⊥ : EReal)) : maximumf x y j = y j := by
  show max (x j : EReal) (y j) = y j
  rw [h]
  exact bot_sup_eq (α := EReal) _

theorem nought : Ideal.ofBits .f32 0x00000000#32 = 0 := by simp [Ideal.ofBits, Ideal.ieee]

theorem lift4 (hr : S2x8x2048x2560.Reduces [3] S2x8x2048) (b : Fin 2) (h : Fin 8) (q : Fin 2048) (k : Fin 2560) :
    hr.lift (ix3 b h q) (k.cast rfl) = ix4 b h q k := by
  funext a
  apply Fin.ext
  fin_cases a <;> rfl

theorem reduces4 : S2x8x2048x2560.Reduces [3] S2x8x2048 := by decide

theorem peak4_at (s : FVec Ideal S2x8x2048x2560 .f32) (b : Fin 2) (h : Fin 8) (q : Fin 2048) :
    peak4 s (ix3 b h q) = Finset.univ.sup fun k => s (ix4 b h q k) :=
  (raised _ _ _ bottom).trans (greatest s (constant (F := Ideal) S_ .f32 0xFF800000#32) reducesTo_S2x8x2048x2560_S2x8x2048_d3 reduces4 h_S_ bottom (ix3 b h q) rfl (fun k : Fin 2560 => ix4 b h q k) (lift4 _ b h q))

theorem total4_at (s : FVec Ideal S2x8x2048x2560 .f32) (b : Fin 2) (h : Fin 8) (q : Fin 2048) :
    total4 s (ix3 b h q) = ∑ k, s (ix4 b h q k) :=
  summed s (constant (F := Ideal) S_ .f32 0x00000000#32) reducesTo_S2x8x2048x2560_S2x8x2048_d3 reduces4 h_S_ nought (ix3 b h q) rfl (fun k : Fin 2560 => ix4 b h q k) (lift4 _ b h q)

theorem exps4_at (s : FVec Ideal S2x8x2048x2560 .f32) (p : FVec Ideal S2x8x2048 .f32) (b : Fin 2) (h : Fin 8) (q : Fin 2048) (k : Fin 2560) :
    exps4 s p (ix4 b h q k) = Ideal.exp (s (ix4 b h q k) - p (ix3 b h q)) := by
  unfold exps4
  clean_types
  pointwise []

theorem part4_at (s : FVec Ideal S2x8x2048x2560 .f32) (p : FVec Ideal S2x8x2048 .f32) (b : Fin 2) (h : Fin 8) (q : Fin 2048) (k : Fin 2560) :
    part4 s p (ix4 b h q k) = Ideal.div (s (ix4 b h q k)) (p (ix3 b h q)) := by
  unfold part4
  clean_types
  pointwise []

theorem soft4_at (s : FVec Ideal S2x8x2048x2560 .f32) (b : Fin 2) (h : Fin 8) (q : Fin 2048) (k : Fin 2560) :
    soft4 s (ix4 b h q k) = Ideal.div (Ideal.exp (s (ix4 b h q k) - Finset.univ.sup fun k => s (ix4 b h q k)))
      (∑ k, Ideal.exp (s (ix4 b h q k) - Finset.univ.sup fun k => s (ix4 b h q k))) := by
  unfold soft4
  rw [part4_at, total4_at]
  simp only [exps4_at, peak4_at]

theorem lift6 (hr : S2x16x2x4x128x897.Reduces [5] S2x16x2x4x128) (b : Fin 2) (n : Fin 16) (g : Fin 2) (h : Fin 4) (r : Fin 128) (k : Fin 897) :
    hr.lift (ix5 b n g h r) (k.cast rfl) = ix6 b n g h r k := by
  funext a
  apply Fin.ext
  fin_cases a <;> rfl

theorem reduces6 : S2x16x2x4x128x897.Reduces [5] S2x16x2x4x128 := by decide

theorem peak6_at (s : FVec Ideal S2x16x2x4x128x897 .f32) (b : Fin 2) (n : Fin 16) (g : Fin 2) (h : Fin 4) (r : Fin 128) :
    peak6 s (ix5 b n g h r) = Finset.univ.sup fun k => s (ix6 b n g h r k) :=
  (raised _ _ _ bottom).trans (greatest s (constant (F := Ideal) S_ .f32 0xFF800000#32) reducesTo_S2x16x2x4x128x897_S2x16x2x4x128_d5 reduces6 h_S_ bottom (ix5 b n g h r) rfl (fun k : Fin 897 => ix6 b n g h r k) (lift6 _ b n g h r))

theorem total6_at (s : FVec Ideal S2x16x2x4x128x897 .f32) (b : Fin 2) (n : Fin 16) (g : Fin 2) (h : Fin 4) (r : Fin 128) :
    total6 s (ix5 b n g h r) = ∑ k, s (ix6 b n g h r k) :=
  summed s (constant (F := Ideal) S_ .f32 0x00000000#32) reducesTo_S2x16x2x4x128x897_S2x16x2x4x128_d5 reduces6 h_S_ nought (ix5 b n g h r) rfl (fun k : Fin 897 => ix6 b n g h r k) (lift6 _ b n g h r)

theorem exps6_at (s : FVec Ideal S2x16x2x4x128x897 .f32) (p : FVec Ideal S2x16x2x4x128 .f32) (b : Fin 2) (n : Fin 16) (g : Fin 2) (h : Fin 4) (r : Fin 128) (k : Fin 897) :
    exps6 s p (ix6 b n g h r k) = Ideal.exp (s (ix6 b n g h r k) - p (ix5 b n g h r)) := by
  unfold exps6
  clean_types
  pointwise []

theorem part6_at (s : FVec Ideal S2x16x2x4x128x897 .f32) (p : FVec Ideal S2x16x2x4x128 .f32) (b : Fin 2) (n : Fin 16) (g : Fin 2) (h : Fin 4) (r : Fin 128) (k : Fin 897) :
    part6 s p (ix6 b n g h r k) = Ideal.div (s (ix6 b n g h r k)) (p (ix5 b n g h r)) := by
  unfold part6
  clean_types
  pointwise []

theorem soft6_at (s : FVec Ideal S2x16x2x4x128x897 .f32) (b : Fin 2) (n : Fin 16) (g : Fin 2) (h : Fin 4) (r : Fin 128) (k : Fin 897) :
    soft6 s (ix6 b n g h r k) = Ideal.div (Ideal.exp (s (ix6 b n g h r k) - Finset.univ.sup fun k => s (ix6 b n g h r k)))
      (∑ k, Ideal.exp (s (ix6 b n g h r k) - Finset.univ.sup fun k => s (ix6 b n g h r k))) := by
  unfold soft6
  rw [part6_at, total6_at]
  simp only [exps6_at, peak6_at]

end Cert.Attn.Ref
-- ==== Proof.AttnTile.lean ====
module

public import proofs.«01_k».proof.Proof.AttnVec
public import proofs.«01_k».proof.Proof.Gen.KernelIdeal.Frame

/-! The scores of the banded attention, and its tiles entry by entry. -/

@[expose] public section

set_option maxRecDepth 16384

noncomputable section

open Idealize.ShloMosaic Idealize.ShloMosaic.TcCoe
open Cert.KernelIdeal Cert.KernelIdeal.Gen

namespace Cert.Attn

/-- The score of a pair outside the band. -/
abbrev outside : EReal := Ideal.ofBits .f32 0xF149F2CA#32

def lowWord (b : BitVec 32) : BitVec 32 := Scalar.muli (Scalar.subi 1#32 b) 128#32

def highWord (b : BitVec 32) : BitVec 32 := Scalar.subi (Scalar.muli (Scalar.subi 17#32 b) 128#32) 1#32

def queryPos : IVec S512x384 32 := andi (iota .tc S512x384 32 [0] iota_S512x384_d0_w32) (broadcast S512x384 127#32)

def keyPos : IVec S512x384 32 := iota .tc S512x384 32 [1] iota_S512x384_d1_w32

def bandMask (b : BitVec 32) : IVec S512x384 1 :=
  andi (cmpi .sge keyPos (maxsi queryPos (broadcast S512x384 (lowWord b))))
    (cmpi .sle keyPos (minsi (addi queryPos (broadcast S512x384 256#32)) (broadcast S512x384 (highWord b))))

def bandScores (b : BitVec 32) (Q : FVec Ideal S512x64 .bf16) (K : Vec Ideal S1x384x64 .bf16) : FVec Ideal S512x384 .f32 :=
  select (bandMask b) (matmul dot_S512x64_S384x64_S512x384_1_1_0_0_n_n none Q (shapeCast S384x64 K shapeCasts_S1x384x64_S384x64 : FVec Ideal S384x64 .bf16) (constant S512x384 .f32 0x00000000#32))
    (broadcast S512x384 (Scalar.ofBits .f32 0xF149F2CA#32 : Ideal .f32))

/-- The query position lies within the window of the key position, and the key within the sequence. -/
def InBand (n t k : ℕ) : Prop := t ≤ k ∧ k ≤ t + 256 ∧ 128 ≤ 128 * n + k ∧ 128 * n + k < 2176

instance (n t k : ℕ) : Decidable (InBand n t k) := by unfold InBand; infer_instance

theorem query_word : ∀ r : Fin 512, (IntOp.andi (BitVec.ofNat 32 r.val) 127#32).toInt = ((r.val % 128 : ℕ) : ℤ) := by decide +kernel

theorem query_word' : ∀ r : Fin 512, (IntOp.addi (IntOp.andi (BitVec.ofNat 32 r.val) 127#32) 256#32).toInt = ((r.val % 128 : ℕ) : ℤ) + 256 := by
  decide +kernel

theorem key_word : ∀ k : Fin 384, (BitVec.ofNat 32 k.val).toInt = (k.val : ℤ) := by decide +kernel

theorem low_word : ∀ n : Fin 16, (lowWord (BitVec.ofNat 32 n.val)).toInt = (1 - (n.val : ℤ)) * 128 := by decide +kernel

theorem high_word : ∀ n : Fin 16, (highWord (BitVec.ofNat 32 n.val)).toInt = (17 - (n.val : ℤ)) * 128 - 1 := by decide +kernel

theorem ofBool_and' (p q : Bool) : BitVec.ofBool p &&& BitVec.ofBool q = BitVec.ofBool (p && q) := by
  cases p <;> cases q <;> rfl

theorem mask_word (n : Fin 16) (r : Fin 512) (k : Fin 384) :
    IntOp.andi
        (IntOp.cmpi CmpIPredicate.sge (BitVec.ofNat 32 k.val)
          (IntOp.maxsi (IntOp.andi (BitVec.ofNat 32 r.val) 127#32) (lowWord (BitVec.ofNat 32 n.val))))
        (IntOp.cmpi CmpIPredicate.sle (BitVec.ofNat 32 k.val)
          (IntOp.minsi (IntOp.addi (IntOp.andi (BitVec.ofNat 32 r.val) 127#32) 256#32) (highWord (BitVec.ofNat 32 n.val))))
      = BitVec.ofBool (decide (InBand n.val (r.val % 128) k.val)) := by
  have e1 := query_word r
  have e2 := query_word' r
  have e3 := key_word k
  have e4 := low_word n
  have e5 := high_word n
  generalize IntOp.addi (IntOp.andi (BitVec.ofNat 32 r.val) 127#32) 256#32 = p at *
  generalize IntOp.andi (BitVec.ofNat 32 r.val) 127#32 = q at *
  generalize lowWord (BitVec.ofNat 32 n.val) = u at *
  generalize highWord (BitVec.ofNat 32 n.val) = v at *
  generalize BitVec.ofNat 32 k.val = w at *
  unfold IntOp.cmpi IntOp.maxsi IntOp.minsi IntOp.andi
  dsimp only
  rw [ofBool_and']
  congr 1
  rw [← Bool.decide_coe (_ && _)]
  apply decide_eq_decide.mpr
  unfold InBand
  simp only [Bool.and_eq_true, BitVec.sle_eq_decide, BitVec.slt_eq_decide, decide_eq_true_eq]
  split <;> split <;> omega

theorem bandScores_at (n : Fin 16) (Q : FVec Ideal S512x64 .bf16) (K : Vec Ideal S1x384x64 .bf16) (r : Fin 512) (k : Fin 384) :
    bandScores (BitVec.ofNat 32 n.val) Q K (ix2 r k) =
      if InBand n.val (r.val % 128) k.val then ∑ e : Fin 64, Q (ix2 r e) * K (ix3 0 k e) else outside := by
  have h := mask_word n r k
  unfold bandScores bandMask queryPos keyPos
  pointwise []
  rw [h]
  by_cases hb : InBand n.val (r.val % 128) k.val
  · rw [if_pos hb, decide_eq_true hb]
    rfl
  · rw [if_neg hb, decide_eq_false hb]
    rfl

def ctxScores (Q : FVec Ideal S512x64 .bf16) (C : FVec Ideal S512x64 .bf16) : FVec Ideal S512x512 .f32 :=
  matmul dot_S512x64_S512x64_S512x512_1_1_0_0_n_n none Q C (constant S512x512 .f32 0x00000000#32)

theorem ctxScores_at (Q : FVec Ideal S512x64 .bf16) (C : FVec Ideal S512x64 .bf16) (r k : Fin 512) :
    ctxScores Q C (ix2 r k) = ∑ e : Fin 64, Q (ix2 r e) * C (ix2 k e) := by
  unfold ctxScores
  pointwise []

/-- The four query heads of a group, one below the other. -/
def stackQ (X : FVec Ideal S512x512 .bf16) (a b0 b1 b2 b3 : ℕ) (h : S512x512.Slices ![a, 0] S128x512)
    (h0 : S128x512.Slices ![0, b0] S128x64) (h1 : S128x512.Slices ![0, b1] S128x64) (h2 : S128x512.Slices ![0, b2] S128x64)
    (h3 : S128x512.Slices ![0, b3] S128x64) : FVec Ideal S512x64 .bf16 :=
  concatenate S512x64 0 [⟨S128x64, extractStridedSlice S128x64 ![0, b0] (extractStridedSlice S128x512 ![a, 0] X h) h0⟩,
    ⟨S128x64, extractStridedSlice S128x64 ![0, b1] (extractStridedSlice S128x512 ![a, 0] X h) h1⟩,
    ⟨S128x64, extractStridedSlice S128x64 ![0, b2] (extractStridedSlice S128x512 ![a, 0] X h) h2⟩,
    ⟨S128x64, extractStridedSlice S128x64 ![0, b3] (extractStridedSlice S128x512 ![a, 0] X h) h3⟩]
    concatenates_S128x64_S128x64_S128x64_S128x64_S512x64_d0

theorem stackQ_at (X : FVec Ideal S512x512 .bf16) (a b0 b1 b2 b3 : ℕ) (h h0 h1 h2 h3) (r : Fin 512) (e : Fin 64) (ha : a ≤ 384) (hb : b0 ≤ 256)
    (e1 : b1 = b0 + 64) (e2 : b2 = b0 + 128) (e3 : b3 = b0 + 192) :
    stackQ X a b0 b1 b2 b3 h h0 h1 h2 h3 (ix2 r e) = X (ix2 ⟨a + r.val % 128, by omega⟩ ⟨b0 + r.val / 128 * 64 + e.val, by omega⟩) := by
  subst e1 e2 e3
  unfold stackQ
  pointwise []
  split_ifs <;> exact congrArg₂ (fun a b => X (ix2 a b)) (Fin.ext (by dsimp only; omega)) (Fin.ext (by dsimp only; omega))

def sinkCol (s0 s1 s2 s3 : Elt Ideal .f32) : FVec Ideal S512x1 .f32 :=
  concatenate S512x1 0 [⟨S128x1, broadcast S128x1 s0⟩, ⟨S128x1, broadcast S128x1 s1⟩, ⟨S128x1, broadcast S128x1 s2⟩,
    ⟨S128x1, broadcast S128x1 s3⟩] concatenates_S128x1_S128x1_S128x1_S128x1_S512x1_d0

theorem sinkCol_at (s0 s1 s2 s3 : Elt Ideal .f32) (r : Fin 512) : sinkCol s0 s1 s2 s3 (ix2 r 0) =
    if r.val < 128 then s0 else if r.val < 256 then s1 else if r.val < 384 then s2 else s3 := by
  unfold sinkCol
  pointwise []
  split_ifs <;> first | rfl | omega

/-! ## Loads -/

theorem load_band (arg : Memref sig .tc .vmem S1x2304x128 .bf16) (harg : arg.IsWhole) (x : Vec Ideal S1x2304x128 .bf16) (off : Fin 3 → ℕ)
    (h : ∀ a, off a + S1x384x64.size a ≤ S1x2304x128.size a) (n g : ℕ) (hn : n < 16) (hg : g < 2) (ho : off = ![0, 128 * n, 64 * g]) (k : Fin 384) (e : Fin 64) :
    View.readAt (Elt Ideal) arg.view (Rect.unit (s := S1x2304x128) off S1x384x64.size h).toLoadRect (harg.unread x) (ix3 0 k e) =
      x (ix3 0 ⟨128 * n + k.val, by omega⟩ ⟨64 * g + e.val, by omega⟩) := by
  subst ho
  simp (disch := decide) only [View.readAt_eq_ld, Memref.IsWhole.read_unread]
  refine congrArg x (funext fun a => Fin.ext ?_)
  fin_cases a
  · simp
  · simp [ix3]
  · simp [ix3]

theorem load_query (arg : Memref sig .tc .vmem S512x512 .bf16) (harg : arg.IsWhole) (x : Vec Ideal S512x512 .bf16)
    (h : ∀ a, (![0, 0] : Fin 2 → ℕ) a + S512x512.size a ≤ S512x512.size a) :
    View.readAt (Elt Ideal) arg.view (Rect.unit (s := S512x512) ![0, 0] S512x512.size h).toLoadRect (harg.unread x) = x := by
  simp (disch := decide) only [View.readAt_eq_ld, Memref.IsWhole.read_unread]
  refine funext fun y => congrArg x (funext fun a => Fin.ext ?_)
  fin_cases a <;> simp

theorem load_ctx (arg : Memref sig .tc .vmem S1x512x128 .bf16) (harg : arg.IsWhole) (x : Vec Ideal S1x512x128 .bf16)
    (h : ∀ a, (![0, 0, 0] : Fin 3 → ℕ) a + S1x512x128.size a ≤ S1x512x128.size a) :
    View.readAt (Elt Ideal) arg.view (Rect.unit (s := S1x512x128) ![0, 0, 0] S1x512x128.size h).toLoadRect (harg.unread x) = x := by
  simp (disch := decide) only [View.readAt_eq_ld, Memref.IsWhole.read_unread]
  refine funext fun y => congrArg x (funext fun a => Fin.ext ?_)
  fin_cases a <;> simp

theorem load_sink (arg : Memref sig .tc .smem S8 .f32) (harg : arg.IsWhole) (x : Vec Ideal S8 .f32) (s : ℕ) (hs : s < 8)
    (h : ∀ a, (![s] : Fin 1 → ℕ) a + S1.size a ≤ S8.size a) (h' : 0 < S1.numel) :
    View.readAt (Elt Ideal) arg.view (Rect.unit (s := S8) ![s] S1.size h).toLoadRect (harg.unread x) (Shape.Idx.first h') = x (ix1 ⟨s, hs⟩) := by
  simp (disch := decide) only [View.readAt_eq_ld, Memref.IsWhole.read_unread]
  refine congrArg x (funext fun a => Fin.ext ?_)
  fin_cases a
  simp [ix1]

/-- The banded attention of one window, entry by entry. -/
def bandAt (x0 : Vec Ideal S8 .f32) (x4 : Vec Ideal S512x512 .bf16) (x5 x6 : Vec Ideal S1x2304x128 .bf16) (x7 x8 : Vec Ideal S1x512x128 .bf16)
    (n : Fin 16) (r l : Fin 512) : EReal :=
  attend2
    (fun k : Fin 384 => if InBand n.val (r.val % 128) k.val then
      ∑ e : Fin 64, x4 (ix2 r ⟨l.val / 64 * 64 + e.val, by omega⟩) * x5 (ix3 0 ⟨128 * n.val + k.val, by omega⟩ ⟨64 * (l.val / 256) + e.val, by omega⟩)
      else outside)
    (fun k : Fin 512 => ∑ e : Fin 64, x4 (ix2 r ⟨l.val / 64 * 64 + e.val, by omega⟩) * x7 (ix3 0 k ⟨64 * (l.val / 256) + e.val, by omega⟩))
    (x0 (ix1 ⟨l.val / 64, by omega⟩))
    (fun k => x6 (ix3 0 ⟨128 * n.val + k.val, by omega⟩ ⟨64 * (l.val / 256) + l.val % 64, by omega⟩))
    (fun k => x8 (ix3 0 k ⟨64 * (l.val / 256) + l.val % 64, by omega⟩))

theorem attend2_congr {n n' : ℕ} {s s' : Fin n → EReal} {t t' : Fin n' → EReal} {g g' : EReal} {v v' : Fin n → EReal} {w w' : Fin n' → EReal}
    (hs : ∀ k, s k = s' k) (ht : ∀ k, t k = t' k) (hg : g = g') (hv : ∀ k, v k = v' k) (hw : ∀ k, w k = w' k) :
    attend2 s t g v w = attend2 s' t' g' v' w' := by
  rw [funext hs, funext ht, hg, funext hv, funext hw]

/-- One stored tile of the banded attention, from what was loaded. -/
theorem tile_of (x0 : Vec Ideal S8 .f32) (x4 : Vec Ideal S512x512 .bf16) (x5 x6 : Vec Ideal S1x2304x128 .bf16) (x7 x8 : Vec Ideal S1x512x128 .bf16)
    (K V : Vec Ideal S1x384x64 .bf16) (s0 s1 s2 s3 : Elt Ideal .f32)
    (a b0 b1 b2 b3 cg cg' o : ℕ) (h h0 h1 h2 h3 hc hd ho hbits)
    (n : Fin 16) (r l : Fin 512) (z : S128x64.Idx)
    (hr : r.val = a + (z 0).val) (hl : l.val = b0 + o / 2 + (z 1).val)
    (hn : a ≤ 384 ∧ a % 128 = 0 ∧ b0 ≤ 256 ∧ b0 % 256 = 0 ∧ b1 = b0 + 64 ∧ b2 = b0 + 128 ∧ b3 = b0 + 192 ∧ cg = b0 / 4 ∧ cg' = b0 / 4 ∧ o ≤ 384 ∧ o % 128 = 0)
    (hK : ∀ (k : Fin 384) (e : Fin 64), K (ix3 0 k e) = x5 (ix3 0 ⟨128 * n.val + k.val, by omega⟩ ⟨64 * (l.val / 256) + e.val, by omega⟩))
    (hV : ∀ (k : Fin 384) (e : Fin 64), V (ix3 0 k e) = x6 (ix3 0 ⟨128 * n.val + k.val, by omega⟩ ⟨64 * (l.val / 256) + e.val, by omega⟩))
    (hs : (if o + (z 0).val < 128 then s0 else if o + (z 0).val < 256 then s1 else if o + (z 0).val < 384 then s2 else s3) = x0 (ix1 ⟨l.val / 64, by omega⟩)) :
    (truncf .bf16 (extractStridedSlice S128x64 ![o, 0]
      (bandOut (bandScores (BitVec.ofNat 32 n.val) (stackQ x4 a b0 b1 b2 b3 h h0 h1 h2 h3) K)
        (ctxScores (stackQ x4 a b0 b1 b2 b3 h h0 h1 h2 h3)
          (extractStridedSlice S512x64 ![0, cg] (shapeCast S512x128 x7 shapeCasts_S1x512x128_S512x128 : FVec Ideal S512x128 .bf16) hc))
        (sinkCol s0 s1 s2 s3)
        (shapeCast S384x64 V shapeCasts_S1x384x64_S384x64 : FVec Ideal S384x64 .bf16)
        (extractStridedSlice S512x64 ![0, cg'] (shapeCast S512x128 x8 shapeCasts_S1x512x128_S512x128 : FVec Ideal S512x128 .bf16) hd))
        ho : FVec Ideal S128x64 .f32) hbits : FVec Ideal S128x64 .bf16) z
      = bandAt x0 x4 x5 x6 x7 x8 n r l := by
  obtain ⟨ha, ha', hb0, hb0', hb1, hb2, hb3, hcg, hcg', hoo, ho'⟩ := hn
  have hz0 := (z 0).isLt
  have hz1 := (z 1).isLt
  change (z 0).val < 128 at hz0
  change (z 1).val < 64 at hz1
  have hr' : o + (z 0).val < 512 := by omega
  have e : ∀ B : FVec Ideal S512x64 .f32, (truncf .bf16 (extractStridedSlice S128x64 ![o, 0] B ho : FVec Ideal S128x64 .f32) hbits : FVec Ideal S128x64 .bf16) z
      = B (ix2 ⟨o + (z 0).val, hr'⟩ ⟨(z 1).val, hz1⟩) := by
    intro B
    refine congrArg B (funext fun a => Fin.ext ?_)
    fin_cases a
    · rfl
    · exact Nat.zero_add _
  refine (e _).trans ((bandOut_at _ _ _ _ _ _ _).trans ?_)
  have hlg : 64 * (l.val / 256) = b0 / 4 := by omega
  have hld : l.val % 64 = (z 1).val := by omega
  have hQ : ∀ e : Fin 64, stackQ x4 a b0 b1 b2 b3 h h0 h1 h2 h3 (ix2 ⟨o + (z 0).val, hr'⟩ e) = x4 (ix2 r ⟨l.val / 64 * 64 + e.val, by omega⟩) := by
    intro e
    rw [stackQ_at _ _ _ _ _ _ _ _ _ _ _ _ _ (by omega) hb0 hb1 hb2 hb3]
    exact congrArg₂ (fun a b => x4 (ix2 a b)) (Fin.ext (by dsimp only; omega)) (Fin.ext (by dsimp only; omega))
  refine attend2_congr (fun k => ?_) (fun k => ?_) ?_ (fun k => ?_) (fun k => ?_)
  · rw [bandScores_at]
    have hrm : (o + (z 0).val) % 128 = r.val % 128 := by omega
    dsimp only
    rw [hrm]
    refine if_congr Iff.rfl (Finset.sum_congr rfl fun e _ => ?_) rfl
    rw [hQ, hK]
  · rw [ctxScores_at]
    refine Finset.sum_congr rfl fun e _ => ?_
    rw [hQ]
    congr 1
    pointwise []
    exact congrArg (fun b => x7 (ix3 0 k b)) (Fin.ext (by dsimp only; omega))
  · rw [sinkCol_at]
    exact hs
  · pointwise []
    refine (hV k ⟨(z 1).val, hz1⟩).trans ?_
    exact congrArg (fun b => x6 (ix3 0 ⟨128 * n.val + k.val, by omega⟩ b)) (Fin.ext (by dsimp only; omega))
  · pointwise []
    exact congrArg (fun b => x8 (ix3 0 k b)) (Fin.ext (by dsimp only; omega))

/-- One stored tile of the banded attention. -/
theorem tile (arg2 : Memref sig .tc .smem S8 .f32) (harg2 : arg2.IsWhole) (arg6 : Memref sig .tc .vmem S512x512 .bf16) (harg6 : arg6.IsWhole)
    (arg7 : Memref sig .tc .vmem S1x2304x128 .bf16) (harg7 : arg7.IsWhole) (arg8 : Memref sig .tc .vmem S1x2304x128 .bf16) (harg8 : arg8.IsWhole)
    (arg9 : Memref sig .tc .vmem S1x512x128 .bf16) (harg9 : arg9.IsWhole) (arg10 : Memref sig .tc .vmem S1x512x128 .bf16) (harg10 : arg10.IsWhole)
    (x0 : Vec Ideal S8 .f32) (x4 : Vec Ideal S512x512 .bf16) (x5 x6 : Vec Ideal S1x2304x128 .bf16) (x7 x8 : Vec Ideal S1x512x128 .bf16)
    {b : BitVec 32} {off off' : Fin 3 → ℕ} {a b0 b1 b2 b3 cg o s0 s1 s2 s3 : ℕ} {h h0 h1 h2 h3 hX hK hV hC hD hc ho hi t0 t1 t2 t3 p0 p1 p2 p3 hbits}
    (n : Fin 16) (r l : Fin 512) (z : S128x64.Idx)
    (hr : r.val = a + (z 0).val) (hl : 512 + l.val = 512 + (b0 + o / 2) + (z 1).val)
    (hb : b = BitVec.ofNat 32 n.val) (hoff : off = ![0, 128 * n.val, cg]) (hoff' : off' = ![0, 128 * n.val, cg])
    (hn : a ≤ 384 ∧ a % 128 = 0 ∧ b0 ≤ 256 ∧ b0 % 256 = 0 ∧ b1 = b0 + 64 ∧ b2 = b0 + 128 ∧ b3 = b0 + 192 ∧ cg = b0 / 4 ∧ o ≤ 384 ∧ o % 128 = 0
      ∧ s0 = b0 / 64 ∧ s1 = s0 + 1 ∧ s2 = s0 + 2 ∧ s3 = s0 + 3) :
    (truncf .bf16 (extractStridedSlice S128x64 ![o, 0]
      (bandOut
        (bandScores b
          (stackQ (View.readAt (Elt Ideal) arg6.view (Rect.unit (s := S512x512) ![0, 0] S512x512.size hX).toLoadRect (harg6.unread x4)) a b0 b1 b2 b3 h h0 h1 h2 h3)
          (View.readAt (Elt Ideal) arg7.view (Rect.unit (s := S1x2304x128) off S1x384x64.size hK).toLoadRect (harg7.unread x5)))
        (ctxScores
          (stackQ (View.readAt (Elt Ideal) arg6.view (Rect.unit (s := S512x512) ![0, 0] S512x512.size hX).toLoadRect (harg6.unread x4)) a b0 b1 b2 b3 h h0 h1 h2 h3)
          (extractStridedSlice S512x64 ![0, cg]
            (shapeCast S512x128 (View.readAt (Elt Ideal) arg9.view (Rect.unit (s := S1x512x128) ![0, 0, 0] S1x512x128.size hC).toLoadRect (harg9.unread x7)) shapeCasts_S1x512x128_S512x128 : FVec Ideal S512x128 .bf16) hc))
        (sinkCol
          (View.readAt (Elt Ideal) arg2.view (Rect.unit (s := S8) ![s0] S1.size t0).toLoadRect (harg2.unread x0) (Shape.Idx.first p0))
          (View.readAt (Elt Ideal) arg2.view (Rect.unit (s := S8) ![s1] S1.size t1).toLoadRect (harg2.unread x0) (Shape.Idx.first p1))
          (View.readAt (Elt Ideal) arg2.view (Rect.unit (s := S8) ![s2] S1.size t2).toLoadRect (harg2.unread x0) (Shape.Idx.first p2))
          (View.readAt (Elt Ideal) arg2.view (Rect.unit (s := S8) ![s3] S1.size t3).toLoadRect (harg2.unread x0) (Shape.Idx.first p3)))
        (shapeCast S384x64 (View.readAt (Elt Ideal) arg8.view (Rect.unit (s := S1x2304x128) off' S1x384x64.size hV).toLoadRect (harg8.unread x6)) hi : FVec Ideal S384x64 .bf16)
        (extractStridedSlice S512x64 ![0, cg]
          (shapeCast S512x128 (View.readAt (Elt Ideal) arg10.view (Rect.unit (s := S1x512x128) ![0, 0, 0] S1x512x128.size hD).toLoadRect (harg10.unread x8)) shapeCasts_S1x512x128_S512x128 : FVec Ideal S512x128 .bf16) hc)) ho : FVec Ideal S128x64 .f32) hbits : FVec Ideal S128x64 .bf16) z
      = bandAt x0 x4 x5 x6 x7 x8 n r l := by
  obtain ⟨ha, ha', hb0, hb0', hb1, hb2, hb3, hcg, hoo, ho', hs0, hs1, hs2, hs3⟩ := hn
  have hz0 := (z 0).isLt
  have hz1 := (z 1).isLt
  change (z 0).val < 128 at hz0
  change (z 1).val < 64 at hz1
  have hg : ∀ _ : ℕ, cg = 64 * (l.val / 256) := by omega
  subst hb
  rw [load_query, load_ctx, load_ctx]
  refine tile_of x0 x4 x5 x6 x7 x8 _ _ _ _ _ _ a b0 b1 b2 b3 cg cg o h h0 h1 h2 h3 _ _ _ _ n r l z hr (by omega)
    ⟨ha, ha', hb0, hb0', hb1, hb2, hb3, hcg, hcg, hoo, ho'⟩ ?_ ?_ ?_
  · exact load_band arg7 harg7 x5 off hK n.val (l.val / 256) n.isLt (by omega) (by rw [hoff, hg 0])
  · exact load_band arg8 harg8 x6 off' hV n.val (l.val / 256) n.isLt (by omega) (by rw [hoff', hg 0])
  · rw [load_sink arg2 harg2 x0 s0 (by omega), load_sink arg2 harg2 x0 s1 (by omega), load_sink arg2 harg2 x0 s2 (by omega), load_sink arg2 harg2 x0 s3 (by omega)]
    split_ifs <;> exact congrArg (fun b => x0 (ix1 b)) (Fin.ext (by dsimp only at *; omega))

theorem block_word (i : grid0.Coords) (r : Fin 512) (b : BitVec 32) (hb : b.toNat = r.val / 128) (h : 4 * (i 1).val + r.val / 128 < 16) :
    Scalar.addi (Scalar.muli (BitVec.ofNat 32 (i 1).val) 4#32) b = BitVec.ofNat 32 (⟨4 * (i 1).val + r.val / 128, h⟩ : Fin 16).val := by
  obtain rfl : b = BitVec.ofNat 32 (r.val / 128) := by rw [← hb]; simp
  have e : ∀ m j : Fin 4, Scalar.addi (Scalar.muli (BitVec.ofNat 32 m.val) 4#32) (BitVec.ofNat 32 j.val) = BitVec.ofNat 32 (4 * m.val + j.val) := by
    decide +kernel
  exact e (i 1) ⟨r.val / 128, by omega⟩

theorem start_word : ∀ n : Fin 16, (Scalar.indexCast (Scalar.muli (BitVec.ofNat 32 n.val) 128#32) : Index).toNat = 128 * n.val := by decide +kernel

theorem start_left (i : grid0.Coords) (r : Fin 512) (b : BitVec 32) (hb : b.toNat = r.val / 128) (h : 4 * (i 1).val + r.val / 128 < 16) :
    k0_off1 i b = ![0, 128 * (⟨4 * (i 1).val + r.val / 128, h⟩ : Fin 16).val, 0] := by
  rw [← start_word, ← block_word i r b hb h]
  rfl

theorem start_right (i : grid0.Coords) (r : Fin 512) (b : BitVec 32) (hb : b.toNat = r.val / 128) (h : 4 * (i 1).val + r.val / 128 < 16) :
    k0_off2 i b = ![0, 128 * (⟨4 * (i 1).val + r.val / 128, h⟩ : Fin 16).val, 64] := by
  rw [← start_word, ← block_word i r b hb h]
  rfl

/-! ## The heads over all keys -/

abbrev cols (a : ℕ) (X : FVec Ideal S512x1024 .bf16) (h : S512x1024.Slices ![0, a] S512x128) : FVec Ideal S512x128 .bf16 :=
  extractStridedSlice S512x128 ![0, a] X h

def headScores (Q : FVec Ideal S512x128 .bf16) (K : Vec Ideal S1x2560x128 .bf16) : FVec Ideal S512x2560 .f32 :=
  matmul dot_S512x128_S2560x128_S512x2560_1_1_0_0_n_n none Q (shapeCast S2560x128 K shapeCasts_S1x2560x128_S2560x128 : FVec Ideal S2560x128 .bf16)
    (constant S512x2560 .f32 0x00000000#32)

theorem headScores_at (Q : FVec Ideal S512x128 .bf16) (K : Vec Ideal S1x2560x128 .bf16) (r : Fin 512) (k : Fin 2560) :
    headScores Q K (ix2 r k) = ∑ e : Fin 128, Q (ix2 r e) * K (ix3 0 k e) := by
  unfold headScores
  pointwise []

def lowHalf : IVec S512x128 1 := cmpi .slt (iota .tc S512x128 32 [1] iota_S512x128_d1_w32) (broadcast S512x128 64#32)

theorem half_word : ∀ l : Fin 128, IntOp.cmpi CmpIPredicate.slt (BitVec.ofNat 32 l.val) 64#32 = BitVec.ofBool (decide (l.val < 64)) := by decide +kernel

theorem lowHalf_at (x y : FVec Ideal S512x128 .f32) (r : Fin 512) (l : Fin 128) :
    select lowHalf x y (ix2 r l) = if l.val < 64 then x (ix2 r l) else y (ix2 r l) := by
  have h := half_word l
  unfold lowHalf
  pointwise []
  rw [h]
  by_cases hb : l.val < 64
  · rw [if_pos hb, decide_eq_true hb]
    rfl
  · rw [if_neg hb, decide_eq_false hb]
    rfl

theorem load_all (arg : Memref sig .tc .vmem S512x1024 .bf16) (harg : arg.IsWhole) (x : Vec Ideal S512x1024 .bf16)
    (h : ∀ a, (![0, 0] : Fin 2 → ℕ) a + S512x1024.size a ≤ S512x1024.size a) :
    View.readAt (Elt Ideal) arg.view (Rect.unit (s := S512x1024) ![0, 0] S512x1024.size h).toLoadRect (harg.unread x) = x := by
  simp (disch := decide) only [View.readAt_eq_ld, Memref.IsWhole.read_unread]
  refine funext fun y => congrArg x (funext fun a => Fin.ext ?_)
  fin_cases a <;> simp

theorem load_key (arg : Memref sig .tc .vmem S1x2560x1024 .bf16) (harg : arg.IsWhole) (x : Vec Ideal S1x2560x1024 .bf16) (c : ℕ) (hc : c ≤ 896)
    (h : ∀ a, (![0, 0, c] : Fin 3 → ℕ) a + S1x2560x128.size a ≤ S1x2560x1024.size a) (k : Fin 2560) (e : Fin 128) :
    View.readAt (Elt Ideal) arg.view (Rect.unit (s := S1x2560x1024) ![0, 0, c] S1x2560x128.size h).toLoadRect (harg.unread x) (ix3 0 k e)
      = x (ix3 0 k ⟨c + e.val, by omega⟩) := by
  simp (disch := decide) only [View.readAt_eq_ld, Memref.IsWhole.read_unread]
  refine congrArg x (funext fun a => Fin.ext ?_)
  fin_cases a <;> simp [ix3]

theorem load_value (arg : Memref sig .tc .vmem S1x2560x512 .bf16) (harg : arg.IsWhole) (x : Vec Ideal S1x2560x512 .bf16) (c : ℕ) (hc : c ≤ 384)
    (h : ∀ a, (![0, 0, c] : Fin 3 → ℕ) a + S1x2560x128.size a ≤ S1x2560x512.size a) (k : Fin 2560) (e : Fin 128) :
    View.readAt (Elt Ideal) arg.view (Rect.unit (s := S1x2560x512) ![0, 0, c] S1x2560x128.size h).toLoadRect (harg.unread x) (ix3 0 k e)
      = x (ix3 0 k ⟨c + e.val, by omega⟩) := by
  simp (disch := decide) only [View.readAt_eq_ld, Memref.IsWhole.read_unread]
  refine congrArg x (funext fun a => Fin.ext ?_)
  fin_cases a <;> simp [ix3]

/-- The attention over all keys of one window, entry by entry. -/
def headAt (x1 : Vec Ideal S512x1024 .bf16) (x2 : Vec Ideal S1x2560x1024 .bf16) (x3 : Vec Ideal S1x2560x512 .bf16) (r l : Fin 512) : EReal :=
  attend (fun k : Fin 2560 => ∑ e : Fin 128, x1 (ix2 r ⟨l.val / 64 * 128 + e.val, by omega⟩) * x2 (ix3 0 k ⟨l.val / 64 * 128 + e.val, by omega⟩))
    (fun k => x3 (ix3 0 k l))

/-- One head of a tile, from what was loaded. -/
theorem head_of (x1 : Vec Ideal S512x1024 .bf16) (x2 : Vec Ideal S1x2560x1024 .bf16) (x3 : Vec Ideal S1x2560x512 .bf16) (K V : Vec Ideal S1x2560x128 .bf16)
    (a : ℕ) (h : S512x1024.Slices ![0, a] S512x128) (r l : Fin 512) (e : Fin 128) (ha : a = l.val / 64 * 128)
    (hK : ∀ (k : Fin 2560) (e : Fin 128), K (ix3 0 k e) = x2 (ix3 0 k ⟨l.val / 64 * 128 + e.val, by omega⟩))
    (hV : ∀ k : Fin 2560, V (ix3 0 k e) = x3 (ix3 0 k l)) :
    headOut (headScores (cols a x1 h) K) (shapeCast S2560x128 V shapeCasts_S1x2560x128_S2560x128 : FVec Ideal S2560x128 .bf16) (ix2 r e)
      = headAt x1 x2 x3 r l := by
  refine (headOut_at _ _ _ _).trans ?_
  unfold headAt
  refine congrArg₂ attend (funext fun k => ?_) (funext fun k => ?_)
  · rw [headScores_at]
    refine Finset.sum_congr rfl fun e _ => ?_
    rw [hK]
    congr 1
    pointwise []
    exact congrArg (fun b => x1 (ix2 r b)) (Fin.ext (by dsimp only; omega))
  · pointwise []
    exact hV k

/-- One stored tile of the attention over all keys. -/
theorem headTile (arg3 : Memref sig .tc .vmem S512x1024 .bf16) (harg3 : arg3.IsWhole) (arg4 : Memref sig .tc .vmem S1x2560x1024 .bf16) (harg4 : arg4.IsWhole)
    (arg5 : Memref sig .tc .vmem S1x2560x512 .bf16) (harg5 : arg5.IsWhole)
    (x1 : Vec Ideal S512x1024 .bf16) (x2 : Vec Ideal S1x2560x1024 .bf16) (x3 : Vec Ideal S1x2560x512 .bf16)
    {a a' b b' c c' : ℕ} {h : S512x1024.Slices ![0, a] S512x128} {h' : S512x1024.Slices ![0, a'] S512x128} {hX hX' hK hK' hV hV' hbits} (r l : Fin 512) (z : S512x128.Idx)
    (hr : r.val = (z 0).val) (hl : l.val = c + (z 1).val) (hn : a = 2 * c ∧ a' = 2 * c + 128 ∧ b = a ∧ b' = a' ∧ c' = c ∧ c % 128 = 0 ∧ c ≤ 384) :
    (truncf .bf16 (select lowHalf
        (headOut (headScores (cols a
            (View.readAt (Elt Ideal) arg3.view (Rect.unit (s := S512x1024) ![0, 0] S512x1024.size hX).toLoadRect (harg3.unread x1)) h)
          (View.readAt (Elt Ideal) arg4.view (Rect.unit (s := S1x2560x1024) ![0, 0, b] S1x2560x128.size hK).toLoadRect (harg4.unread x2)))
          (shapeCast S2560x128 (View.readAt (Elt Ideal) arg5.view (Rect.unit (s := S1x2560x512) ![0, 0, c] S1x2560x128.size hV).toLoadRect (harg5.unread x3) : Vec Ideal S1x2560x128 .bf16) shapeCasts_S1x2560x128_S2560x128))
        (headOut (headScores (cols a'
            (View.readAt (Elt Ideal) arg3.view (Rect.unit (s := S512x1024) ![0, 0] S512x1024.size hX').toLoadRect (harg3.unread x1)) h')
          (View.readAt (Elt Ideal) arg4.view (Rect.unit (s := S1x2560x1024) ![0, 0, b'] S1x2560x128.size hK').toLoadRect (harg4.unread x2)))
          (shapeCast S2560x128 (View.readAt (Elt Ideal) arg5.view (Rect.unit (s := S1x2560x512) ![0, 0, c'] S1x2560x128.size hV').toLoadRect (harg5.unread x3) : Vec Ideal S1x2560x128 .bf16) shapeCasts_S1x2560x128_S2560x128))
        : FVec Ideal S512x128 .f32) hbits : FVec Ideal S512x128 .bf16) z
      = headAt x1 x2 x3 r l := by
  obtain ⟨ha, ha', hb, hb', hc', hc, hc4⟩ := hn
  subst hb hb' hc'
  have hz1 := (z 1).isLt
  change (z 1).val < 128 at hz1
  have hz : z = ix2 r ⟨(z 1).val, hz1⟩ := by
    refine funext fun a => Fin.ext ?_
    fin_cases a
    · exact hr.symm
    · rfl
  rw [load_all]
  rw [hz]
  refine (lowHalf_at _ _ r ⟨(z 1).val, hz1⟩).trans ?_
  split
  · refine head_of x1 x2 x3 _ _ _ _ r l _ (by dsimp only at *; omega) (fun k e => ?_) fun k => ?_
    · rw [load_key _ _ _ _ (by omega)]
      exact congrArg (fun b => x2 (ix3 0 k b)) (Fin.ext (by dsimp only at *; omega))
    · rw [load_value _ _ _ _ (by omega)]
      exact congrArg (fun b => x3 (ix3 0 k b)) (Fin.ext (by dsimp only at *; omega))
  · refine head_of x1 x2 x3 _ _ _ _ r l _ (by dsimp only at *; omega) (fun k e => ?_) fun k => ?_
    · rw [load_key _ _ _ _ (by omega)]
      exact congrArg (fun b => x2 (ix3 0 k b)) (Fin.ext (by dsimp only at *; omega))
    · rw [load_value _ _ _ _ (by omega)]
      exact congrArg (fun b => x3 (ix3 0 k b)) (Fin.ext (by dsimp only at *; omega))

end Cert.Attn
-- ==== Proof.AttnBlock.lean ====
module

public import proofs.«01_k».proof.Proof.AttnTile
public import proofs.«01_k».proof.Proof.Gen.KernelIdeal.Frame

/-! One block of the attention's result, from its nine windows. -/

@[expose] public section

set_option maxRecDepth 16384
set_option maxHeartbeats 4000000

noncomputable section

open Idealize.ShloMosaic Idealize.ShloMosaic.TcCoe Idealize.SL.Sem
open Cert.KernelIdeal Cert.KernelIdeal.Gen

namespace Cert.Attn

theorem block (c : Dev nD) (i : grid0.Coords) (arg2 : Memref sig .tc .smem S8 .f32) (harg2 : arg2.IsWhole) (arg3 : Memref sig .tc .vmem S512x1024 .bf16) (harg3 : arg3.IsWhole) (arg4 : Memref sig .tc .vmem S1x2560x1024 .bf16) (harg4 : arg4.IsWhole) (arg5 : Memref sig .tc .vmem S1x2560x512 .bf16) (harg5 : arg5.IsWhole) (arg6 : Memref sig .tc .vmem S512x512 .bf16) (harg6 : arg6.IsWhole) (arg7 : Memref sig .tc .vmem S1x2304x128 .bf16) (harg7 : arg7.IsWhole) (arg8 : Memref sig .tc .vmem S1x2304x128 .bf16) (harg8 : arg8.IsWhole) (arg9 : Memref sig .tc .vmem S1x512x128 .bf16) (harg9 : arg9.IsWhole) (arg10 : Memref sig .tc .vmem S1x512x128 .bf16) (harg10 : arg10.IsWhole) (arg11 : Memref sig .tc .vmem S512x1024 .bf16) (harg11 : arg11.IsWhole)
    (x0 : Vec Ideal S8 .f32) (x1 : Vec Ideal S512x1024 .bf16) (x2 : Vec Ideal S1x2560x1024 .bf16) (x3 : Vec Ideal S1x2560x512 .bf16) (x4 : Vec Ideal S512x512 .bf16) (x5 : Vec Ideal S1x2304x128 .bf16) (x6 : Vec Ideal S1x2304x128 .bf16) (x7 : Vec Ideal S1x512x128 .bf16) (x8 : Vec Ideal S1x512x128 .bf16) (r : Fin 512) (l : Fin 1024) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 (ix2 r l) =
      if hl : 512 ≤ l.val then bandAt x0 x4 x5 x6 x7 x8 ⟨4 * (i 1).val + r.val / 128, by have := (i 1).isLt; change (i 1).val < 4 at this; omega⟩ r ⟨l.val - 512, by omega⟩
      else headAt x1 x2 x3 r ⟨l.val, by omega⟩ := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8)]
  have hcov := cover0_A_9 c i arg2 harg2 arg3 harg3 arg4 harg4 arg5 harg5 arg6 harg6 arg7 harg7 arg8 harg8 arg9 harg9 arg10 harg10 arg11 harg11 x0 x1 x2 x3 x4 x5 x6 x7 x8
  unfold kernelRun0_A at hcov ⊢
  dsimp only at hcov ⊢
  canon_tiles z h using hcov _
  all_goals clear hcov
  all_goals change r.val = _ at h0
  all_goals change l.val = _ at h1
  all_goals first
    | rw [dif_pos (by omega)]
      refine tile (ho := by decide) arg2 harg2 arg6 harg6 arg7 harg7 arg8 harg8 arg9 harg9 arg10 harg10 x0 x4 x5 x6 x7 x8 _ r _ z ?_ ?_ ?_ ?_ ?_ ?_
      · omega
      · dsimp only
        omega
      · refine block_word i r _ ?_ _
        simp only [BitVec.toNat_ofNat, Nat.reducePow, Nat.reduceMod]
        omega
      · first
          | refine start_left i r _ ?_ _
          | refine start_right i r _ ?_ _
        simp only [BitVec.toNat_ofNat, Nat.reducePow, Nat.reduceMod]
        omega
      · first
          | refine start_left i r _ ?_ _
          | refine start_right i r _ ?_ _
        simp only [BitVec.toNat_ofNat, Nat.reducePow, Nat.reduceMod]
        omega
      · decide
    | rw [dif_neg (by omega)]
      refine headTile arg3 harg3 arg4 harg4 arg5 harg5 x1 x2 x3 r _ z ?_ ?_ ?_
      · dsimp only
        omega
      · dsimp only
        omega
      · decide

end Cert.Attn
-- ==== Proof.AttnHost.lean ====
module

public import proofs.«01_k».proof.Proof.AttnBlock
public import proofs.«01_k».proof.Proof.Gen.KernelIdeal.Value
public import Idealize.ShloMosaic.Lib.Tactic.CleanTypes

/-! What the attention's windows hold, from its arguments. -/

@[expose] public section

set_option maxRecDepth 16384
set_option maxHeartbeats 4000000

noncomputable section

open Idealize.ShloMosaic Idealize.ShloMosaic.TcCoe Idealize.SL.Sem
open Cert.KernelIdeal Cert.KernelIdeal.Gen Cert.KernelIdeal.Value

namespace Cert.Attn

/-- The keys of one batch entry: those of the tokens, then those of the context. -/
def joined (w : ℕ) (x : (⟨2, ![4096, w]⟩ : Shape).Idx → EReal) (y : (⟨3, ![2, 512, w]⟩ : Shape).Idx → EReal) (b : Fin 2) (k : Fin 2560) (j : Fin w) : EReal :=
  if h : k.val < 2048 then x (ix2 ⟨b.val * 2048 + k.val, by omega⟩ j) else y (ix3 b ⟨k.val - 2048, by omega⟩ j)

/-- The band's rows of one batch entry: 128 rows of nought, the tokens, 128 rows of nought. -/
def padded (x : (⟨2, ![4096, 128]⟩ : Shape).Idx → EReal) (b : Fin 2) (k : Fin 2304) (j : Fin 128) : EReal :=
  if h : 128 ≤ k.val ∧ k.val < 2176 then x (ix2 ⟨b.val * 2048 + (k.val - 128), by omega⟩ j) else 0

/-- The cached context's rows of one batch entry. -/
def cached (x : (⟨5, ![2, 2, 512, 2, 64]⟩ : Shape).Idx → EReal) (b : Fin 2) (k : Fin 512) (j : Fin 128) : EReal :=
  x (ix5 b 0 k ⟨j.val / 64, by omega⟩ ⟨j.val % 64, by omega⟩)

variable (m : (ℓ : Loc nD τ sig) → Buf (Elt Ideal) ℓ) (c : Dev nD)

theorem host_v1 : V m c main_v1 = concatenate S2x2560x1024 1 [⟨S2x2048x1024, shapeCast _ (m (c.tc.loc main_arg2)) shapeCasts_S4096x1024_S2x2048x1024⟩, ⟨S2x512x1024, m (c.tc.loc main_arg7)⟩] concatenates_S2x2048x1024_S2x512x1024_S2x2560x1024_d1 := by
  simp only [V, hostOps0, hostOps0_1, hostOps0_2, hostOps0_3, hostOps0_4, List.flatten_cons, List.flatten_nil, List.append_nil, List.cons_append,
      List.nil_append, StableHlo.TRef.binary, StableHlo.TRef.ternary, StableHlo.TRef.unary, StableHlo.TRef.toBuf, StableHlo.TRef.ofBuf, cast_eq]
  after_results_simp
  refine congrArg₂ (fun a b => concatenate S2x2560x1024 1 [⟨S2x2048x1024, a⟩, ⟨S2x512x1024, b⟩] concatenates_S2x2048x1024_S2x512x1024_S2x2560x1024_d1) ?_ ?_
  · after_results_simp
    try rfl
  · after_results_simp

theorem host_v3 : V m c main_v3 = concatenate S2x2560x512 1 [⟨S2x2048x512, shapeCast _ (m (c.tc.loc main_arg3)) shapeCasts_S4096x512_S2x2048x512⟩, ⟨S2x512x512, m (c.tc.loc main_arg8)⟩] concatenates_S2x2048x512_S2x512x512_S2x2560x512_d1 := by
  simp only [V, hostOps0, hostOps0_1, hostOps0_2, hostOps0_3, hostOps0_4, List.flatten_cons, List.flatten_nil, List.append_nil, List.cons_append,
      List.nil_append, StableHlo.TRef.binary, StableHlo.TRef.ternary, StableHlo.TRef.unary, StableHlo.TRef.toBuf, StableHlo.TRef.ofBuf, cast_eq]
  after_results_simp
  refine congrArg₂ (fun a b => concatenate S2x2560x512 1 [⟨S2x2048x512, a⟩, ⟨S2x512x512, b⟩] concatenates_S2x2048x512_S2x512x512_S2x2560x512_d1) ?_ ?_
  · after_results_simp
    try rfl
  · after_results_simp

theorem host_v5 : V m c main_v5 = pad S2x2304x128 ![0, 128, 0] ![0, 128, 0] ![0, 0, 0] (shapeCast _ (m (c.tc.loc main_arg5)) shapeCasts_S4096x128_S2x2048x128)
    (sitofp (F := Ideal) .bf16 (constantI S_ 32 0#32)) pads_S2x2048x128_S2x2304x128_000_1281280_000 h_S_ := by
  simp only [V, hostOps0, hostOps0_1, hostOps0_2, hostOps0_3, hostOps0_4, List.flatten_cons, List.flatten_nil, List.append_nil, List.cons_append,
      List.nil_append, StableHlo.TRef.binary, StableHlo.TRef.ternary, StableHlo.TRef.unary, StableHlo.TRef.toBuf, StableHlo.TRef.ofBuf, cast_eq]
  after_results_simp
  rfl

theorem host_v11 : V m c main_v11 = truncf (F := Ideal) .bf16 (shapeCast S2x512x128 (shapeCast S2x512x2x64 (extractStridedSlice S2x1x512x2x64 ![0, 0, 0, 0, 0] (m (c.tc.loc main_arg9)) slices_S2x2x512x2x64_S2x1x512x2x64_0_0_0_0_0) shapeCasts_S2x1x512x2x64_S2x512x2x64) shapeCasts_S2x512x2x64_S2x512x128) bitsLt_bf16_f32 := by
  simp only [V, hostOps0, hostOps0_1, hostOps0_2, hostOps0_3, hostOps0_4, List.flatten_cons, List.flatten_nil, List.append_nil, List.cons_append,
      List.nil_append, StableHlo.TRef.binary, StableHlo.TRef.ternary, StableHlo.TRef.unary, StableHlo.TRef.toBuf, StableHlo.TRef.ofBuf, cast_eq]
  after_results_simp
  rfl

theorem host_v7 : V m c main_v7 = pad S2x2304x128 ![0, 128, 0] ![0, 128, 0] ![0, 0, 0] (shapeCast _ (m (c.tc.loc main_arg6)) shapeCasts_S4096x128_S2x2048x128)
    (sitofp (F := Ideal) .bf16 (constantI S_ 32 0#32)) pads_S2x2048x128_S2x2304x128_000_1281280_000 h_S_ := by
  simp only [V, hostOps0, hostOps0_1, hostOps0_2, hostOps0_3, hostOps0_4, List.flatten_cons, List.flatten_nil, List.append_nil, List.cons_append,
      List.nil_append, StableHlo.TRef.binary, StableHlo.TRef.ternary, StableHlo.TRef.unary, StableHlo.TRef.toBuf, StableHlo.TRef.ofBuf, cast_eq]
  after_results_simp
  rfl

theorem host_v15 : V m c main_v15 = truncf (F := Ideal) .bf16 (shapeCast S2x512x128 (shapeCast S2x512x2x64 (extractStridedSlice S2x1x512x2x64 ![0, 0, 0, 0, 0] (m (c.tc.loc main_arg10)) slices_S2x2x512x2x64_S2x1x512x2x64_0_0_0_0_0) shapeCasts_S2x1x512x2x64_S2x512x2x64) shapeCasts_S2x512x2x64_S2x512x128) bitsLt_bf16_f32 := by
  simp only [V, hostOps0, hostOps0_1, hostOps0_2, hostOps0_3, hostOps0_4, List.flatten_cons, List.flatten_nil, List.append_nil, List.cons_append,
      List.nil_append, StableHlo.TRef.binary, StableHlo.TRef.ternary, StableHlo.TRef.unary, StableHlo.TRef.toBuf, StableHlo.TRef.ofBuf, cast_eq]
  after_results_simp
  rfl

theorem joined_keys (x : Vec Ideal S4096x1024 .bf16) (y : Vec Ideal S2x512x1024 .bf16) (b : Fin 2) (k : Fin 2560) (j : Fin 1024) :
    concatenate S2x2560x1024 1 [⟨S2x2048x1024, shapeCast _ x shapeCasts_S4096x1024_S2x2048x1024⟩, ⟨S2x512x1024, y⟩] concatenates_S2x2048x1024_S2x512x1024_S2x2560x1024_d1 (ix3 b k j)
      = joined 1024 x y b k j := by
  pointwise []
  rfl

theorem joined_vals (x : Vec Ideal S4096x512 .bf16) (y : Vec Ideal S2x512x512 .bf16) (b : Fin 2) (k : Fin 2560) (j : Fin 512) :
    concatenate S2x2560x512 1 [⟨S2x2048x512, shapeCast _ x shapeCasts_S4096x512_S2x2048x512⟩, ⟨S2x512x512, y⟩] concatenates_S2x2048x512_S2x512x512_S2x2560x512_d1 (ix3 b k j)
      = joined 512 x y b k j := by
  pointwise []
  rfl

theorem word_zero : FloatOps.sitofp (F := Ideal) .bf16 0#32 = (0 : EReal) := by
  show ((((0#32 : BitVec 32).toInt : ℤ) : ℝ) : EReal) = 0
  simp

theorem padded_at (x : Vec Ideal S4096x128 .bf16) (b : Fin 2) (k : Fin 2304) (j : Fin 128) :
    pad S2x2304x128 ![0, 128, 0] ![0, 128, 0] ![0, 0, 0] (shapeCast _ x shapeCasts_S4096x128_S2x2048x128)
    (sitofp (F := Ideal) .bf16 (constantI S_ 32 0#32)) pads_S2x2048x128_S2x2304x128_000_1281280_000 h_S_ (ix3 b k j) = padded x b k j := by
  pointwise []
  unfold padded
  refine (dite_congr (propext ⟨fun h => ⟨h.1, by omega⟩, fun h => ⟨h.1, by omega⟩⟩) (fun _ => rfl) fun _ => ?_)
  exact word_zero

theorem cached_at (x : Vec Ideal S2x2x512x2x64 .f32) (b : Fin 2) (k : Fin 512) (j : Fin 128) :
    truncf (F := Ideal) .bf16 (shapeCast S2x512x128 (shapeCast S2x512x2x64 (extractStridedSlice S2x1x512x2x64 ![0, 0, 0, 0, 0] x slices_S2x2x512x2x64_S2x1x512x2x64_0_0_0_0_0) shapeCasts_S2x1x512x2x64_S2x512x2x64) shapeCasts_S2x512x2x64_S2x512x128) bitsLt_bf16_f32
      (ix3 b k j) = cached x b k j := by
  pointwise []
  rfl

theorem idx0 : ∀ t : Fin cfg0.N, win0_0.index t = ![0] := by decide +kernel
theorem idx1 : ∀ t : Fin cfg0.N, win0_1.index t = ![t.val, 0] := by decide +kernel
theorem idx2 : ∀ t : Fin cfg0.N, win0_2.index t = ![t.val / 4, 0, 0] := by decide +kernel
theorem idx3 : ∀ t : Fin cfg0.N, win0_3.index t = ![t.val / 4, 0, 0] := by decide +kernel
theorem idx4 : ∀ t : Fin cfg0.N, win0_4.index t = ![t.val, 0] := by decide +kernel
theorem idx5 : ∀ t : Fin cfg0.N, win0_5.index t = ![t.val / 4, 0, 0] := by decide +kernel
theorem idx6 : ∀ t : Fin cfg0.N, win0_6.index t = ![t.val / 4, 0, 0] := by decide +kernel
theorem idx7 : ∀ t : Fin cfg0.N, win0_7.index t = ![t.val / 4, 0, 0] := by decide +kernel
theorem idx8 : ∀ t : Fin cfg0.N, win0_8.index t = ![t.val / 4, 0, 0] := by decide +kernel
theorem idx9 : ∀ t : Fin cfg0.N, win0_9.index t = ![t.val, 0] := by decide +kernel
theorem step : ∀ t : Fin cfg0.N, (grid0.coords t 1).val = t.val % 4 := by decide +kernel

theorem blk0 (t : Fin cfg0.N) (j : Fin 8) : (iblk m c 0 t : Vec Ideal S8 .f32) (ix1 j) = m (c.tc.loc main_arg0) (ix1 j) := by
  rw [← V_main_arg0 m c]
  blk_ext [iblk, idx0 t]

theorem blk1 (t : Fin cfg0.N) (r : Fin 512) (j : Fin 1024) (R : Fin 4096) (hR : R.val = t.val * 512 + r.val) :
    (iblk m c 1 t : Vec Ideal S512x1024 .bf16) (ix2 r j) = m (c.tc.loc main_arg1) (ix2 R j) := by
  rw [← V_main_arg1 m c]
  blk_ext [iblk, idx1 t]

theorem blk4 (t : Fin cfg0.N) (r : Fin 512) (j : Fin 512) (R : Fin 4096) (hR : R.val = t.val * 512 + r.val) :
    (iblk m c 4 t : Vec Ideal S512x512 .bf16) (ix2 r j) = m (c.tc.loc main_arg4) (ix2 R j) := by
  rw [← V_main_arg4 m c]
  blk_ext [iblk, idx4 t]

theorem blk2 (t : Fin cfg0.N) (k : Fin 2560) (j : Fin 1024) (b : Fin 2) (hb : b.val = t.val / 4) :
    (iblk m c 2 t : Vec Ideal S1x2560x1024 .bf16) (ix3 0 k j) = joined 1024 (m (c.tc.loc main_arg2)) (m (c.tc.loc main_arg7)) b k j := by
  have h : (iblk m c 2 t : Vec Ideal S1x2560x1024 .bf16) (ix3 0 k j) = V m c main_v1 (ix3 b k j) := by blk_ext [iblk, idx2 t]
  rw [h, host_v1]
  exact joined_keys _ _ b k j

theorem blk3 (t : Fin cfg0.N) (k : Fin 2560) (j : Fin 512) (b : Fin 2) (hb : b.val = t.val / 4) :
    (iblk m c 3 t : Vec Ideal S1x2560x512 .bf16) (ix3 0 k j) = joined 512 (m (c.tc.loc main_arg3)) (m (c.tc.loc main_arg8)) b k j := by
  have h : (iblk m c 3 t : Vec Ideal S1x2560x512 .bf16) (ix3 0 k j) = V m c main_v3 (ix3 b k j) := by blk_ext [iblk, idx3 t]
  rw [h, host_v3]
  exact joined_vals _ _ b k j

theorem blk5 (t : Fin cfg0.N) (k : Fin 2304) (j : Fin 128) (b : Fin 2) (hb : b.val = t.val / 4) :
    (iblk m c 5 t : Vec Ideal S1x2304x128 .bf16) (ix3 0 k j) = padded (m (c.tc.loc main_arg5)) b k j := by
  have h : (iblk m c 5 t : Vec Ideal S1x2304x128 .bf16) (ix3 0 k j) = V m c main_v5 (ix3 b k j) := by blk_ext [iblk, idx5 t]
  rw [h, host_v5]
  exact padded_at _ b k j

theorem blk6 (t : Fin cfg0.N) (k : Fin 2304) (j : Fin 128) (b : Fin 2) (hb : b.val = t.val / 4) :
    (iblk m c 6 t : Vec Ideal S1x2304x128 .bf16) (ix3 0 k j) = padded (m (c.tc.loc main_arg6)) b k j := by
  have h : (iblk m c 6 t : Vec Ideal S1x2304x128 .bf16) (ix3 0 k j) = V m c main_v7 (ix3 b k j) := by blk_ext [iblk, idx6 t]
  rw [h, host_v7]
  exact padded_at _ b k j

theorem blk7 (t : Fin cfg0.N) (k : Fin 512) (j : Fin 128) (b : Fin 2) (hb : b.val = t.val / 4) :
    (iblk m c 7 t : Vec Ideal S1x512x128 .bf16) (ix3 0 k j) = cached (m (c.tc.loc main_arg9)) b k j := by
  have h : (iblk m c 7 t : Vec Ideal S1x512x128 .bf16) (ix3 0 k j) = V m c main_v11 (ix3 b k j) := by blk_ext [iblk, idx7 t]
  rw [h, host_v11]
  exact cached_at _ b k j

theorem blk8 (t : Fin cfg0.N) (k : Fin 512) (j : Fin 128) (b : Fin 2) (hb : b.val = t.val / 4) :
    (iblk m c 8 t : Vec Ideal S1x512x128 .bf16) (ix3 0 k j) = cached (m (c.tc.loc main_arg10)) b k j := by
  have h : (iblk m c 8 t : Vec Ideal S1x512x128 .bf16) (ix3 0 k j) = V m c main_v15 (ix3 b k j) := by blk_ext [iblk, idx8 t]
  rw [h, host_v15]
  exact cached_at _ b k j

end Cert.Attn
-- ==== Proof.AttnValue.lean ====
module

public import proofs.«01_k».proof.Proof.AttnHost

/-! The attention's whole result, from its arguments. -/

@[expose] public section

set_option maxRecDepth 16384
set_option maxHeartbeats 4000000

noncomputable section

open Idealize.ShloMosaic Idealize.ShloMosaic.TcCoe Idealize.SL.Sem
open Cert.KernelIdeal Cert.KernelIdeal.Gen Cert.KernelIdeal.Value

namespace Cert.Attn

/-- Full attention: row `R` against every key of its batch entry, column `l`. -/
def full (x1 x2 : Vec Ideal S4096x1024 .bf16) (x3 : Vec Ideal S4096x512 .bf16) (x7 : Vec Ideal S2x512x1024 .bf16) (x8 : Vec Ideal S2x512x512 .bf16)
    (R : Fin 4096) (l : Fin 512) : EReal :=
  attend
    (fun k : Fin 2560 => ∑ e : Fin 128, x1 (ix2 R ⟨l.val / 64 * 128 + e.val, by omega⟩) * joined 1024 x2 x7 ⟨R.val / 2048, by omega⟩ k ⟨l.val / 64 * 128 + e.val, by omega⟩)
    (fun k => joined 512 x3 x8 ⟨R.val / 2048, by omega⟩ k l)

/-- Banded attention: row `R` against its band, the cached context and the sink, column `l`. -/
def banded (x0 : Vec Ideal S8 .f32) (x4 : Vec Ideal S4096x512 .bf16) (x5 x6 : Vec Ideal S4096x128 .bf16) (x9 x10 : Vec Ideal S2x2x512x2x64 .f32)
    (R : Fin 4096) (l : Fin 512) : EReal :=
  attend2
    (fun k : Fin 384 => if InBand (R.val % 2048 / 128) (R.val % 128) k.val then
      ∑ e : Fin 64, x4 (ix2 R ⟨l.val / 64 * 64 + e.val, by omega⟩) * padded x5 ⟨R.val / 2048, by omega⟩ ⟨128 * (R.val % 2048 / 128) + k.val, by omega⟩ ⟨64 * (l.val / 256) + e.val, by omega⟩
      else outside)
    (fun k : Fin 512 => ∑ e : Fin 64, x4 (ix2 R ⟨l.val / 64 * 64 + e.val, by omega⟩) * cached x9 ⟨R.val / 2048, by omega⟩ k ⟨64 * (l.val / 256) + e.val, by omega⟩)
    (x0 (ix1 ⟨l.val / 64, by omega⟩))
    (fun k => padded x6 ⟨R.val / 2048, by omega⟩ ⟨128 * (R.val % 2048 / 128) + k.val, by omega⟩ ⟨64 * (l.val / 256) + l.val % 64, by omega⟩)
    (fun k => cached x10 ⟨R.val / 2048, by omega⟩ k ⟨64 * (l.val / 256) + l.val % 64, by omega⟩)

/-- The whole result. -/
def whole (x0 : Vec Ideal S8 .f32) (x1 x2 : Vec Ideal S4096x1024 .bf16) (x3 x4 : Vec Ideal S4096x512 .bf16) (x5 x6 : Vec Ideal S4096x128 .bf16)
    (x7 : Vec Ideal S2x512x1024 .bf16) (x8 : Vec Ideal S2x512x512 .bf16) (x9 x10 : Vec Ideal S2x2x512x2x64 .f32) : Vec Ideal S4096x1024 .bf16 :=
  fun i => if h : 512 ≤ (i 1).val then banded x0 x4 x5 x6 x9 x10 (i 0) ⟨(i 1).val - 512, by have := (i 1).isLt; change (i 1).val < 1024 at this; omega⟩
    else full x1 x2 x3 x7 x8 (i 0) ⟨(i 1).val, by omega⟩

variable (m : (ℓ : Loc nD τ sig) → Buf (Elt Ideal) ℓ) (c : Dev nD)

theorem attend_congr {n : ℕ} {s s' v v' : Fin n → EReal} (hs : ∀ k, s k = s' k) (hv : ∀ k, v k = v' k) : attend s v = attend s' v' := by
  rw [funext hs, funext hv]

theorem head_block (t : Fin cfg0.N) (r l : Fin 512) (R : Fin 4096) (hR : R.val = t.val * 512 + r.val) :
    headAt (iblk m c 1 t) (iblk m c 2 t) (iblk m c 3 t) r l =
      full (m (c.tc.loc main_arg1)) (m (c.tc.loc main_arg2)) (m (c.tc.loc main_arg3)) (m (c.tc.loc main_arg7)) (m (c.tc.loc main_arg8)) R l := by
  have ht : t.val < 8 := t.isLt
  unfold headAt full
  refine attend_congr (fun k => Finset.sum_congr rfl fun e _ => ?_) fun k => ?_
  · rw [blk1 m c t r _ R hR, blk2 m c t _ _ ⟨R.val / 2048, by omega⟩ (by dsimp only; omega)]
  · exact blk3 m c t _ _ _ (by dsimp only; omega)

theorem band_block (t : Fin cfg0.N) (r l : Fin 512) (n : Fin 16) (R : Fin 4096) (hR : R.val = t.val * 512 + r.val) (hn : n.val = 4 * (t.val % 4) + r.val / 128) :
    bandAt (iblk m c 0 t) (iblk m c 4 t) (iblk m c 5 t) (iblk m c 6 t) (iblk m c 7 t) (iblk m c 8 t) n r l =
      banded (m (c.tc.loc main_arg0)) (m (c.tc.loc main_arg4)) (m (c.tc.loc main_arg5)) (m (c.tc.loc main_arg6)) (m (c.tc.loc main_arg9)) (m (c.tc.loc main_arg10)) R l := by
  have ht : t.val < 8 := t.isLt
  have hn' : n.val = R.val % 2048 / 128 := by omega
  have hr : r.val % 128 = R.val % 128 := by omega
  obtain ⟨n, hlt⟩ := n
  dsimp only at hn'
  subst hn'
  unfold bandAt banded
  rw [hr]
  refine attend2_congr (fun k => if_congr Iff.rfl (Finset.sum_congr rfl fun e _ => ?_) rfl) (fun k => Finset.sum_congr rfl fun e _ => ?_) (blk0 m c t _) (fun k => ?_) fun k => ?_
  · rw [blk4 m c t r _ R hR, blk5 m c t _ _ ⟨R.val / 2048, by omega⟩ (by dsimp only; omega)]
  · rw [blk4 m c t r _ R hR, blk7 m c t _ _ ⟨R.val / 2048, by omega⟩ (by dsimp only; omega)]
  · exact blk6 m c t _ _ _ (by dsimp only; omega)
  · exact blk8 m c t _ _ _ (by dsimp only; omega)

/-- The kernel's result, from its arguments. -/
theorem final : (dats m 0 c).arrAt 9 cfg0.N = whole (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 9 _ (by decide +kernel) fun t hf y => ?_
  blk_simp
  rw [after0_9]
  have ht : t.val < 8 := t.isLt
  obtain ⟨r, l, rfl⟩ : ∃ (r : Fin 512) (l : Fin 1024), y = ix2 r l := ⟨y 0, y 1, eq_ix2 y⟩
  have he : (win0_9.blk t).view.emb (ix2 r l) = ix2 (⟨t.val * 512 + r.val, by omega⟩ : Fin 4096) l := by
    blk_ext [idx9 t]
  rw [he]
  simp only [outsAt0]
  refine (block _ _ _ _ _ _ _ _ _ _ _ _ _ _ _ _ _ _ _ _ _ _ _ _ _ _ _ _ _ _ _ r l).trans ?_
  unfold whole
  refine dite_congr rfl (fun h => ?_) fun h => ?_
  · exact band_block m c t r _ _ _ rfl (by dsimp only; rw [step t])
  · exact head_block m c t r _ _ rfl

end Cert.Attn
-- ==== Proof.AttnRefAt.lean ====
module

public import proofs.«01_k».proof.Proof.AttnSoft
public import proofs.«01_k».proof.Proof.AttnValue

/-! The plain attention's steps, entry by entry. -/

@[expose] public section

set_option maxRecDepth 16384
set_option maxHeartbeats 4000000

noncomputable section

open Idealize.ShloMosaic Idealize.ShloMosaic.TcCoe Idealize.SL.Sem
open Cert.ReferenceIdeal Cert.ReferenceIdeal.Gen Cert.ReferenceIdeal.Value

namespace Cert.Attn.Ref

theorem scores_at (x1 x2 : FVec Ideal S4096x1024 .bf16) (x7 : FVec Ideal S2x512x1024 .bf16) (b : Fin 2) (h : Fin 8) (q : Fin 2048) (k : Fin 2560) :
    scores x1 x2 x7 (ix4 b h q k) = ∑ e : Fin 128, x1 (ix2 ⟨b.val * 2048 + q.val, by omega⟩ ⟨h.val * 128 + e.val, by omega⟩) *
      joined 1024 x2 x7 b k ⟨h.val * 128 + e.val, by omega⟩ := by
  unfold scores
  clean_types
  pointwise []
  rfl

theorem fullOut_at (x3 : FVec Ideal S4096x512 .bf16) (x8 : FVec Ideal S2x512x512 .bf16) (w : FVec Ideal S2x8x2048x2560 .f32) (R : Fin 4096) (l : Fin 512) :
    fullOut x3 x8 w (ix2 R l) = ∑ k : Fin 2560, w (ix4 ⟨R.val / 2048, by omega⟩ ⟨l.val / 64, by omega⟩ ⟨R.val % 2048, by omega⟩ k) *
      joined 512 x3 x8 ⟨R.val / 2048, by omega⟩ k l := by
  refine Eq.trans ?_ (Fin.sum_univ_add (a := 2048) (b := 512) fun k : Fin 2560 => w (ix4 ⟨R.val / 2048, by omega⟩ ⟨l.val / 64, by omega⟩ ⟨R.val % 2048, by omega⟩ k) *
      joined 512 x3 x8 ⟨R.val / 2048, by omega⟩ k l).symm
  unfold fullOut
  clean_types
  pointwise []
  refine congrArg₂ (fun a b : EReal => a + b) (Finset.sum_congr rfl fun k _ => ?_) (Finset.sum_congr rfl fun k _ => ?_)
  · refine (mul_comm _ _).trans (congrArg₂ (fun a b : EReal => a * b) rfl ?_)
    unfold joined
    refine Eq.trans ?_ (dif_pos (show (Fin.castAdd 512 k).val < 2048 from k.isLt)).symm
    rfl
  · refine (mul_comm _ _).trans (congrArg₂ (fun a b : EReal => a * b) rfl ?_)
    unfold joined
    refine Eq.trans ?_ (dif_neg (show ¬ (Fin.natAdd 2048 k).val < 2048 by simp)).symm
    exact congrArg (fun a => x8 (ix3 _ a l)) (Fin.ext (by simp))

theorem blocks_at (x : FVec Ideal S4096x128 .bf16) (b : Fin 2) (n : Fin 16) (j : Fin 18) (i : Fin 128) (k : Fin 384) (g : Fin 2) (d : Fin 64)
    (e : j.val * 128 + i.val = 128 * n.val + k.val) :
    blocks x (ix5 b j i g d) = padded x b ⟨128 * n.val + k.val, by omega⟩ ⟨64 * g.val + d.val, by omega⟩ := by
  unfold blocks
  clean_types
  pointwise []
  unfold padded
  refine dite_congr (propext ⟨fun h => ⟨by dsimp only; omega, by dsimp only; omega⟩, fun h => ⟨by have := h.1; dsimp only at this; omega, by have := h.2; dsimp only at this; omega⟩⟩)
    (fun h => congrArg₂ (fun a b => x (ix2 a b)) (Fin.ext (by dsimp only; omega)) (Fin.ext (by dsimp only; omega))) (fun _ => word_zero)

theorem three_at (x : FVec Ideal S4096x128 .bf16) (b : Fin 2) (n : Fin 16) (k : Fin 384) (g : Fin 2) (d : Fin 64) :
    three (blocks x) (ix5 b n k g d) = padded x b ⟨128 * n.val + k.val, by omega⟩ ⟨64 * g.val + d.val, by omega⟩ := by
  generalize hB : blocks x = B
  unfold three
  clean_types
  pointwise []
  subst hB
  split
  · exact blocks_at x b n _ _ k g d (by dsimp only; omega)
  · split
    · exact blocks_at x b n _ _ k g d (by dsimp only; omega)
    · exact blocks_at x b n _ _ k g d (by dsimp only; omega)

theorem context_at (x : FVec Ideal S2x2x512x2x64 .f32) (b : Fin 2) (k : Fin 512) (g : Fin 2) (d : Fin 64) :
    context x (ix4 b k g d) = cached x b k ⟨64 * g.val + d.val, by omega⟩ := by
  unfold context
  clean_types
  pointwise []
  unfold cached
  exact congrArg₂ (fun a c => x (ix5 b 0 k a c)) (Fin.ext (by dsimp only; omega)) (Fin.ext (by dsimp only; omega))

theorem queries_at (x : FVec Ideal S4096x512 .bf16) (b : Fin 2) (n : Fin 16) (q : Fin 128) (g : Fin 2) (h : Fin 4) (d : Fin 64) :
    queries x (ix6 b n q g h d) = x (ix2 ⟨b.val * 2048 + n.val * 128 + q.val, by omega⟩ ⟨g.val * 256 + h.val * 64 + d.val, by omega⟩) := by
  unfold queries
  clean_types
  pointwise []

theorem near_word : ∀ d : Fin 512,
    IntOp.cmpi CmpIPredicate.sle (IntOp.absi (BitVec.ofNat 32 d.val - 255#32)) 128#32 = BitVec.ofBool (decide (127 ≤ d.val ∧ d.val ≤ 383)) := by decide +kernel

theorem reach_word (r : Fin 128) (k : Fin 384) :
    IntOp.cmpi CmpIPredicate.sle (IntOp.absi (IntOp.subi (IntOp.addi (BitVec.ofNat 32 r.val) 128#32) (BitVec.ofNat 32 k.val))) 128#32
      = BitVec.ofBool (decide (r.val ≤ k.val ∧ k.val ≤ r.val + 256)) := by
  have e : IntOp.subi (IntOp.addi (BitVec.ofNat 32 r.val) 128#32) (BitVec.ofNat 32 k.val) = BitVec.ofNat 32 (⟨r.val + 383 - k.val, by omega⟩ : Fin 512).val - 255#32 := by
    show BitVec.ofNat 32 r.val + 128#32 - BitVec.ofNat 32 k.val = _
    apply BitVec.eq_of_toNat_eq
    simp only [BitVec.toNat_sub, BitVec.toNat_add, BitVec.toNat_ofNat]
    omega
  rw [e, near_word]
  congr 1
  apply decide_eq_decide.mpr
  dsimp only
  omega

theorem place_word : ∀ (n : Fin 16) (k : Fin 384),
    IntOp.cmpi CmpIPredicate.sge (IntOp.addi (IntOp.muli (IntOp.subi (BitVec.ofNat 32 n.val) 1#32) 128#32) (BitVec.ofNat 32 k.val)) 0#32
      = BitVec.ofBool (decide (128 ≤ 128 * n.val + k.val)) ∧
    IntOp.cmpi CmpIPredicate.slt (IntOp.addi (IntOp.muli (IntOp.subi (BitVec.ofNat 32 n.val) 1#32) 128#32) (BitVec.ofNat 32 k.val)) 2048#32
      = BitVec.ofBool (decide (128 * n.val + k.val < 2176)) := by decide +kernel

theorem near_at (q : FVec Ideal S2x16x128x2x4x64 .f32) (x : FVec Ideal S2x16x384x2x64 .f32) (b : Fin 2) (n : Fin 16) (g : Fin 2) (h : Fin 4) (r : Fin 128) (k : Fin 384) :
    near q x (ix6 b n g h r k) = if InBand n.val r.val k.val then ∑ e : Fin 64, q (ix6 b n r g h e) * x (ix5 b n k g e) else outside := by
  have e1 := reach_word r k
  obtain ⟨e2, e3⟩ := place_word n k
  unfold near visible place
  clean_types
  pointwise []
  rw [e1, e2, e3]
  unfold IntOp.andi
  rw [ofBool_and', ofBool_and', ← Bool.decide_and, ← Bool.decide_and]
  by_cases hb : InBand n.val r.val k.val
  · rw [if_pos hb, decide_eq_true ⟨⟨⟨hb.1, hb.2.1⟩, hb.2.2.1⟩, hb.2.2.2⟩]
    exact Eq.trans (b := ∑ e : Fin 64, x (ix5 b n k g e) * q (ix6 b n r g h e)) rfl (Finset.sum_congr rfl fun e _ => mul_comm (_ : EReal) _)
  · rw [if_neg hb, decide_eq_false fun hc => hb ⟨hc.1.1.1, hc.1.1.2, hc.1.2, hc.2⟩]
    rfl

theorem far_at (q : FVec Ideal S2x16x128x2x4x64 .f32) (x : FVec Ideal S2x512x2x64 .f32) (b : Fin 2) (n : Fin 16) (g : Fin 2) (h : Fin 4) (r : Fin 128) (k : Fin 512) :
    far q x (ix6 b n g h r k) = ∑ e : Fin 64, q (ix6 b n r g h e) * x (ix4 b k g e) := by
  unfold far
  clean_types
  pointwise []
  exact Finset.sum_congr rfl fun e _ => mul_comm _ _

theorem every_at (x0 : FVec Ideal S8 .f32) (a : FVec Ideal S2x16x2x4x128x384 .f32) (z : FVec Ideal S2x16x2x4x128x512 .f32) (b : Fin 2) (n : Fin 16) (g : Fin 2) (h : Fin 4) (r : Fin 128) (k : Fin 897) :
    every x0 a z (ix6 b n g h r k) = if h1 : k.val < 896 then if h2 : k.val < 384 then a (ix6 b n g h r ⟨k.val, h2⟩) else z (ix6 b n g h r ⟨k.val - 384, by omega⟩)
      else x0 (ix1 ⟨g.val * 4 + h.val, by omega⟩) := by
  unfold every
  clean_types
  pointwise []

theorem kept_at (s : FVec Ideal S2x16x2x4x128x897 .f32) (b : Fin 2) (n : Fin 16) (g : Fin 2) (h : Fin 4) (r : Fin 128) (k : Fin 896) :
    kept s (ix6 b n g h r k) = s (ix6 b n g h r ⟨k.val, by omega⟩) := by
  unfold kept
  clean_types
  pointwise []

theorem bandedOut_at (v : FVec Ideal S2x16x384x2x64 .f32) (u : FVec Ideal S2x512x2x64 .f32) (w : FVec Ideal S2x16x2x4x128x896 .f32) (R : Fin 4096) (l : Fin 512) :
    bandedOut v u w (ix2 R l) =
      (∑ k : Fin 384, w (ix6 ⟨R.val / 2048, by omega⟩ ⟨R.val / 128 % 16, by omega⟩ ⟨l.val / 256, by omega⟩ ⟨l.val / 64 % 4, by omega⟩ ⟨R.val % 128, by omega⟩ ⟨k.val, by omega⟩) *
        v (ix5 ⟨R.val / 2048, by omega⟩ ⟨R.val / 128 % 16, by omega⟩ k ⟨l.val / 256, by omega⟩ ⟨l.val % 64, by omega⟩))
      + ∑ k : Fin 512, w (ix6 ⟨R.val / 2048, by omega⟩ ⟨R.val / 128 % 16, by omega⟩ ⟨l.val / 256, by omega⟩ ⟨l.val / 64 % 4, by omega⟩ ⟨R.val % 128, by omega⟩ ⟨384 + k.val, by omega⟩) *
        u (ix4 ⟨R.val / 2048, by omega⟩ k ⟨l.val / 256, by omega⟩ ⟨l.val % 64, by omega⟩) := by
  unfold bandedOut
  clean_types
  pointwise []
  exact congrArg₂ (fun a b : EReal => a + b) (Finset.sum_congr rfl fun k _ => mul_comm _ _) (Finset.sum_congr rfl fun k _ => mul_comm _ _)

end Cert.Attn.Ref
-- ==== Proof.AttnSame.lean ====
module

public import proofs.«01_k».proof.Proof.AttnRefAt

/-! The plain attention's result is the kernel's, entry by entry, when the queries, keys and sinks are finite. -/

@[expose] public section

set_option maxRecDepth 16384
set_option maxHeartbeats 4000000

noncomputable section

open Idealize.ShloMosaic Idealize.ShloMosaic.TcCoe Idealize.SL.Sem
open Cert.ReferenceIdeal Cert.ReferenceIdeal.Gen Cert.ReferenceIdeal.Value

namespace Cert.Attn.Ref

/-! ## 897 scores: 384 near, 512 cached, one sink -/

theorem sum_split (f : Fin 897 → EReal) :
    ∑ k, f k = ((∑ k : Fin 384, f ⟨k.val, by omega⟩) + ∑ k : Fin 512, f ⟨384 + k.val, by omega⟩) + f ⟨896, by omega⟩ := by
  rw [Fin.sum_univ_castSucc (n := 896)]
  exact congrArg (fun y : EReal => y + f ⟨896, by omega⟩) (Fin.sum_univ_add (a := 384) (b := 512) fun k => f k.castSucc)

theorem sup_split (f : Fin 897 → EReal) :
    Finset.univ.sup f = max (max (Finset.univ.sup fun k : Fin 384 => f ⟨k.val, by omega⟩) (Finset.univ.sup fun k : Fin 512 => f ⟨384 + k.val, by omega⟩)) (f ⟨896, by omega⟩) := by
  apply le_antisymm
  · refine Finset.sup_le fun k _ => ?_
    rcases lt_or_ge k.val 384 with h | h
    · exact le_max_of_le_left (le_max_of_le_left (Finset.le_sup (f := fun k : Fin 384 => f ⟨k.val, by omega⟩) (Finset.mem_univ ⟨k.val, h⟩)))
    · rcases lt_or_ge k.val 896 with h' | h'
      · refine le_max_of_le_left (le_max_of_le_right ?_)
        have e : f k = f ⟨384 + (k.val - 384), by omega⟩ := congrArg f (Fin.ext (by dsimp only; omega))
        rw [e]
        exact Finset.le_sup (f := fun k : Fin 512 => f ⟨384 + k.val, by omega⟩) (Finset.mem_univ ⟨k.val - 384, by omega⟩)
      · exact le_max_of_le_right (le_of_eq (congrArg f (Fin.ext (by dsimp only; omega))))
  · exact max_le (max_le (Finset.sup_le fun k _ => Finset.le_sup (f := f) (Finset.mem_univ _)) (Finset.sup_le fun k _ => Finset.le_sup (f := f) (Finset.mem_univ _)))
      (Finset.le_sup (f := f) (Finset.mem_univ _))

theorem attend_pos {n : ℕ} (hn : 0 < n) (s v : Fin n → EReal) (h : ∀ k, Fin' (s k)) :
    attend s v = ∑ k, Ideal.div (Ideal.exp (s k - Finset.univ.sup s)) (∑ k, Ideal.exp (s k - Finset.univ.sup s)) * v k := by
  cases n with
  | zero => omega
  | succ n => exact attend_eq s v h

theorem attend2_pos {n n' : ℕ} (hn : 0 < n) (hn' : 0 < n') (s : Fin n → EReal) (t : Fin n' → EReal) (g : EReal) (v : Fin n → EReal)
    (w : Fin n' → EReal) (hs : ∀ k, Fin' (s k)) (ht : ∀ k, Fin' (t k)) (hg : Fin' g) :
    attend2 s t g v w = (∑ k, Ideal.div (Ideal.exp (s k - top s t g)) (mass s t g) * v k)
      + ∑ k, Ideal.div (Ideal.exp (t k - top s t g)) (mass s t g) * w k := by
  cases n with
  | zero => omega
  | succ n =>
    cases n' with
    | zero => omega
    | succ n' => exact attend2_eq s t g v w hs ht hg

/-- Attention over the joined row of scores is attention over its three parts. -/
theorem attend2_row (S : Fin 897 → EReal) (s v v' : Fin 384 → EReal) (t w w' : Fin 512 → EReal) (g : EReal)
    (hs : ∀ k : Fin 384, S ⟨k.val, by omega⟩ = s k) (ht : ∀ k : Fin 512, S ⟨384 + k.val, by omega⟩ = t k) (hg : S ⟨896, by omega⟩ = g)
    (hv : ∀ k, v' k = v k) (hw : ∀ k, w' k = w k) (fs : ∀ k, Fin' (s k)) (ft : ∀ k, Fin' (t k)) (fg : Fin' g) :
    (∑ k : Fin 384, Ideal.div (Ideal.exp (S ⟨k.val, by omega⟩ - Finset.univ.sup S)) (∑ k, Ideal.exp (S k - Finset.univ.sup S)) * v' k)
      + (∑ k : Fin 512, Ideal.div (Ideal.exp (S ⟨384 + k.val, by omega⟩ - Finset.univ.sup S)) (∑ k, Ideal.exp (S k - Finset.univ.sup S)) * w' k)
      = attend2 s t g v w := by
  have hp : Finset.univ.sup S = top s t g := by
    rw [sup_split]
    simp only [hs, ht, hg]
    rfl
  have hm : ∑ k, Ideal.exp (S k - Finset.univ.sup S) = mass s t g := by
    rw [hp, sum_split]
    simp only [hs, ht, hg]
    rfl
  rw [attend2_pos (by norm_num) (by norm_num) s t g v w fs ft fg, hm, hp]
  simp only [hs, ht, hv, hw]

/-! ## Finite scores -/

theorem fin_outside : Fin' outside := by
  unfold outside
  have e : ∃ x : ℝ, Ideal.ofBits .f32 0xF149F2CA#32 = (x : EReal) := by
    simp [Ideal.ofBits, Ideal.ieee]
    exact ⟨_, rfl⟩
  obtain ⟨x, hx⟩ := e
  rw [hx]
  exact fin_coe x

theorem fin_joined (x : FVec Ideal S4096x1024 .bf16) (y : FVec Ideal S2x512x1024 .bf16) (hx : ∀ i, Fin' (x i)) (hy : ∀ i, Fin' (y i)) (b : Fin 2) (k : Fin 2560)
    (j : Fin 1024) : Fin' (joined 1024 x y b k j) := by
  unfold joined
  split
  · exact hx _
  · exact hy _

theorem fin_padded (x : FVec Ideal S4096x128 .bf16) (hx : ∀ i, Fin' (x i)) (b : Fin 2) (k : Fin 2304) (j : Fin 128) : Fin' (padded x b k j) := by
  unfold padded
  split
  · exact hx _
  · exact fin_coe 0

/-! ## The two halves -/

theorem fullOut_eq (x1 x2 : FVec Ideal S4096x1024 .bf16) (x3 : FVec Ideal S4096x512 .bf16) (x7 : FVec Ideal S2x512x1024 .bf16) (x8 : FVec Ideal S2x512x512 .bf16)
    (f1 : ∀ i, Fin' (x1 i)) (f2 : ∀ i, Fin' (x2 i)) (f7 : ∀ i, Fin' (x7 i)) (R : Fin 4096) (l : Fin 512) :
    fullOut x3 x8 (soft4 (scores x1 x2 x7)) (ix2 R l) = full x1 x2 x3 x7 x8 R l := by
  have hs : ∀ k : Fin 2560, scores x1 x2 x7 (ix4 ⟨R.val / 2048, by omega⟩ ⟨l.val / 64, by omega⟩ ⟨R.val % 2048, by omega⟩ k) =
      ∑ e : Fin 128, x1 (ix2 R ⟨l.val / 64 * 128 + e.val, by omega⟩) * joined 1024 x2 x7 ⟨R.val / 2048, by omega⟩ k ⟨l.val / 64 * 128 + e.val, by omega⟩ := fun k =>
    (scores_at x1 x2 x7 _ _ _ k).trans (Finset.sum_congr rfl fun e _ => congrArg (fun r : Fin 4096 => x1 (ix2 r _) * _) (Fin.ext (by dsimp only; omega)))
  rw [fullOut_at]
  unfold full
  rw [attend_pos (by norm_num) _ _ fun k => fin_sum _ _ fun e _ => fin_mul (f1 _) (fin_joined x2 x7 f2 f7 _ _ _)]
  refine Finset.sum_congr rfl fun k _ => ?_
  rw [soft4_at]
  simp only [hs]

theorem bandedOut_eq (x0 : FVec Ideal S8 .f32) (x4 : FVec Ideal S4096x512 .bf16) (x5 x6 : FVec Ideal S4096x128 .bf16) (x9 x10 : FVec Ideal S2x2x512x2x64 .f32)
    (f0 : ∀ i, Fin' (x0 i)) (f4 : ∀ i, Fin' (x4 i)) (f5 : ∀ i, Fin' (x5 i)) (f9 : ∀ i, Fin' (x9 i)) (R : Fin 4096) (l : Fin 512) :
    bandedOut (three (blocks x6)) (context x10) (kept (soft6 (every x0 (near (queries x4) (three (blocks x5))) (far (queries x4) (context x9))))) (ix2 R l)
      = banded x0 x4 x5 x6 x9 x10 R l := by
  have e : R.val / 128 % 16 = R.val % 2048 / 128 := by omega
  have hq : ∀ d : Fin 64, queries x4 (ix6 ⟨R.val / 2048, by omega⟩ ⟨R.val / 128 % 16, by omega⟩ ⟨R.val % 128, by omega⟩ ⟨l.val / 256, by omega⟩ ⟨l.val / 64 % 4, by omega⟩ d)
      = x4 (ix2 R ⟨l.val / 64 * 64 + d.val, by omega⟩) := fun d =>
    (queries_at x4 _ _ _ _ _ d).trans (congrArg₂ (fun a b => x4 (ix2 a b)) (Fin.ext (by dsimp only; omega)) (Fin.ext (by dsimp only; omega)))
  rw [bandedOut_at]
  generalize hE : every x0 (near (queries x4) (three (blocks x5))) (far (queries x4) (context x9)) = E
  simp only [kept_at, soft6_at, three_at, context_at]
  unfold banded
  refine attend2_row (fun k => E (ix6 ⟨R.val / 2048, by omega⟩ ⟨R.val / 128 % 16, by omega⟩ ⟨l.val / 256, by omega⟩ ⟨l.val / 64 % 4, by omega⟩ ⟨R.val % 128, by omega⟩ k))
    _ _ _ _ _ _ _ (fun k => ?_) (fun k => ?_) ?_ (fun k => ?_) (fun k => rfl) (fun k => ?_) (fun k => ?_) (f0 _)
  · subst hE
    refine (every_at x0 _ _ _ _ _ _ _ _).trans ?_
    rw [dif_pos (show k.val < 896 by omega), dif_pos k.isLt]
    refine (near_at _ _ _ _ _ _ _ k).trans ?_
    refine if_congr (iff_of_eq (congrArg (fun n => InBand n (R.val % 128) k.val) e)) (Finset.sum_congr rfl fun d _ => ?_) rfl
    rw [hq, three_at]
    exact congrArg (fun r : Fin 2304 => x4 _ * padded x5 _ r _) (Fin.ext (by dsimp only; omega))
  · subst hE
    refine (every_at x0 _ _ _ _ _ _ _ _).trans ?_
    rw [dif_pos (show 384 + k.val < 896 by omega), dif_neg (show ¬ 384 + k.val < 384 by omega)]
    refine (far_at _ _ _ _ _ _ _ _).trans (Finset.sum_congr rfl fun d _ => ?_)
    rw [hq, context_at]
    exact congrArg (a₁ := (⟨384 + k.val - 384, by omega⟩ : Fin 512)) (a₂ := k) (fun r : Fin 512 => x4 _ * cached x9 _ r _) (Fin.ext (Nat.add_sub_cancel_left 384 k.val))
  · subst hE
    refine (every_at x0 _ _ _ _ _ _ _ _).trans ?_
    rw [dif_neg (show ¬ 896 < 896 by omega)]
    exact congrArg (fun a => x0 (ix1 a)) (Fin.ext (by dsimp only; omega))
  · exact congrArg (fun r : Fin 2304 => padded x6 _ r _) (Fin.ext (by dsimp only; omega))
  · split
    · exact fin_sum _ _ fun d _ => fin_mul (f4 _) (fin_padded x5 f5 _ _ _)
    · exact fin_outside
  · exact fin_sum _ _ fun d _ => fin_mul (f4 _) (f9 _)

/-! ## The whole -/

theorem out_at (a b : FVec Ideal S4096x512 .f32) (R : Fin 4096) (l : Fin 1024) :
    (truncf .bf16 (concatenate S4096x1024 1 [⟨S4096x512, a⟩, ⟨S4096x512, b⟩] concatenates_S4096x512_S4096x512_S4096x1024_d1) bitsLt_bf16_f32 : FVec Ideal S4096x1024 .bf16) (ix2 R l) =
      if h : l.val < 512 then a (ix2 R ⟨l.val, h⟩) else b (ix2 R ⟨l.val - 512, by omega⟩) := by
  pointwise []

theorem out_eq (x0 : FVec Ideal S8 .f32) (x1 x2 : FVec Ideal S4096x1024 .bf16) (x3 x4 : FVec Ideal S4096x512 .bf16) (x5 x6 : FVec Ideal S4096x128 .bf16)
    (x7 : FVec Ideal S2x512x1024 .bf16) (x8 : FVec Ideal S2x512x512 .bf16) (x9 x10 : FVec Ideal S2x2x512x2x64 .f32)
    (f0 : ∀ i, Fin' (x0 i)) (f1 : ∀ i, Fin' (x1 i)) (f2 : ∀ i, Fin' (x2 i)) (f4 : ∀ i, Fin' (x4 i)) (f5 : ∀ i, Fin' (x5 i)) (f7 : ∀ i, Fin' (x7 i)) (f9 : ∀ i, Fin' (x9 i)) :
    out x0 x1 x2 x3 x4 x5 x6 x7 x8 x9 x10 = whole x0 x1 x2 x3 x4 x5 x6 x7 x8 x9 x10 := by
  funext i
  obtain ⟨R, l, rfl⟩ : ∃ (R : Fin 4096) (l : Fin 1024), i = ix2 R l := ⟨i 0, i 1, eq_ix2 i⟩
  unfold out
  rw [out_at]
  rcases lt_or_ge l.val 512 with h | h
  · rw [dif_pos h, fullOut_eq x1 x2 x3 x7 x8 f1 f2 f7]
    refine Eq.trans ?_ (dif_neg (show ¬ 512 ≤ ((ix2 R l : S4096x1024.Idx) 1).val from not_le.mpr h)).symm
    rfl
  · rw [dif_neg (show ¬ l.val < 512 by omega), bandedOut_eq x0 x4 x5 x6 x9 x10 f0 f4 f5 f9]
    refine Eq.trans ?_ (dif_pos (show 512 ≤ ((ix2 R l : S4096x1024.Idx) 1).val from h)).symm
    rfl

end Cert.Attn.Ref
-- ==== Proof.AttnClaims.lean ====
module

public import proofs.«01_k».proof.Defs
public import proofs.«01_k».proof.Proof.AttnSame
public import proofs.«01_k».proof.Proof.AttnFrames
public import Idealize.ShloMosaic.Lib.ReduceAll
public import Idealize.ShloMosaic.Lib.Decide

/-! The attention call computes what its plain program computes, when the queries, keys and sinks are finite. -/

@[expose] public section

set_option maxRecDepth 16384
set_option maxHeartbeats 4000000

noncomputable section

open Idealize.ShloMosaic Idealize.ShloMosaic.TcCoe Idealize.SL.Sem
open Cert.KernelIdeal Cert.KernelIdeal.Gen Cert.KernelIdeal.Value

namespace Cert.Attn

/-! ## The precondition -/

instance facts_pre : Cert.Pre_finite_logits.Facts where
  bcast_S_S8 := by decide
  reducesTo_S8_S_d0 := by decide
  h_S_ := by decide
  bitsLt_bf16_f32 := by decide
  bcast_S_S4096x1024 := by decide
  reducesTo_S4096x1024_S_d0_1 := by decide
  bcast_S_S4096x512 := by decide
  reducesTo_S4096x512_S_d0_1 := by decide
  bcast_S_S4096x128 := by decide
  reducesTo_S4096x128_S_d0_1 := by decide
  bcast_S_S2x512x1024 := by decide
  reducesTo_S2x512x1024_S_d0_1_2 := by decide
  bcast_S_S2x2x512x2x64 := by decide
  reducesTo_S2x2x512x2x64_S_d0_1_2_3_4 := by decide

theorem infinite : Ideal.ofBits .f32 0x7F800000#32 = ⊤ := by simp [Ideal.ofBits, Ideal.ieee]

/-- A number whose absolute value is below infinity is finite. -/
theorem fin_of_abs (x : EReal) (h : Ideal.cmp .olt (max x (-x)) (Ideal.ofBits .f32 0x7F800000#32) = 1#1) : Fin' x := by
  rw [infinite] at h
  have h' : max x (-x) < ⊤ := by
    by_contra hc
    have e : Ideal.cmp .olt (max x (-x)) ⊤ = 0#1 := by
      unfold Ideal.cmp
      simp only [decide_eq_false hc]
      rfl
    rw [e] at h
    exact absurd h (by decide)
  obtain ⟨h1, h2⟩ := max_lt_iff.mp h'
  refine ⟨h1.ne, fun e => ?_⟩
  rw [e] at h2
  exact absurd h2 (by simp)

instance : Subsingleton Cert.Pre_finite_logits.S_.Idx := ⟨fun a b => funext fun k => k.elim0⟩

/-- The test of one array: all its numbers have an absolute value below infinity. -/
theorem fin_all {s : Shape} {axes : List (Fin s.rank)} (x : s.Idx → EReal) (h : s.ReducesTo axes Cert.Pre_finite_logits.S_) (j : Cert.Pre_finite_logits.S_.Idx)
    (p : s.Idx → BitVec 1) (hp : ∀ i, p i = Ideal.cmp .olt (max (x i) (-x i)) (Ideal.ofBits .f32 0x7F800000#32))
    (init : IVec Cert.Pre_finite_logits.S_ 1) (e : Host.reduce IntOp.andi p init h (by decide) j = 1#1) (i : s.Idx) : Fin' (x i) :=
  fin_of_abs (x i) ((hp i).symm.trans (Host.reduce_andi_all p init h (by decide) j e i))

theorem fin_args (x0 : FVec Ideal S8 .f32) (x1 x2 : FVec Ideal S4096x1024 .bf16) (x3 x4 : FVec Ideal S4096x512 .bf16) (x5 x6 : FVec Ideal S4096x128 .bf16)
    (x7 : FVec Ideal S2x512x1024 .bf16) (x8 : FVec Ideal S2x512x512 .bf16) (x9 x10 : FVec Ideal S2x2x512x2x64 .f32)
    (h : Cert.Pre_finite_logits.fn (F := Ideal) x0 x1 x2 x3 x4 x5 x6 x7 x8 x9 x10 = fun _ => 1#1) :
    (∀ i, Fin' (x0 i)) ∧ (∀ i, Fin' (x1 i)) ∧ (∀ i, Fin' (x2 i)) ∧ (∀ i, Fin' (x4 i)) ∧ (∀ i, Fin' (x5 i)) ∧ (∀ i, Fin' (x7 i)) ∧ ∀ i, Fin' (x9 i) := by
  have e := congrFun h (Shape.Idx.first (by decide))
  unfold Cert.Pre_finite_logits.fn Cert.Pre_finite_logits.fn_part1 Cert.Pre_finite_logits.fn_part2 at e
  obtain ⟨e, e9⟩ := IntOp.andi_eq_one.1 e
  obtain ⟨e, e7⟩ := IntOp.andi_eq_one.1 e
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨fin_all x0 _ _ _ (fun i => rfl) _ e0, fin_all x1 _ _ _ (fun i => rfl) _ e1, fin_all x2 _ _ _ (fun i => rfl) _ e2, fin_all x4 _ _ _ (fun i => rfl) _ e4,
    fin_all x5 _ _ _ (fun i => rfl) _ e5, fin_all x7 _ _ _ (fun i => rfl) _ e7, fin_all x9 _ _ _ (fun i => rfl) _ e9⟩

/-! ## The claims -/

theorem frame_ideal_pre : Cert.quiescent_KernelIdeal_pre_finite_logits := fun m ρ _ => Cert.KernelIdeal.Gen.frame m ρ

theorem frame_ref_pre : Cert.quiescent_ReferenceIdeal_pre_finite_logits := fun m ρ _ => frame_ref m ρ trivial

/-- The plain program's result, from equal arguments. -/
theorem same (m' : (ℓ : Loc Cert.ReferenceIdeal.nD Cert.ReferenceIdeal.τ Cert.ReferenceIdeal.sig) → Buf (Elt Ideal) ℓ) (c' : Dev Cert.ReferenceIdeal.nD)
    (x0 : FVec Ideal S8 .f32) (x1 x2 : FVec Ideal S4096x1024 .bf16) (x3 x4 : FVec Ideal S4096x512 .bf16) (x5 x6 : FVec Ideal S4096x128 .bf16)
    (x7 : FVec Ideal S2x512x1024 .bf16) (x8 : FVec Ideal S2x512x512 .bf16) (x9 x10 : FVec Ideal S2x2x512x2x64 .f32)
    (h : Cert.Pre_finite_logits.fn (F := Ideal) x0 x1 x2 x3 x4 x5 x6 x7 x8 x9 x10 = fun _ => 1#1)
    (a0 : m' (c'.tc.loc Cert.ReferenceIdeal.main_arg0) = x0) (a1 : m' (c'.tc.loc Cert.ReferenceIdeal.main_arg1) = x1)
    (a2 : m' (c'.tc.loc Cert.ReferenceIdeal.main_arg2) = x2) (a3 : m' (c'.tc.loc Cert.ReferenceIdeal.main_arg3) = x3)
    (a4 : m' (c'.tc.loc Cert.ReferenceIdeal.main_arg4) = x4) (a5 : m' (c'.tc.loc Cert.ReferenceIdeal.main_arg5) = x5)
    (a6 : m' (c'.tc.loc Cert.ReferenceIdeal.main_arg6) = x6) (a7 : m' (c'.tc.loc Cert.ReferenceIdeal.main_arg7) = x7)
    (a8 : m' (c'.tc.loc Cert.ReferenceIdeal.main_arg8) = x8) (a9 : m' (c'.tc.loc Cert.ReferenceIdeal.main_arg9) = x9)
    (a10 : m' (c'.tc.loc Cert.ReferenceIdeal.main_arg10) = x10) :
    Cert.ReferenceIdeal.Value.res_main_v113 m' c' = whole x0 x1 x2 x3 x4 x5 x6 x7 x8 x9 x10 := by
  obtain ⟨f0, f1, f2, f4, f5, f7, f9⟩ := fin_args x0 x1 x2 x3 x4 x5 x6 x7 x8 x9 x10 h
  rw [Ref.res_eq, a0, a1, a2, a3, a4, a5, a6, a7, a8, a9, a10]
  exact Ref.out_eq x0 x1 x2 x3 x4 x5 x6 x7 x8 x9 x10 f0 f1 f2 f4 f5 f7 f9

theorem algebraic : Cert.algebraic_KernelIdeal_ReferenceIdeal_pre_finite_logits := by
  intro m g m' g' hpre hagree
  refine ⟨fun c => whole (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10)), ?_, ?_⟩
  · refine (θ_run defs _ _).mono (fun r h c => ?_) (run_blocks (F := Ideal) m g)
    exact ⟨(h c).1.trans (final m c), (h c).2⟩
  · refine (θ_run Cert.ReferenceIdeal.defs _ _).mono (fun r h c => ?_) (Cert.ReferenceIdeal.Value.run (F := Ideal) m' g')
    obtain ⟨a0, a1, a2, a3, a4, a5, a6, a7, a8, a9, a10⟩ := hagree c
    exact ⟨(h c).1.trans (same m' c _ _ _ _ _ _ _ _ _ _ _ (hpre c) a0 a1 a2 a3 a4 a5 a6 a7 a8 a9 a10), (h c).2⟩

end Cert.Attn
-- ==== Proof.FfnMath.lean ====
module

public import Idealize.ShloMosaic.PureOps.Ideal
public import Idealize.ShloMosaic.Lib.IdealHost
public import Idealize.ShloMosaic.Lib.Pointwise
public import Idealize.ShloMosaic.Lib.Pipeline.ValueKit

/-! The gated unit of an expert over the extended reals, and the sum over its hidden units cut into four slices. -/

@[expose] public section

noncomputable section

open Idealize.ShloMosaic

namespace Cert.Ffn

/-- `z / (1 + exp (-z))`, as a product by the quotient. -/
def silu (z : EReal) : EReal := z * Ideal.div 1 (1 + Ideal.exp (-z))

/-- One slice of 512 hidden units: what it adds to row `r`, lane `l` of an expert's accumulator. -/
def step {R : Nat} (x : (⟨3, ![1, R, 1024]⟩ : Shape).Idx → EReal) (wg wu : (⟨4, ![1, 1, 1024, 512]⟩ : Shape).Idx → EReal)
    (wd : (⟨4, ![1, 1, 512, 1024]⟩ : Shape).Idx → EReal) (r : Fin R) (l : Fin 1024) : EReal :=
  ∑ j : Fin 512, silu (∑ d : Fin 1024, x (ix3 0 r d) * wg (ix4 0 0 d j)) * (∑ d : Fin 1024, x (ix3 0 r d) * wu (ix4 0 0 d j))
    * wd (ix4 0 0 j l)

/-- What hidden unit `j` of expert `e` adds to row `r`, lane `l`. -/
def hidden {R : Nat} (x : (⟨3, ![16, R, 1024]⟩ : Shape).Idx → EReal)
    (wg wu : (⟨4, ![4, 16, 1024, 2048]⟩ : Shape).Idx → EReal) (wd : (⟨4, ![4, 16, 2048, 1024]⟩ : Shape).Idx → EReal)
    (e : Fin 16) (r : Fin R) (l : Fin 1024) (j : Fin 2048) : EReal :=
  silu (∑ d : Fin 1024, x (ix3 e r d) * wg (ix4 0 e d j)) * (∑ d : Fin 1024, x (ix3 e r d) * wu (ix4 0 e d j)) * wd (ix4 0 e j l)

/-- An expert's result at row `r`, lane `l`: the gated unit through all 2048 hidden units, times the row's gate. -/
def expert {R : Nat} (x : (⟨3, ![16, R, 1024]⟩ : Shape).Idx → EReal) (g : (⟨3, ![16, R, 1]⟩ : Shape).Idx → EReal)
    (wg wu : (⟨4, ![4, 16, 1024, 2048]⟩ : Shape).Idx → EReal) (wd : (⟨4, ![4, 16, 2048, 1024]⟩ : Shape).Idx → EReal)
    (e : Fin 16) (r : Fin R) (l : Fin 1024) : EReal :=
  (∑ j : Fin 2048, hidden x wg wu wd e r l j) * g (ix3 e r 0)

/-- A sum over 2048 hidden units, slice by slice. -/
theorem sum_slices (f : Fin 2048 → EReal) :
    ∑ j : Fin 2048, f j = ∑ k ∈ Finset.range 4, ∑ j : Fin 512, (if h : k * 512 + j.val < 2048 then f ⟨k * 512 + j.val, h⟩ else 0) := by
  have e := Fin.sum_univ_univ_mul_add 4 512 (fun n => if h : n < 2048 then f ⟨n, h⟩ else 0)
  rw [Finset.sum_range (fun k => ∑ j : Fin 512, (if h : k * 512 + j.val < 2048 then f ⟨k * 512 + j.val, h⟩ else 0)), e]
  exact Finset.sum_congr rfl fun j _ => by rw [dif_pos (show j.val < 2048 from j.isLt)]

end Cert.Ffn
-- ==== Proof.Drop.lean ====
module

public import Idealize.ShloMosaic.Lib.Pipeline.ValueKit

/-! A store that later stores hide. -/

@[expose] public section

open Idealize.ShloMosaic

namespace Cert.Drop

variable {s : Shape} {e : EltTy} {Val : EltTy → Type}

/-- Earlier stores do not show where a later one covers. -/
theorem canon_drop [∀ e, Nonempty (Val e)] (L' : List (View.Piece Val s e)) (y : s.Idx) :
    ∀ (L : List (View.Piece Val s e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' y L ?_
      obtain ⟨q, hq, hy⟩ := h
      rcases List.mem_cons.mp hq with rfl | hq'
      · exact absurd hy hm
      · exact ⟨q, hq', hy⟩

end Cert.Drop
-- ==== Proof.FfnStep.lean ====
module

public import proofs.«01_k».proof.Proof.FfnMath
public import proofs.«01_k».proof.Proof.Gen.Kernel2Ideal.Value
public import Idealize.ShloMosaic.Lib.Pipeline.ValueKit
public import Idealize.ShloMosaic.Lib.Pipeline.ReadBack
public import Idealize.ShloMosaic.Lib.Pointwise
public import proofs.«01_k».proof.Proof.Drop

/-! What one grid point of the expert kernel leaves in the two accumulators, read at an element. -/

@[expose] public section

set_option maxRecDepth 16384

noncomputable section

open Idealize.ShloMosaic Idealize.ShloMosaic.TcCoe Idealize.SL.Sem
open Cert.Kernel2Ideal Cert.Kernel2Ideal.Gen

namespace Cert.Ffn

theorem accA0 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : cond0_0 i) (hc1 : ¬cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (y : (⟨2, ![1024, 1024]⟩ : Shape).Idx) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 y = 0 + step (R := 1024) x0 x4 x5 x6 (y 0) (y 1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp (disch := decide) only [↓ View.readCov_skip, ↓ View.readCov_cons_toLoadRect, ↓ View.readCov_fill, View.readAt_eq_ld, Memref.IsWhole.read_unread]
  refine (Cert.Drop.canon_drop [_] y [_, _, _, _] (View.cover_of_tiledL _ ![256, 1024] (by rfl) y)).trans ?_
  canon_tiles z h
  all_goals (
    idx_vars z
    idx_vars y
    obtain rfl : z1 = y1 := (Fin.ext h1).symm
    obtain ⟨y0, hy⟩ := y0
    change y0 = _ at h0
    subst h0
    unfold_payloads
    pointwise [step, silu]
    try simp only [zero_sub])

theorem accA1 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : cond0_0 i) (hc1 : ¬cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (y : (⟨2, ![512, 1024]⟩ : Shape).Idx) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 y = 0 + step (R := 512) x1 x4 x5 x6 (y 0) (y 1) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp (disch := decide) only [↓ View.readCov_skip, ↓ View.readCov_cons_toLoadRect, ↓ View.readCov_fill, View.readAt_eq_ld, Memref.IsWhole.read_unread]
  refine (Cert.Drop.canon_drop [_] y [_, _] (View.cover_of_tiledL _ ![256, 1024] (by rfl) y)).trans ?_
  canon_tiles z h
  all_goals (
    idx_vars z
    idx_vars y
    obtain rfl : z1 = y1 := (Fin.ext h1).symm
    obtain ⟨y0, hy⟩ := y0
    change y0 = _ at h0
    subst h0
    unfold_payloads
    pointwise [step, silu]
    try simp only [zero_sub])

theorem accB0 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : ¬cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (xs0 : Vec Ideal S1024x1024 .f32) (xs1 : Vec Ideal S512x1024 .f32) (y : (⟨2, ![1024, 1024]⟩ : Shape).Idx) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y = xs0 y + step (R := 1024) x0 x4 x5 x6 (y 0) (y 1) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  simp (disch := decide) only [↓ View.readCov_skip, ↓ View.readCov_cons_toLoadRect, ↓ View.readCov_fill, View.readAt_eq_ld, Memref.IsWhole.read_unread]
  canon_tiles z h
  all_goals (
    idx_vars z
    idx_vars y
    obtain rfl : z1 = y1 := (Fin.ext h1).symm
    obtain ⟨y0, hy⟩ := y0
    change y0 = _ at h0
    subst h0
    unfold_payloads
    pointwise [step, silu]
    try simp only [zero_sub])

theorem accB1 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : ¬cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (xs0 : Vec Ideal S1024x1024 .f32) (xs1 : Vec Ideal S512x1024 .f32) (y : (⟨2, ![512, 1024]⟩ : Shape).Idx) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y = xs1 y + step (R := 512) x1 x4 x5 x6 (y 0) (y 1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  simp (disch := decide) only [↓ View.readCov_skip, ↓ View.readCov_cons_toLoadRect, ↓ View.readCov_fill, View.readAt_eq_ld, Memref.IsWhole.read_unread]
  canon_tiles z h
  all_goals (
    idx_vars z
    idx_vars y
    obtain rfl : z1 = y1 := (Fin.ext h1).symm
    obtain ⟨y0, hy⟩ := y0
    change y0 = _ at h0
    subst h0
    unfold_payloads
    pointwise [step, silu]
    try simp only [zero_sub])

theorem accC0 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (xs0 : Vec Ideal S1024x1024 .f32) (xs1 : Vec Ideal S512x1024 .f32) (y : (⟨2, ![1024, 1024]⟩ : Shape).Idx) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y = xs0 y + step (R := 1024) x0 x4 x5 x6 (y 0) (y 1) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  simp (disch := decide) only [↓ View.readCov_skip, ↓ View.readCov_cons_toLoadRect, ↓ View.readCov_fill, View.readAt_eq_ld, Memref.IsWhole.read_unread]
  canon_tiles z h
  all_goals (
    idx_vars z
    idx_vars y
    obtain rfl : z1 = y1 := (Fin.ext h1).symm
    obtain ⟨y0, hy⟩ := y0
    change y0 = _ at h0
    subst h0
    unfold_payloads
    pointwise [step, silu]
    try simp only [zero_sub])

theorem accC1 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (xs0 : Vec Ideal S1024x1024 .f32) (xs1 : Vec Ideal S512x1024 .f32) (y : (⟨2, ![512, 1024]⟩ : Shape).Idx) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y = xs1 y + step (R := 512) x1 x4 x5 x6 (y 0) (y 1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  simp (disch := decide) only [↓ View.readCov_skip, ↓ View.readCov_cons_toLoadRect, ↓ View.readCov_fill, View.readAt_eq_ld, Memref.IsWhole.read_unread]
  canon_tiles z h
  all_goals (
    idx_vars z
    idx_vars y
    obtain rfl : z1 = y1 := (Fin.ext h1).symm
    obtain ⟨y0, hy⟩ := y0
    change y0 = _ at h0
    subst h0
    unfold_payloads
    pointwise [step, silu]
    try simp only [zero_sub])

end Cert.Ffn
-- ==== Proof.FfnOut.lean ====
module

public import proofs.«01_k».proof.Proof.FfnStep

/-! What the last slice of an expert writes back: the accumulators, scaled by the gates. -/

@[expose] public section

set_option maxRecDepth 16384

noncomputable section

open Idealize.ShloMosaic Idealize.ShloMosaic.TcCoe Idealize.SL.Sem
open Cert.Kernel2Ideal Cert.Kernel2Ideal.Gen

namespace Cert.Ffn

theorem out7 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (xs0 : Vec Ideal S1024x1024 .f32) (xs1 : Vec Ideal S512x1024 .f32) (r : Fin 1024) (l : Fin 1024) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 0 r l) = (xs0 (ix2 r l) + step (R := 1024) x0 x4 x5 x6 r l) * x2 (ix3 0 r 0) := by
  have e := accC0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix2 r l)
  unfold sout0_C_0 at e
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)] at e
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C at e ⊢
  dsimp only at e ⊢
  revert e
  sl_unfold_words
  intro e
  canon_tiles z h
  rw [View.readCov_eq_canon']
  generalize View.canon (Val := Elt Ideal) _ = A at e ⊢
  simp (disch := decide) only [View.readAt_eq_ld, Memref.IsWhole.read_unread]
  idx_vars z
  obtain ⟨r, hr⟩ := r
  obtain rfl : z2 = l := (Fin.ext h2).symm
  change r = _ at h1
  subst h1
  unfold_payloads
  pointwise []
  exact congrArg (· * x2 (ix3 0 ⟨z1, hr⟩ 0)) e

theorem out8 (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1 .f32) (harg4 : arg4.IsWhole) (arg5 : Memref sig .tc .vmem S1x512x1 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1x1024x1024 .bf16) (harg9 : arg9.IsWhole) (arg10 : Memref sig .tc .vmem S1x512x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1x1024x1024 .bf16) (x1 : Vec Ideal S1x512x1024 .bf16) (x2 : Vec Ideal S1x1024x1 .f32) (x3 : Vec Ideal S1x512x1 .f32) (x4 : Vec Ideal S1x1x1024x512 .f32) (x5 : Vec Ideal S1x1x1024x512 .f32) (x6 : Vec Ideal S1x1x512x1024 .f32) (xs0 : Vec Ideal S1024x1024 .f32) (xs1 : Vec Ideal S512x1024 .f32) (r : Fin 512) (l : Fin 1024) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 0 r l) = (xs1 (ix2 r l) + step (R := 512) x1 x4 x5 x6 r l) * x3 (ix3 0 r 0) := by
  have e := accC1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix2 r l)
  unfold sout0_C_1 at e
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)] at e
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C at e ⊢
  dsimp only at e ⊢
  revert e
  sl_unfold_words
  intro e
  canon_tiles z h
  rw [View.readCov_eq_canon']
  generalize View.canon (Val := Elt Ideal) _ = A at e ⊢
  simp (disch := decide) only [View.readAt_eq_ld, Memref.IsWhole.read_unread]
  idx_vars z
  obtain ⟨r, hr⟩ := r
  obtain rfl : z2 = l := (Fin.ext h2).symm
  change r = _ at h1
  subst h1
  unfold_payloads
  pointwise []
  exact congrArg (· * x3 (ix3 0 ⟨z1, hr⟩ 0)) e

end Cert.Ffn
-- ==== Proof.FfnFold.lean ====
module

public import proofs.«01_k».proof.Proof.FfnOut

/-! An expert's result: its four slices added up, scaled by the gate. -/

@[expose] public section

set_option maxRecDepth 16384

noncomputable section

open Idealize.ShloMosaic Idealize.ShloMosaic.TcCoe Idealize.SL.Sem
open Cert.Kernel2Ideal Cert.Kernel2Ideal.Gen

namespace Cert.Ffn

variable (m : (ℓ : Loc nD τ sig) → Buf (Elt Ideal) ℓ)

/-- What grid point `n` adds to the long set's accumulator. -/
def term0 (c : Dev nD) (n : ℕ) (i : (⟨2, ![1024, 1024]⟩ : Shape).Idx) : EReal :=
  if h : n < cfg0.N then
    step (R := 1024) (iblk m c 0 ⟨n, h⟩) (iblk m c 4 ⟨n, h⟩) (iblk m c 5 ⟨n, h⟩) (iblk m c 6 ⟨n, h⟩) (i 0) (i 1)
  else 0

/-- What grid point `n` adds to the short set's accumulator. -/
def term1 (c : Dev nD) (n : ℕ) (i : (⟨2, ![512, 1024]⟩ : Shape).Idx) : EReal :=
  if h : n < cfg0.N then
    step (R := 512) (iblk m c 1 ⟨n, h⟩) (iblk m c 4 ⟨n, h⟩) (iblk m c 5 ⟨n, h⟩) (iblk m c 6 ⟨n, h⟩) (i 0) (i 1)
  else 0

theorem fold0 (c : Dev nD) (t : Fin cfg0.N) (i : (⟨2, ![1024, 1024]⟩ : Shape).Idx) :
    (outsAt0 m c t.val t.isLt).2.2.1 i = (0 : EReal) + ∑ k ∈ Finset.range (t.val % 4 + 1), term0 m c (4 * (t.val / 4) + k) i := by
  refine Pipeline.eq_sum_of_reset_step_apply (M := EReal) (fun n h => (outsAt0 m c n h).2.2.1) 4 (fun _ => 0) (term0 m c) ?_ ?_ t i
  · intro t h i
    rw [outsAt0_A m c t h (by omega)]
    dsimp only
    rw [accA0]
    unfold term0
    rw [dif_pos t.isLt]
  · intro t h i
    by_cases h3 : t.val % 4 = 3
    · rw [outsAt0_C m c t h h3]
      dsimp only
      rw [accC0]
      unfold term0
      rw [dif_pos t.isLt]
    · rw [outsAt0_B m c t h h3]
      dsimp only
      rw [accB0]
      unfold term0
      rw [dif_pos t.isLt]

theorem fold1 (c : Dev nD) (t : Fin cfg0.N) (i : (⟨2, ![512, 1024]⟩ : Shape).Idx) :
    (outsAt0 m c t.val t.isLt).2.2.2 i = (0 : EReal) + ∑ k ∈ Finset.range (t.val % 4 + 1), term1 m c (4 * (t.val / 4) + k) i := by
  refine Pipeline.eq_sum_of_reset_step_apply (M := EReal) (fun n h => (outsAt0 m c n h).2.2.2) 4 (fun _ => 0) (term1 m c) ?_ ?_ t i
  · intro t h i
    rw [outsAt0_A m c t h (by omega)]
    dsimp only
    rw [accA1]
    unfold term1
    rw [dif_pos t.isLt]
  · intro t h i
    by_cases h3 : t.val % 4 = 3
    · rw [outsAt0_C m c t h h3]
      dsimp only
      rw [accC1]
      unfold term1
      rw [dif_pos t.isLt]
    · rw [outsAt0_B m c t h h3]
      dsimp only
      rw [accB1]
      unfold term1
      rw [dif_pos t.isLt]

end Cert.Ffn
-- ==== Proof.FfnBlocks.lean ====
module

public import proofs.«01_k».proof.Proof.FfnFold

/-! The blocks that a grid point of the expert kernel reads, as elements of the arguments. -/

@[expose] public section

set_option maxRecDepth 16384

noncomputable section

open Idealize.ShloMosaic Idealize.ShloMosaic.TcCoe Idealize.SL.Sem
open Cert.Kernel2Ideal Cert.Kernel2Ideal.Gen

namespace Cert.Ffn

variable (m : (ℓ : Loc nD τ sig) → Buf (Elt Ideal) ℓ)

theorem idx0 : ∀ t : Fin cfg0.N, win0_0.index t = ![t.val / 4, 0, 0] := by decide +kernel
theorem idx1 : ∀ t : Fin cfg0.N, win0_1.index t = ![t.val / 4, 0, 0] := by decide +kernel
theorem idx2 : ∀ t : Fin cfg0.N, win0_2.index t = ![t.val / 4, 0, 0] := by decide +kernel
theorem idx3 : ∀ t : Fin cfg0.N, win0_3.index t = ![t.val / 4, 0, 0] := by decide +kernel
theorem idx4 : ∀ t : Fin cfg0.N, win0_4.index t = ![0, t.val / 4, 0, t.val % 4] := by decide +kernel
theorem idx5 : ∀ t : Fin cfg0.N, win0_5.index t = ![0, t.val / 4, 0, t.val % 4] := by decide +kernel
theorem idx6 : ∀ t : Fin cfg0.N, win0_6.index t = ![0, t.val / 4, t.val % 4, 0] := by decide +kernel

theorem blk0 (c : Dev nD) (e : Fin 16) (t : Fin cfg0.N) (h : t.val / 4 = e) (r : Fin 1024) (d : Fin 1024) :
    (iblk m c 0 t : Vec Ideal S1x1024x1024 .bf16) (ix3 0 r d) = m (c.tc.loc main_arg0) (ix3 e r d) := by
  blk_ext [iblk, V, idx0 t]

theorem blk1 (c : Dev nD) (e : Fin 16) (t : Fin cfg0.N) (h : t.val / 4 = e) (r : Fin 512) (d : Fin 1024) :
    (iblk m c 1 t : Vec Ideal S1x512x1024 .bf16) (ix3 0 r d) = m (c.tc.loc main_arg1) (ix3 e r d) := by
  blk_ext [iblk, V, idx1 t]

theorem blk2 (c : Dev nD) (e : Fin 16) (t : Fin cfg0.N) (h : t.val / 4 = e) (r : Fin 1024) :
    (iblk m c 2 t : Vec Ideal S1x1024x1 .f32) (ix3 0 r 0) = m (c.tc.loc main_arg2) (ix3 e r 0) := by
  blk_ext [iblk, V, idx2 t]

theorem blk3 (c : Dev nD) (e : Fin 16) (t : Fin cfg0.N) (h : t.val / 4 = e) (r : Fin 512) :
    (iblk m c 3 t : Vec Ideal S1x512x1 .f32) (ix3 0 r 0) = m (c.tc.loc main_arg3) (ix3 e r 0) := by
  blk_ext [iblk, V, idx3 t]

theorem blk4 (c : Dev nD) (e : Fin 16) (k : Fin 4) (t : Fin cfg0.N) (h : t.val / 4 = e) (hk : t.val % 4 = k) (d : Fin 1024) (j : Fin 512)
    (J : Fin 2048) (hJ : J.val = k.val * 512 + j.val) :
    (iblk m c 4 t : Vec Ideal S1x1x1024x512 .f32) (ix4 0 0 d j) = m (c.tc.loc main_arg4) (ix4 0 e d J) := by
  blk_ext [iblk, V, idx4 t]

theorem blk5 (c : Dev nD) (e : Fin 16) (k : Fin 4) (t : Fin cfg0.N) (h : t.val / 4 = e) (hk : t.val % 4 = k) (d : Fin 1024) (j : Fin 512)
    (J : Fin 2048) (hJ : J.val = k.val * 512 + j.val) :
    (iblk m c 5 t : Vec Ideal S1x1x1024x512 .f32) (ix4 0 0 d j) = m (c.tc.loc main_arg5) (ix4 0 e d J) := by
  blk_ext [iblk, V, idx5 t]

theorem blk6 (c : Dev nD) (e : Fin 16) (k : Fin 4) (t : Fin cfg0.N) (h : t.val / 4 = e) (hk : t.val % 4 = k) (l : Fin 1024) (j : Fin 512)
    (J : Fin 2048) (hJ : J.val = k.val * 512 + j.val) :
    (iblk m c 6 t : Vec Ideal S1x1x512x1024 .f32) (ix4 0 0 j l) = m (c.tc.loc main_arg6) (ix4 0 e J l) := by
  blk_ext [iblk, V, idx6 t]

end Cert.Ffn
-- ==== Proof.FfnValue.lean ====
module

public import proofs.«01_k».proof.Proof.FfnBlocks

/-! The expert kernel's two results, element by element. -/

@[expose] public section

set_option maxRecDepth 16384

noncomputable section

open Idealize.ShloMosaic Idealize.ShloMosaic.TcCoe Idealize.SL.Sem
open Cert.Kernel2Ideal Cert.Kernel2Ideal.Gen Cert.Kernel2Ideal.Value

namespace Cert.Ffn

variable (m : (ℓ : Loc nD τ sig) → Buf (Elt Ideal) ℓ)

theorem slice_long (c : Dev nD) (e : Fin 16) (r l : Fin 1024) (k : ℕ) (hk : k < 4) :
    term0 m c (4 * e.val + k) (ix2 r l) = ∑ j : Fin 512, (if h : k * 512 + j.val < 2048 then
      hidden (R := 1024) (m (c.tc.loc main_arg0)) (m (c.tc.loc main_arg4)) (m (c.tc.loc main_arg5)) (m (c.tc.loc main_arg6)) e r l
        ⟨k * 512 + j.val, h⟩ else (0 : EReal)) := by
  have hN : cfg0.N = 64 := N_0
  have hlt : 4 * e.val + k < cfg0.N := by omega
  unfold term0
  rw [dif_pos hlt]
  show step (R := 1024) (iblk m c 0 ⟨_, hlt⟩) (iblk m c 4 ⟨_, hlt⟩) (iblk m c 5 ⟨_, hlt⟩) (iblk m c 6 ⟨_, hlt⟩) r l = _
  unfold step
  have hd : (⟨4 * e.val + k, hlt⟩ : Fin cfg0.N).val / 4 = e := by dsimp only; omega
  have hm : (⟨4 * e.val + k, hlt⟩ : Fin cfg0.N).val % 4 = (⟨k, hk⟩ : Fin 4) := by dsimp only; omega
  refine Finset.sum_congr rfl fun j _ => ?_
  have hj : k * 512 + j.val < 2048 := by omega
  rw [dif_pos hj]
  rw [blk6 m c e ⟨k, hk⟩ _ hd hm _ j ⟨k * 512 + j.val, hj⟩ rfl]
  simp only [blk0 m c e _ hd, blk4 m c e ⟨k, hk⟩ _ hd hm _ j ⟨k * 512 + j.val, hj⟩ rfl,
    blk5 m c e ⟨k, hk⟩ _ hd hm _ j ⟨k * 512 + j.val, hj⟩ rfl]
  rfl

theorem slice_short (c : Dev nD) (e : Fin 16) (r : Fin 512) (l : Fin 1024) (k : ℕ) (hk : k < 4) :
    term1 m c (4 * e.val + k) (ix2 r l) = ∑ j : Fin 512, (if h : k * 512 + j.val < 2048 then
      hidden (R := 512) (m (c.tc.loc main_arg1)) (m (c.tc.loc main_arg4)) (m (c.tc.loc main_arg5)) (m (c.tc.loc main_arg6)) e r l
        ⟨k * 512 + j.val, h⟩ else (0 : EReal)) := by
  have hN : cfg0.N = 64 := N_0
  have hlt : 4 * e.val + k < cfg0.N := by omega
  unfold term1
  rw [dif_pos hlt]
  show step (R := 512) (iblk m c 1 ⟨_, hlt⟩) (iblk m c 4 ⟨_, hlt⟩) (iblk m c 5 ⟨_, hlt⟩) (iblk m c 6 ⟨_, hlt⟩) r l = _
  unfold step
  have hd : (⟨4 * e.val + k, hlt⟩ : Fin cfg0.N).val / 4 = e := by dsimp only; omega
  have hm : (⟨4 * e.val + k, hlt⟩ : Fin cfg0.N).val % 4 = (⟨k, hk⟩ : Fin 4) := by dsimp only; omega
  refine Finset.sum_congr rfl fun j _ => ?_
  have hj : k * 512 + j.val < 2048 := by omega
  rw [dif_pos hj]
  rw [blk6 m c e ⟨k, hk⟩ _ hd hm _ j ⟨k * 512 + j.val, hj⟩ rfl]
  simp only [blk1 m c e _ hd, blk4 m c e ⟨k, hk⟩ _ hd hm _ j ⟨k * 512 + j.val, hj⟩ rfl,
    blk5 m c e ⟨k, hk⟩ _ hd hm _ j ⟨k * 512 + j.val, hj⟩ rfl]
  rfl

theorem value_long (c : Dev nD) (e : Fin 16) (r l : Fin 1024) : G7 m c (ix3 e r l) =
    expert (R := 1024) (m (c.tc.loc main_arg0)) (m (c.tc.loc main_arg2)) (m (c.tc.loc main_arg4)) (m (c.tc.loc main_arg5))
      (m (c.tc.loc main_arg6)) e r l := by
  have hN : cfg0.N = 64 := N_0
  have hp : pt7Of (ix3 e r l) = 4 * e.val + 3 := by
    show 4 * (1 * (e.val / 1 - 0) + 1 * (r.val / 1024 - 0) + 1 * (l.val / 1024 - 0)) + 3 = _
    omega
  have hlt : 4 * e.val + 3 < cfg0.N := by omega
  have hl : loc7Of (ix3 e r l) = ix3 0 r l := by
    funext a
    match a with
    | ⟨0, _⟩ => exact Fin.ext (show e.val % 1 = 0 by omega)
    | ⟨1, _⟩ => exact Fin.ext (show r.val % 1024 = r.val by omega)
    | ⟨2, _⟩ => exact Fin.ext (show l.val % 1024 = l.val by omega)
  unfold G7
  rw [dif_pos (by rw [hp]; exact hlt), ← outsAt0_sweep m c _ (by rw [hp]; exact hlt), hl]
  have key : ∀ n (h : n < cfg0.N), n = 4 * e.val + 3 → (outsAt0 m c n h).1 (ix3 0 r l) =
      expert (R := 1024) (m (c.tc.loc main_arg0)) (m (c.tc.loc main_arg2)) (m (c.tc.loc main_arg4)) (m (c.tc.loc main_arg5))
        (m (c.tc.loc main_arg6)) e r l := by
    intro n h hn
    have hd : (⟨n, h⟩ : Fin cfg0.N).val / 4 = e := by dsimp only; omega
    have hm : (⟨n, h⟩ : Fin cfg0.N).val % 4 = 3 := by dsimp only; omega
    have f := fold0 m c ⟨n, h⟩ (ix2 r l)
    rw [outsAt0_C m c ⟨n, h⟩ (by omega) hm] at f
    dsimp only at f
    rw [accC0] at f
    have g := outsAt0_C m c ⟨n, h⟩ (by omega) hm
    dsimp only at g
    rw [g]
    dsimp only
    rw [out7]
    refine (congrArg (· * _) f).trans ?_
    rw [zero_add]
    unfold expert
    rw [sum_slices, blk2 m c e ⟨n, h⟩ hd]
    refine congrArg (· * _) ?_
    have h4 : n % 4 + 1 = 4 := by omega
    have hq : n / 4 = e.val := hd
    rw [h4, hq]
    exact Finset.sum_congr rfl fun k hk => slice_long m c e r l k (Finset.mem_range.mp hk)
  exact key _ _ hp

theorem value_short (c : Dev nD) (e : Fin 16) (r : Fin 512) (l : Fin 1024) : G8 m c (ix3 e r l) =
    expert (R := 512) (m (c.tc.loc main_arg1)) (m (c.tc.loc main_arg3)) (m (c.tc.loc main_arg4)) (m (c.tc.loc main_arg5))
      (m (c.tc.loc main_arg6)) e r l := by
  have hN : cfg0.N = 64 := N_0
  have hp : pt8Of (ix3 e r l) = 4 * e.val + 3 := by
    show 4 * (1 * (e.val / 1 - 0) + 1 * (r.val / 512 - 0) + 1 * (l.val / 1024 - 0)) + 3 = _
    omega
  have hlt : 4 * e.val + 3 < cfg0.N := by omega
  have hl : loc8Of (ix3 e r l) = ix3 0 r l := by
    funext a
    match a with
    | ⟨0, _⟩ => exact Fin.ext (show e.val % 1 = 0 by omega)
    | ⟨1, _⟩ => exact Fin.ext (show r.val % 512 = r.val by omega)
    | ⟨2, _⟩ => exact Fin.ext (show l.val % 1024 = l.val by omega)
  unfold G8
  rw [dif_pos (by rw [hp]; exact hlt), ← outsAt0_sweep m c _ (by rw [hp]; exact hlt), hl]
  have key : ∀ n (h : n < cfg0.N), n = 4 * e.val + 3 → (outsAt0 m c n h).2.1 (ix3 0 r l) =
      expert (R := 512) (m (c.tc.loc main_arg1)) (m (c.tc.loc main_arg3)) (m (c.tc.loc main_arg4)) (m (c.tc.loc main_arg5))
        (m (c.tc.loc main_arg6)) e r l := by
    intro n h hn
    have hd : (⟨n, h⟩ : Fin cfg0.N).val / 4 = e := by dsimp only; omega
    have hm : (⟨n, h⟩ : Fin cfg0.N).val % 4 = 3 := by dsimp only; omega
    have f := fold1 m c ⟨n, h⟩ (ix2 r l)
    rw [outsAt0_C m c ⟨n, h⟩ (by omega) hm] at f
    dsimp only at f
    rw [accC1] at f
    have g := outsAt0_C m c ⟨n, h⟩ (by omega) hm
    dsimp only at g
    rw [g]
    dsimp only
    rw [out8]
    refine (congrArg (· * _) f).trans ?_
    rw [zero_add]
    unfold expert
    rw [sum_slices, blk3 m c e ⟨n, h⟩ hd]
    refine congrArg (· * _) ?_
    have h4 : n % 4 + 1 = 4 := by omega
    have hq : n / 4 = e.val := hd
    rw [h4, hq]
    exact Finset.sum_congr rfl fun k hk => slice_short m c e r l k (Finset.mem_range.mp hk)
  exact key _ _ hp

end Cert.Ffn
-- ==== Proof.FfnRef.lean ====
module

public import proofs.«01_k».proof.Proof.FfnMath
public import Idealize.ShloMosaic.Lib.Tactic.CleanTypes
public import proofs.«01_k».proof.Proof.Gen.Reference2Ideal.Read

/-! The plain program of the experts, read at an element. -/

@[expose] public section

set_option maxRecDepth 16384

noncomputable section

open Idealize.ShloMosaic Idealize.ShloMosaic.TcCoe Idealize.SL.Sem
open Cert.Reference2Ideal Cert.Reference2Ideal.Gen Cert.Reference2Ideal.Read

namespace Cert.Ffn

theorem ref_long (x0 : Vec Ideal S16x1024x1024 .bf16) (x2 : Vec Ideal S16x1024x1 .f32) (x4 x5 : Vec Ideal S4x16x1024x2048 .f32)
    (x6 : Vec Ideal S4x16x2048x1024 .f32) (e : Fin 16) (r l : Fin 1024) :
    val_main_v14 (F := Ideal) x0 x2 x4 x5 x6 (ix3 e r l) = expert (R := 1024) x0 x2 x4 x5 x6 e r l := by
  rw [← val_main_v14_eq]
  clean_types
  pointwise [expert, hidden, silu]

theorem ref_short (x1 : Vec Ideal S16x512x1024 .bf16) (x3 : Vec Ideal S16x512x1 .f32) (x4 x5 : Vec Ideal S4x16x1024x2048 .f32)
    (x6 : Vec Ideal S4x16x2048x1024 .f32) (e : Fin 16) (r : Fin 512) (l : Fin 1024) :
    val_main_v29 (F := Ideal) x1 x3 x4 x5 x6 (ix3 e r l) = expert (R := 512) x1 x3 x4 x5 x6 e r l := by
  rw [← val_main_v29_eq]
  clean_types
  pointwise [expert, hidden, silu]

end Cert.Ffn
-- ==== Proof.FfnClaims.lean ====
module

public import proofs.«01_k».proof.Defs
public import proofs.«01_k».proof.Proof.FfnValue
public import proofs.«01_k».proof.Proof.FfnRef
public import proofs.«01_k».proof.Proof.Gen.Kernel2.Frame
public import proofs.«01_k».proof.Proof.Gen.Kernel2Ideal.Frame
public import Idealize.ShloMosaic.Lib.Quiescent

/-! The claims about the experts' feed-forward call. -/

@[expose] public section

set_option maxRecDepth 16384

noncomputable section

open Idealize.ShloMosaic Idealize.ShloMosaic.TcCoe Idealize.SL.Sem

namespace Cert.Ffn

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ref : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem kept : Cert.preserves_Kernel2_Kernel2Ideal := trivial

/-- The first result is the plain program's, whenever the two programs' arguments agree. -/
theorem same_long (x : Vec Ideal Cert.Reference2Ideal.S16x1024x1024 .bf16) (g : Vec Ideal Cert.Reference2Ideal.S16x1024x1 .f32)
    (wg wu : Vec Ideal Cert.Reference2Ideal.S4x16x1024x2048 .f32) (wd : Vec Ideal Cert.Reference2Ideal.S4x16x2048x1024 .f32)
    (m : (ℓ : Loc Cert.Kernel2Ideal.nD Cert.Kernel2Ideal.τ Cert.Kernel2Ideal.sig) → Buf (Elt Ideal) ℓ) (c : Dev Cert.Kernel2Ideal.nD)
    (hx : x = m (c.tc.loc Cert.Kernel2Ideal.main_arg0)) (hg : g = m (c.tc.loc Cert.Kernel2Ideal.main_arg2))
    (h4 : wg = m (c.tc.loc Cert.Kernel2Ideal.main_arg4)) (h5 : wu = m (c.tc.loc Cert.Kernel2Ideal.main_arg5))
    (h6 : wd = m (c.tc.loc Cert.Kernel2Ideal.main_arg6)) :
    Cert.Reference2Ideal.Read.val_main_v14 (F := Ideal) x g wg wu wd = Cert.Kernel2Ideal.Value.G7 m c := by
  subst hx hg h4 h5 h6
  funext i
  have hi : i = ix3 (i 0) (i 1) (i 2) := by
    funext a
    match a with
    | ⟨0, _⟩ => rfl
    | ⟨1, _⟩ => rfl
    | ⟨2, _⟩ => rfl
  rw [hi]
  exact (ref_long _ _ _ _ _ (i 0) (i 1) (i 2)).trans (value_long m c (i 0) (i 1) (i 2)).symm

/-- The second result is the plain program's, whenever the two programs' arguments agree. -/
theorem same_short (x : Vec Ideal Cert.Reference2Ideal.S16x512x1024 .bf16) (g : Vec Ideal Cert.Reference2Ideal.S16x512x1 .f32)
    (wg wu : Vec Ideal Cert.Reference2Ideal.S4x16x1024x2048 .f32) (wd : Vec Ideal Cert.Reference2Ideal.S4x16x2048x1024 .f32)
    (m : (ℓ : Loc Cert.Kernel2Ideal.nD Cert.Kernel2Ideal.τ Cert.Kernel2Ideal.sig) → Buf (Elt Ideal) ℓ) (c : Dev Cert.Kernel2Ideal.nD)
    (hx : x = m (c.tc.loc Cert.Kernel2Ideal.main_arg1)) (hg : g = m (c.tc.loc Cert.Kernel2Ideal.main_arg3))
    (h4 : wg = m (c.tc.loc Cert.Kernel2Ideal.main_arg4)) (h5 : wu = m (c.tc.loc Cert.Kernel2Ideal.main_arg5))
    (h6 : wd = m (c.tc.loc Cert.Kernel2Ideal.main_arg6)) :
    Cert.Reference2Ideal.Read.val_main_v29 (F := Ideal) x g wg wu wd = Cert.Kernel2Ideal.Value.G8 m c := by
  subst hx hg h4 h5 h6
  funext i
  have hi : i = ix3 (i 0) (i 1) (i 2) := by
    funext a
    match a with
    | ⟨0, _⟩ => rfl
    | ⟨1, _⟩ => rfl
    | ⟨2, _⟩ => rfl
  rw [hi]
  exact (ref_short _ _ _ _ _ (i 0) (i 1) (i 2)).trans (value_short m c (i 0) (i 1) (i 2)).symm

theorem algebraic : Cert.algebraic_Kernel2Ideal_Reference2Ideal := by
  intro m g m' g' _ hagree
  refine ⟨fun c => Cert.Kernel2Ideal.Value.G7 m c, fun c => Cert.Kernel2Ideal.Value.G8 m c,
    Cert.Kernel2Ideal.Value.run (F := Ideal) m g, ?_⟩
  refine (θ_run Cert.Reference2Ideal.defs _ _).mono (fun r h c => ?_) (Cert.Reference2Ideal.Value.run (F := Ideal) m' g')
  obtain ⟨a0, a1, a2, a3, a4, a5, a6⟩ := hagree c
  obtain ⟨r0, r1, rest⟩ := h c
  exact ⟨r0.trans (same_long _ _ _ _ _ m c a0 a2 a4 a5 a6), r1.trans (same_short _ _ _ _ _ m c a1 a3 a4 a5 a6), rest⟩

end Cert.Ffn
-- ==== Proof.ModMath.lean ====
module

public import proofs.«01_k».proof.Proof.AttnMath

/-! A row normalised, scaled and shifted, and its product with a weight matrix. -/

@[expose] public section

noncomputable section

open Idealize.ShloMosaic

namespace Cert.Mod

/-- The reciprocal of the row's length. -/
def share : EReal := Ideal.ofBits .f32 0x3A800000#32

theorem div_len (x : EReal) : Ideal.div x (Ideal.ofBits .f32 0x44800000#32) = x * share := by
  have h1 : Ideal.ofBits .f32 0x44800000#32 = ((1024 : ℝ) : EReal) := by
    simp [Ideal.ofBits, Ideal.ieee, -EReal.coe_mul]
    norm_num
  have h2 : share = ((1 / 1024 : ℝ) : EReal) := by
    unfold share
    simp [Ideal.ofBits, Ideal.ieee, -EReal.coe_mul]
    norm_num
  rw [h1, h2]
  exact Ideal.div_coe (by norm_num) x

/-- One element of the row: divided by the root of the mean square, times the gain, scaled by `1 + a` and shifted by `b`. -/
def modRow (x g a b : Fin 1024 → EReal) (k : Fin 1024) : EReal :=
  x k * Ideal.rsqrt ((∑ j, x j * x j) * share + Ideal.ofBits .f32 0x358637BD#32) * g k * (1 + a k) + b k

/-- The squares' sum, taken lane by lane over the row's eight groups. -/
theorem squares (x : Fin 1024 → EReal) : (∑ k : Fin 128,
      (x ⟨k.val, by omega⟩ * x ⟨k.val, by omega⟩ + x ⟨128 + k.val, by omega⟩ * x ⟨128 + k.val, by omega⟩
        + x ⟨256 + k.val, by omega⟩ * x ⟨256 + k.val, by omega⟩ + x ⟨384 + k.val, by omega⟩ * x ⟨384 + k.val, by omega⟩
        + x ⟨512 + k.val, by omega⟩ * x ⟨512 + k.val, by omega⟩ + x ⟨640 + k.val, by omega⟩ * x ⟨640 + k.val, by omega⟩
        + x ⟨768 + k.val, by omega⟩ * x ⟨768 + k.val, by omega⟩ + x ⟨896 + k.val, by omega⟩ * x ⟨896 + k.val, by omega⟩))
    = ∑ j, x j * x j := by
  let f : ℕ → EReal := fun n => if h : n < 1024 then x ⟨n, h⟩ * x ⟨n, h⟩ else 0
  have e := Attn.sum_lanes f 7
  have hr : (∑ l : Fin ((7 + 1) * 128), f l) = ∑ j : Fin 1024, x j * x j :=
    Finset.sum_congr rfl fun j _ => dif_pos j.isLt
  rw [hr] at e
  rw [← e]
  refine Finset.sum_congr rfl fun k _ => ?_
  have hf : ∀ n (h : n < 1024), x ⟨n, h⟩ * x ⟨n, h⟩ = f n := fun n h => by simp only [f]; rw [dif_pos h]
  simp only [hf]
  rfl

end Cert.Mod
-- ==== Proof.ModWide.lean ====
module

public import proofs.«01_k».proof.Defs
public import proofs.«01_k».proof.Proof.ModMath
public import Idealize.ShloMosaic.Lib.Tactic.CleanTypes
public import Idealize.ShloMosaic.Lib.Quiescent
public import proofs.«01_k».proof.Proof.Gen.Kernel3.Frame
public import proofs.«01_k».proof.Proof.Gen.Kernel3Ideal.Value
public import proofs.«01_k».proof.Proof.Gen.Reference3Ideal.Read

/-! The modulated projection into a recurrent layer: its frames and its value. -/

@[expose] public section

set_option maxRecDepth 16384

noncomputable section

open Idealize.ShloMosaic Idealize.ShloMosaic.TcCoe Idealize.SL.Sem
open Cert.Kernel3Ideal Cert.Kernel3Ideal.Gen Cert.Kernel3Ideal.Value

namespace Cert.Mod.Wide

theorem normed (v0 : Vec Ideal S512x1024 .f32) (v1 : Vec Ideal S1x1024 .f32) (v29 v35 : Vec Ideal S1x1x1024 .f32) (r : Fin 512) (k : Fin 1024) :
    k0_pay5 (F := Ideal) v0 v1 v29 v35 (ix2 r k) =
      modRow (fun j => v0 (ix2 r j)) (fun j => v1 (ix2 0 j)) (fun j => v29 (ix3 0 0 j)) (fun j => v35 (ix3 0 0 j)) k := by
  unfold_payloads
  pointwise []
  exact congrArg (fun s => v0 (ix2 r k) * Ideal.rsqrt (s * share + Ideal.ofBits .f32 0x358637BD#32) * v1 (ix2 0 k)
    * (1 + v29 (ix3 0 0 k)) + v35 (ix3 0 0 k)) (squares fun j => v0 (ix2 r j))

/-- What one grid point computes: every row of its block normalised and modulated, times every column of the weights. -/
theorem block (x0 : Vec Ideal S512x1024 .f32) (x1 : Vec Ideal S1x1024 .f32) (x2 : Vec Ideal S1x6x1024 .f32) (x3 : Vec Ideal S1024x5120 .bf16)
    (r : Fin 512) (l : Fin 5120) : out0_4 (F := Ideal) x0 x1 x2 x3 (ix2 r l) =
      ∑ k : Fin 1024, modRow (fun j => x0 (ix2 r j)) (fun j => x1 (ix2 0 j)) (fun j => x2 (ix3 0 1 j)) (fun j => x2 (ix3 0 0 j)) k * x3 (ix2 k l) := by
  unfold out0_4
  canon_tiles z h
  all_goals
    idx_vars z
    obtain ⟨l, hl⟩ := l
    obtain rfl : z0 = r := (Fin.ext h0).symm
    change l = _ at h1
    subst h1
    dsimp only [k0_pay1, k0_pay2, k0_pay3, k0_pay4, k0_pay6, k0_pay7]
    pointwise [normed]

/-- The whole result as a function of the arguments. -/
def whole (x0 : Vec Ideal S4096x1024 .f32) (x1 : Vec Ideal S1x1024 .f32) (x2 : Vec Ideal S3x6x1024 .f32) (x3 : Vec Ideal S1024x5120 .bf16) :
    Vec Ideal S4096x5120 .f32 := fun i => ∑ k : Fin 1024,
  modRow (fun j => x0 (ix2 (i 0) j)) (fun j => x1 (ix2 0 j)) (fun j => x2 (ix3 ⟨1 + (i 0).val / 2048, by have := (i 0).isLt; change (i 0).val < 4096 at this; omega⟩ 1 j))
    (fun j => x2 (ix3 ⟨1 + (i 0).val / 2048, by have := (i 0).isLt; change (i 0).val < 4096 at this; omega⟩ 0 j)) k * x3 (ix2 k (i 1))

theorem ref (x0 : Vec Ideal Cert.Reference3Ideal.S4096x1024 .f32) (x1 : Vec Ideal Cert.Reference3Ideal.S1x1024 .f32)
   (x2 : Vec Ideal Cert.Reference3Ideal.S3x6x1024 .f32) (x3 : Vec Ideal Cert.Reference3Ideal.S1024x5120 .bf16) (r : Fin 4096) (l : Fin 5120) :
    Cert.Reference3Ideal.Read.val_main_v29 (F := Ideal) x0 x1 x2 x3 (ix2 r l) = whole x0 x1 x2 x3 (ix2 r l) := by
  rw [← Cert.Reference3Ideal.Read.val_main_v29_eq]
  clean_types
  pointwise [div_len]
  rfl

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![1 + t.val / 4, 0, 0] := by decide +kernel
theorem idx3 : ∀ t : Fin cfg0.N, win0_3.index t = ![0, 0] := by decide +kernel
theorem idx4 : ∀ t : Fin cfg0.N, win0_4.index t = ![t.val, 0] := by decide +kernel

theorem blk0 (c : Dev nD) (t : Fin cfg0.N) (r : Fin 512) (j : Fin 1024) (R : Fin 4096) (h : R.val = t.val * 512 + r.val) :
    (iblk m c 0 t : Vec Ideal S512x1024 .f32) (ix2 r j) = m (c.tc.loc main_arg0) (ix2 R j) := by
  blk_ext [iblk, V, idx0 t]

theorem blk1 (c : Dev nD) (t : Fin cfg0.N) (j : Fin 1024) :
    (iblk m c 1 t : Vec Ideal S1x1024 .f32) (ix2 0 j) = m (c.tc.loc main_arg1) (ix2 0 j) := by
  blk_ext [iblk, V, idx1 t]

theorem blk2 (c : Dev nD) (t : Fin cfg0.N) (q : Fin 6) (j : Fin 1024) (g : Fin 3) (h : g.val = 1 + t.val / 4) :
    (iblk m c 2 t : Vec Ideal S1x6x1024 .f32) (ix3 0 q j) = m (c.tc.loc main_arg2) (ix3 g q j) := by
  blk_ext [iblk, V, idx2 t]

theorem blk3 (c : Dev nD) (t : Fin cfg0.N) (k : Fin 1024) (l : Fin 5120) :
    (iblk m c 3 t : Vec Ideal S1024x5120 .bf16) (ix2 k l) = m (c.tc.loc main_arg3) (ix2 k l) := by
  blk_ext [iblk, V, idx3 t]

/-- The array after the run is the whole product. -/
theorem final (c : Dev nD) : (dats (F := Ideal) m 0 c).arrAt 4 cfg0.N =
    whole (m (c.tc.loc main_arg0)) (m (c.tc.loc main_arg1)) (m (c.tc.loc main_arg2)) (m (c.tc.loc main_arg3)) := by
  refine (dats (F := Ideal) m 0 c).arrAt_eq_of_covers 4 _ (by decide +kernel) fun t hf y => ?_
  blk_simp
  rw [after0_4]
  have ht : t.val < 8 := t.isLt
  obtain ⟨r, l, rfl⟩ : ∃ (r : Fin 512) (l : Fin 5120), y = ix2 r l := ⟨y 0, y 1, eq_ix2 y⟩
  have he : (win0_4.blk t).view.emb (ix2 r l) = ix2 (⟨t.val * 512 + r.val, by omega⟩ : Fin 4096) l := by
    blk_ext [idx4 t]
  rw [he]
  refine (block _ _ _ _ r l).trans ?_
  unfold whole
  simp only [blk0 m c t r _ ⟨t.val * 512 + r.val, by omega⟩ rfl, blk1, blk3,
    blk2 m c t _ _ ⟨1 + (t.val * 512 + r.val) / 2048, by omega⟩ (by dsimp only; omega)]
  rfl

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem kept : Cert.preserves_Kernel3_Kernel3Ideal := trivial

/-- The plain program's result is the array, whenever the two programs' arguments agree. -/
theorem same (x0 : Vec Ideal Cert.Reference3Ideal.S4096x1024 .f32) (x1 : Vec Ideal Cert.Reference3Ideal.S1x1024 .f32)
   (x2 : Vec Ideal Cert.Reference3Ideal.S3x6x1024 .f32) (x3 : Vec Ideal Cert.Reference3Ideal.S1024x5120 .bf16) (c : Dev nD)
    (h0 : x0 = m (c.tc.loc main_arg0)) (h1 : x1 = m (c.tc.loc main_arg1)) (h2 : x2 = m (c.tc.loc main_arg2)) (h3 : x3 = m (c.tc.loc main_arg3)) :
    Cert.Reference3Ideal.Read.val_main_v29 (F := Ideal) x0 x1 x2 x3 =
      whole (m (c.tc.loc main_arg0)) (m (c.tc.loc main_arg1)) (m (c.tc.loc main_arg2)) (m (c.tc.loc main_arg3)) := by
  subst h0 h1 h2 h3
  funext i
  obtain ⟨r, l, rfl⟩ : ∃ (r : Fin 4096) (l : Fin 5120), i = ix2 r l := ⟨i 0, i 1, eq_ix2 i⟩
  exact ref _ _ _ _ r l

theorem algebraic : Cert.algebraic_Kernel3Ideal_Reference3Ideal := by
  intro m g m' g' _ hagree
  refine ⟨fun c => whole (m (c.tc.loc main_arg0)) (m (c.tc.loc main_arg1)) (m (c.tc.loc main_arg2)) (m (c.tc.loc main_arg3)), ?_, ?_⟩
  · refine (θ_run defs _ _).mono (fun r h c => ?_) (run_blocks (F := Ideal) m g)
    exact ⟨(h c).1.trans (final m c), (h c).2⟩
  · refine (θ_run Cert.Reference3Ideal.defs _ _).mono (fun r h c => ?_) (Cert.Reference3Ideal.Value.run (F := Ideal) m' g')
    obtain ⟨a0, a1, a2, a3⟩ := hagree c
    exact ⟨(h c).1.trans (same m _ _ _ _ c a0 a1 a2 a3), (h c).2⟩

end Cert.Mod.Wide
-- ==== Proof.ModNarrow.lean ====
module

public import proofs.«01_k».proof.Defs
public import proofs.«01_k».proof.Proof.ModMath
public import Idealize.ShloMosaic.Lib.Tactic.CleanTypes
public import Idealize.ShloMosaic.Lib.Quiescent
public import proofs.«01_k».proof.Proof.Gen.Kernel4.Frame
public import proofs.«01_k».proof.Proof.Gen.Kernel4Ideal.Value
public import proofs.«01_k».proof.Proof.Gen.Reference4Ideal.Read

/-! The modulated projection into an attention layer: its frames and its value. -/

@[expose] public section

set_option maxRecDepth 16384

noncomputable section

open Idealize.ShloMosaic Idealize.ShloMosaic.TcCoe Idealize.SL.Sem
open Cert.Kernel4Ideal Cert.Kernel4Ideal.Gen Cert.Kernel4Ideal.Value

namespace Cert.Mod.Narrow

/-- What one grid point computes: every row of its block normalised and modulated, times every column of the weights. -/
theorem block (x0 : Vec Ideal S512x1024 .f32) (x1 : Vec Ideal S1x1024 .f32) (x2 : Vec Ideal S1x6x1024 .f32) (x3 : Vec Ideal S1024x1536 .bf16)
    (r : Fin 512) (l : Fin 1536) : out0_4 (F := Ideal) x0 x1 x2 x3 (ix2 r l) =
      ∑ k : Fin 1024, modRow (fun j => x0 (ix2 r j)) (fun j => x1 (ix2 0 j)) (fun j => x2 (ix3 0 1 j)) (fun j => x2 (ix3 0 0 j)) k * x3 (ix2 k l) := by
  unfold out0_4
  canon_tiles z h
  all_goals
    idx_vars z
    obtain ⟨l, hl⟩ := l
    obtain rfl : z0 = r := (Fin.ext h0).symm
    change l = _ at h1
    subst h1
    dsimp only [k0_pay1]
    pointwise []
    refine Finset.sum_congr rfl fun k _ => ?_
    exact congrArg (fun s => (x0 (ix2 z0 k) * Ideal.rsqrt (s * share + Ideal.ofBits .f32 0x358637BD#32) * x1 (ix2 0 k)
      * (1 + x2 (ix3 0 1 k)) + x2 (ix3 0 0 k)) * x3 (ix2 k z1)) (squares fun j => x0 (ix2 z0 j))

/-- The whole result as a function of the arguments. -/
def whole (x0 : Vec Ideal S4096x1024 .f32) (x1 : Vec Ideal S1x1024 .f32) (x2 : Vec Ideal S3x6x1024 .f32) (x3 : Vec Ideal S1024x1536 .bf16) :
    Vec Ideal S4096x1536 .f32 := fun i => ∑ k : Fin 1024,
  modRow (fun j => x0 (ix2 (i 0) j)) (fun j => x1 (ix2 0 j)) (fun j => x2 (ix3 ⟨1 + (i 0).val / 2048, by have := (i 0).isLt; change (i 0).val < 4096 at this; omega⟩ 1 j))
    (fun j => x2 (ix3 ⟨1 + (i 0).val / 2048, by have := (i 0).isLt; change (i 0).val < 4096 at this; omega⟩ 0 j)) k * x3 (ix2 k (i 1))

theorem ref (x0 : Vec Ideal Cert.Reference4Ideal.S4096x1024 .f32) (x1 : Vec Ideal Cert.Reference4Ideal.S1x1024 .f32)
   (x2 : Vec Ideal Cert.Reference4Ideal.S3x6x1024 .f32) (x3 : Vec Ideal Cert.Reference4Ideal.S1024x1536 .bf16) (r : Fin 4096) (l : Fin 1536) :
    Cert.Reference4Ideal.Read.val_main_v29 (F := Ideal) x0 x1 x2 x3 (ix2 r l) = whole x0 x1 x2 x3 (ix2 r l) := by
  rw [← Cert.Reference4Ideal.Read.val_main_v29_eq]
  clean_types
  pointwise [div_len]
  rfl

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![1 + t.val / 4, 0, 0] := by decide +kernel
theorem idx3 : ∀ t : Fin cfg0.N, win0_3.index t = ![0, 0] := by decide +kernel
theorem idx4 : ∀ t : Fin cfg0.N, win0_4.index t = ![t.val, 0] := by decide +kernel

theorem blk0 (c : Dev nD) (t : Fin cfg0.N) (r : Fin 512) (j : Fin 1024) (R : Fin 4096) (h : R.val = t.val * 512 + r.val) :
    (iblk m c 0 t : Vec Ideal S512x1024 .f32) (ix2 r j) = m (c.tc.loc main_arg0) (ix2 R j) := by
  blk_ext [iblk, V, idx0 t]

theorem blk1 (c : Dev nD) (t : Fin cfg0.N) (j : Fin 1024) :
    (iblk m c 1 t : Vec Ideal S1x1024 .f32) (ix2 0 j) = m (c.tc.loc main_arg1) (ix2 0 j) := by
  blk_ext [iblk, V, idx1 t]

theorem blk2 (c : Dev nD) (t : Fin cfg0.N) (q : Fin 6) (j : Fin 1024) (g : Fin 3) (h : g.val = 1 + t.val / 4) :
    (iblk m c 2 t : Vec Ideal S1x6x1024 .f32) (ix3 0 q j) = m (c.tc.loc main_arg2) (ix3 g q j) := by
  blk_ext [iblk, V, idx2 t]

theorem blk3 (c : Dev nD) (t : Fin cfg0.N) (k : Fin 1024) (l : Fin 1536) :
    (iblk m c 3 t : Vec Ideal S1024x1536 .bf16) (ix2 k l) = m (c.tc.loc main_arg3) (ix2 k l) := by
  blk_ext [iblk, V, idx3 t]

/-- The array after the run is the whole product. -/
theorem final (c : Dev nD) : (dats (F := Ideal) m 0 c).arrAt 4 cfg0.N =
    whole (m (c.tc.loc main_arg0)) (m (c.tc.loc main_arg1)) (m (c.tc.loc main_arg2)) (m (c.tc.loc main_arg3)) := by
  refine (dats (F := Ideal) m 0 c).arrAt_eq_of_covers 4 _ (by decide +kernel) fun t hf y => ?_
  blk_simp
  rw [after0_4]
  have ht : t.val < 8 := t.isLt
  obtain ⟨r, l, rfl⟩ : ∃ (r : Fin 512) (l : Fin 1536), y = ix2 r l := ⟨y 0, y 1, eq_ix2 y⟩
  have he : (win0_4.blk t).view.emb (ix2 r l) = ix2 (⟨t.val * 512 + r.val, by omega⟩ : Fin 4096) l := by
    blk_ext [idx4 t]
  rw [he]
  refine (block _ _ _ _ r l).trans ?_
  unfold whole
  simp only [blk0 m c t r _ ⟨t.val * 512 + r.val, by omega⟩ rfl, blk1, blk3,
    blk2 m c t _ _ ⟨1 + (t.val * 512 + r.val) / 2048, by omega⟩ (by dsimp only; omega)]
  rfl

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ref : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem kept : Cert.preserves_Kernel4_Kernel4Ideal := trivial

/-- The plain program's result is the array, whenever the two programs' arguments agree. -/
theorem same (x0 : Vec Ideal Cert.Reference4Ideal.S4096x1024 .f32) (x1 : Vec Ideal Cert.Reference4Ideal.S1x1024 .f32)
   (x2 : Vec Ideal Cert.Reference4Ideal.S3x6x1024 .f32) (x3 : Vec Ideal Cert.Reference4Ideal.S1024x1536 .bf16) (c : Dev nD)
    (h0 : x0 = m (c.tc.loc main_arg0)) (h1 : x1 = m (c.tc.loc main_arg1)) (h2 : x2 = m (c.tc.loc main_arg2)) (h3 : x3 = m (c.tc.loc main_arg3)) :
    Cert.Reference4Ideal.Read.val_main_v29 (F := Ideal) x0 x1 x2 x3 =
      whole (m (c.tc.loc main_arg0)) (m (c.tc.loc main_arg1)) (m (c.tc.loc main_arg2)) (m (c.tc.loc main_arg3)) := by
  subst h0 h1 h2 h3
  funext i
  obtain ⟨r, l, rfl⟩ : ∃ (r : Fin 4096) (l : Fin 1536), i = ix2 r l := ⟨i 0, i 1, eq_ix2 i⟩
  exact ref _ _ _ _ r l

theorem algebraic : Cert.algebraic_Kernel4Ideal_Reference4Ideal := by
  intro m g m' g' _ hagree
  refine ⟨fun c => whole (m (c.tc.loc main_arg0)) (m (c.tc.loc main_arg1)) (m (c.tc.loc main_arg2)) (m (c.tc.loc main_arg3)), ?_, ?_⟩
  · refine (θ_run defs _ _).mono (fun r h c => ?_) (run_blocks (F := Ideal) m g)
    exact ⟨(h c).1.trans (final m c), (h c).2⟩
  · refine (θ_run Cert.Reference4Ideal.defs _ _).mono (fun r h c => ?_) (Cert.Reference4Ideal.Value.run (F := Ideal) m' g')
    obtain ⟨a0, a1, a2, a3⟩ := hagree c
    exact ⟨(h c).1.trans (same m _ _ _ _ c a0 a1 a2 a3), (h c).2⟩

end Cert.Mod.Narrow
-- ==== Proof.RouterMath.lean ====
module

public import proofs.«01_k».proof.Proof.ModMath

/-! A row of the output projection with its residual, its second norm, and the experts' weights for it. -/

@[expose] public section

noncomputable section

open Idealize.ShloMosaic

namespace Cert.Router

/-- The projected row, gated and added to the residual. -/
def sumRow (x a g : Fin 1024 → EReal) (w : Fin 1024 → Fin 1024 → EReal) (k : Fin 1024) : EReal := x k + g k * ∑ j, a j * w j k

/-- The experts' logits of a normalised row. -/
def logit (h : Fin 1024 → EReal) (wr : Fin 16 → Fin 1024 → EReal) (e : Fin 16) : EReal := ∑ k, wr e k * h k

/-- The softmax of the logits over the experts. -/
def weight (s : Fin 16 → EReal) (e : Fin 16) : EReal :=
  Ideal.div (Ideal.exp (s e - Finset.univ.sup s)) (∑ e', Ideal.exp (s e' - Finset.univ.sup s))

end Cert.Router
-- ==== Proof.Router.lean ====
module

public import proofs.«01_k».proof.Defs
public import proofs.«01_k».proof.Proof.RouterMath
public import Idealize.ShloMosaic.Lib.Tactic.CleanTypes
public import Idealize.ShloMosaic.Lib.Quiescent
public import proofs.«01_k».proof.Proof.Gen.Kernel5.Frame
public import proofs.«01_k».proof.Proof.Gen.Kernel5Ideal.Value
public import proofs.«01_k».proof.Proof.Gen.Reference5Ideal.Read

/-! The output projection with the second norm and the router: its frames and its value. -/

@[expose] public section

set_option maxRecDepth 16384

noncomputable section

open Idealize.ShloMosaic Idealize.ShloMosaic.TcCoe Idealize.SL.Sem
open Cert.Kernel5Ideal Cert.Kernel5Ideal.Gen Cert.Kernel5Ideal.Value

namespace Cert.Router

theorem bottom : Ideal.ofBits .f32 0xFF800000#32 = ⊥ := by simp [Ideal.ofBits, Ideal.ieee]

theorem summed (v0 : Vec Ideal S1024x1024 .f32) (v1 : Vec Ideal S1x1x1024 .f32) (v3 v4 : Vec Ideal S1024x1024 .bf16) (r k : Fin 1024) :
    k0_pay3 (F := Ideal) v0 v1 v3 v4 (ix2 r k) =
      sumRow (fun j => v0 (ix2 r j)) (fun j => v3 (ix2 r j)) (fun j => v1 (ix3 0 0 j)) (fun i j => v4 (ix2 i j)) k := by
  unfold_payloads
  pointwise [sumRow]

theorem scaled (v0 : Vec Ideal S1024x1024 .f32) (v1 : Vec Ideal S1x1x1024 .f32) (v3 v4 : Vec Ideal S1024x1024 .bf16) (v10 : Vec Ideal S1x1024 .f32)
    (v38 v44 : Vec Ideal S1x1x1024 .f32) (r k : Fin 1024) :
    k0_pay1 (F := Ideal) (k0_pay4 (F := Ideal) v0 v1 v3 v4 v10) v38 v44 (ix2 r k) =
      Mod.modRow (fun j => k0_pay3 (F := Ideal) v0 v1 v3 v4 (ix2 r j)) (fun j => v10 (ix2 0 j)) (fun j => v38 (ix3 0 0 j)) (fun j => v44 (ix3 0 0 j)) k := by
  unfold k0_pay1 k0_pay4
  generalize k0_pay3 (F := Ideal) v0 v1 v3 v4 = y
  pointwise []
  exact congrArg (fun s => y (ix2 r k) * Ideal.rsqrt (s * Mod.share + Ideal.ofBits .f32 0x358637BD#32) * v10 (ix2 0 k)
    * (1 + v38 (ix3 0 0 k)) + v44 (ix3 0 0 k)) (Mod.squares fun j => y (ix2 r j))

theorem weighed (v37 : Vec Ideal S1024x1024 .f32) (v38 v44 : Vec Ideal S1x1x1024 .f32) (v50 : Vec Ideal S16x1024 .bf16) (e : Fin 16) (r : Fin 1024) :
    k0_pay2 (F := Ideal) v37 v38 v44 v50 (ix2 e r) =
      weight (logit (fun k => k0_pay1 (F := Ideal) v37 v38 v44 (ix2 r k)) fun e k => v50 (ix2 e k)) e := by
  unfold k0_pay2
  generalize k0_pay1 (F := Ideal) v37 v38 v44 = y
  pointwise []
  rw [bottom]
  rfl

/-- A row of the sum in one grid point's block. -/
theorem block6 (x0 x1 : Vec Ideal S1024x1024 .bf16) (x2 : Vec Ideal S1024x1024 .f32) (x3 : Vec Ideal S1x6x1024 .f32) (x4 : Vec Ideal S1x1024 .f32)
    (x5 : Vec Ideal S16x1024 .bf16) (r k : Fin 1024) : out0_6 (F := Ideal) x0 x1 x2 x3 x4 x5 (ix2 r k) =
      sumRow (fun j => x2 (ix2 r j)) (fun j => x0 (ix2 r j)) (fun j => x3 (ix3 0 2 j)) (fun i j => x1 (ix2 i j)) k := by
  unfold out0_6
  canon_tiles z h
  all_goals
    idx_vars z
    obtain rfl : z0 = r := (Fin.ext h0).symm
    obtain rfl : z1 = k := (Fin.ext h1).symm
    refine (summed _ _ _ _ _ _).trans ?_
    pointwise [sumRow]

/-- A normalised row in one grid point's block. -/
theorem block7 (x0 x1 : Vec Ideal S1024x1024 .bf16) (x2 : Vec Ideal S1024x1024 .f32) (x3 : Vec Ideal S1x6x1024 .f32) (x4 : Vec Ideal S1x1024 .f32)
    (x5 : Vec Ideal S16x1024 .bf16) (r k : Fin 1024) : out0_7 (F := Ideal) x0 x1 x2 x3 x4 x5 (ix2 r k) =
      Mod.modRow (sumRow (fun j => x2 (ix2 r j)) (fun j => x0 (ix2 r j)) (fun j => x3 (ix3 0 2 j)) fun i j => x1 (ix2 i j))
        (fun j => x4 (ix2 0 j)) (fun j => x3 (ix3 0 4 j)) (fun j => x3 (ix3 0 3 j)) k := by
  unfold out0_7 k0_pay5
  canon_tiles z h
  all_goals
    idx_vars z
    obtain rfl : z0 = r := (Fin.ext h0).symm
    obtain rfl : z1 = k := (Fin.ext h1).symm
    refine (scaled _ _ _ _ _ _ _ _ _).trans ?_
    simp only [summed]
    pointwise [sumRow, Mod.modRow]

/-- The experts' weights in one grid point's block. -/
theorem block8 (x0 x1 : Vec Ideal S1024x1024 .bf16) (x2 : Vec Ideal S1024x1024 .f32) (x3 : Vec Ideal S1x6x1024 .f32) (x4 : Vec Ideal S1x1024 .f32)
    (x5 : Vec Ideal S16x1024 .bf16) (e : Fin 16) (r : Fin 1024) : out0_8 (F := Ideal) x0 x1 x2 x3 x4 x5 (ix2 e r) =
      weight (logit (Mod.modRow (sumRow (fun j => x2 (ix2 r j)) (fun j => x0 (ix2 r j)) (fun j => x3 (ix3 0 2 j)) fun i j => x1 (ix2 i j))
        (fun j => x4 (ix2 0 j)) (fun j => x3 (ix3 0 4 j)) (fun j => x3 (ix3 0 3 j))) fun e k => x5 (ix2 e k)) e := by
  unfold out0_8 k0_pay5
  canon_tiles z h
  all_goals
    idx_vars z
    obtain rfl : z0 = e := (Fin.ext h0).symm
    obtain rfl : z1 = r := (Fin.ext h1).symm
    refine (weighed _ _ _ _ _ _).trans ?_
    simp only [scaled, summed]
    pointwise []

abbrev grp (R : Fin 4096) : Fin 3 := ⟨1 + R.val / 2048, by omega⟩

section whole

variable (x0 : Vec Ideal S4096x1024 .bf16) (x1 : Vec Ideal S1024x1024 .bf16) (x2 : Vec Ideal S4096x1024 .f32) (x3 : Vec Ideal S3x6x1024 .f32)
  (x4 : Vec Ideal S1x1024 .f32) (x5 : Vec Ideal S16x1024 .bf16)

/-- Row `R` of the sum as a function of the arguments. -/
def sums (R : Fin 4096) : Fin 1024 → EReal :=
  sumRow (fun j => x2 (ix2 R j)) (fun j => x0 (ix2 R j)) (fun j => x3 (ix3 (grp R) 2 j)) fun i j => x1 (ix2 i j)

/-- Row `R` normalised and modulated. -/
def normed (R : Fin 4096) : Fin 1024 → EReal :=
  Mod.modRow (sums x0 x1 x2 x3 R) (fun j => x4 (ix2 0 j)) (fun j => x3 (ix3 (grp R) 4 j)) fun j => x3 (ix3 (grp R) 3 j)

/-- The weights of row `R`. -/
def weights (R : Fin 4096) : Fin 16 → EReal := weight (logit (normed x0 x1 x2 x3 x4 R) fun e k => x5 (ix2 e k))

def whole6 : Vec Ideal S4096x1024 .f32 := fun i => sums x0 x1 x2 x3 (i 0) (i 1)
def whole7 : Vec Ideal S4096x1024 .bf16 := fun i => normed x0 x1 x2 x3 x4 (i 0) (i 1)
def whole8 : Vec Ideal S16x4096 .f32 := fun i => weights x0 x1 x2 x3 x4 x5 (i 1) (i 0)

theorem ref6 : Cert.Reference5Ideal.Read.val_main_v50 (F := Ideal) x0 x1 x2 x3 = whole6 x0 x1 x2 x3 := by
  funext i
  obtain ⟨r, l, rfl⟩ : ∃ (r : Fin 4096) (l : Fin 1024), i = ix2 r l := ⟨i 0, i 1, eq_ix2 i⟩
  rw [← Cert.Reference5Ideal.Read.val_main_v50_eq]
  clean_types
  pointwise []
  rfl

theorem ref7 : Cert.Reference5Ideal.Read.val_main_v52 (F := Ideal) x0 x1 x2 x3 x4 = whole7 x0 x1 x2 x3 x4 := by
  funext i
  obtain ⟨r, l, rfl⟩ : ∃ (r : Fin 4096) (l : Fin 1024), i = ix2 r l := ⟨i 0, i 1, eq_ix2 i⟩
  rw [← Cert.Reference5Ideal.Read.val_main_v52_eq]
  clean_types
  pointwise [Mod.div_len]
  rfl

/-- The plain program's normalised rows before it joins the batches again. -/
theorem stage (R : Fin 4096) (k : Fin 1024) :
    Cert.Reference5Ideal.Read.val_main_v36 (F := Ideal) x0 x1 x2 x3 x4 (ix3 (⟨R.val / 2048, by omega⟩ : Fin 2) (⟨R.val % 2048, by omega⟩ : Fin 2048) k) =
      normed x0 x1 x2 x3 x4 R k := by
  refine Eq.trans ?_ (congrFun (ref7 x0 x1 x2 x3 x4) (ix2 R k))
  unfold Cert.Reference5Ideal.Read.val_main_v52 Cert.Reference5Ideal.Read.val_main_v51
  generalize Cert.Reference5Ideal.Read.val_main_v36 (F := Ideal) x0 x1 x2 x3 x4 = y
  clean_types
  pointwise []

theorem ref8 : Cert.Reference5Ideal.Read.val_main_v54 (F := Ideal) x0 x1 x2 x3 x4 x5 = whole8 x0 x1 x2 x3 x4 x5 := by
  funext i
  obtain ⟨e, r, rfl⟩ : ∃ (e : Fin 16) (r : Fin 4096), i = ix2 e r := ⟨i 0, i 1, eq_ix2 i⟩
  have hs := stage x0 x1 x2 x3 x4 r
  unfold Cert.Reference5Ideal.Read.val_main_v54 Cert.Reference5Ideal.Read.val_main_v53 Cert.Reference5Ideal.Read.val_main_v49 Cert.Reference5Ideal.Read.val_main_v48
    Cert.Reference5Ideal.Read.val_main_v47 Cert.Reference5Ideal.Read.val_main_v46 Cert.Reference5Ideal.Read.val_main_v45 Cert.Reference5Ideal.Read.val_main_v44
    Cert.Reference5Ideal.Read.val_main_v43 Cert.Reference5Ideal.Read.val_main_v42 Cert.Reference5Ideal.Read.val_main_v41 Cert.Reference5Ideal.Read.val_main_v40
    Cert.Reference5Ideal.Read.val_main_v39 Cert.Reference5Ideal.Read.val_main_v38 Cert.Reference5Ideal.Read.val_main_v37
  revert hs
  generalize Cert.Reference5Ideal.Read.val_main_v36 (F := Ideal) x0 x1 x2 x3 x4 = y
  intro hs
  clean_types
  pointwise [Cert.Reference5Ideal.Read.val_main_cst_3, Cert.Reference5Ideal.Read.val_main_cst_4, Cert.Reference5Ideal.Read.val_main_cst_5]
  have hl : ∀ e' : Fin 16, (∑ x, y (ix3 ⟨r.val / 2048, by omega⟩ ⟨r.val % 2048, by omega⟩ x) * x5 (ix2 e' x) : EReal) =
      logit (normed x0 x1 x2 x3 x4 r) (fun e k => x5 (ix2 e k)) e' := fun e' =>
    Finset.sum_congr rfl fun k _ => (congrArg (· * x5 (ix2 e' k)) (hs k)).trans (mul_comm _ _)
  simp only [hl, bottom]
  rw [max_eq_right bot_le]
  rfl

end whole

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![1 + t.val / 2, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![0, t.val] := by decide +kernel

theorem blk0 (c : Dev nD) (t : Fin cfg0.N) (r j : Fin 1024) (R : Fin 4096) (h : R.val = t.val * 1024 + r.val) :
    (iblk m c 0 t : Vec Ideal S1024x1024 .bf16) (ix2 r j) = m (c.tc.loc main_arg0) (ix2 R j) := by
  blk_ext [iblk, V, idx0 t]

theorem blk1 (c : Dev nD) (t : Fin cfg0.N) (i j : Fin 1024) :
    (iblk m c 1 t : Vec Ideal S1024x1024 .bf16) (ix2 i j) = m (c.tc.loc main_arg1) (ix2 i j) := by
  blk_ext [iblk, V, idx1 t]

theorem blk2 (c : Dev nD) (t : Fin cfg0.N) (r j : Fin 1024) (R : Fin 4096) (h : R.val = t.val * 1024 + r.val) :
    (iblk m c 2 t : Vec Ideal S1024x1024 .f32) (ix2 r j) = m (c.tc.loc main_arg2) (ix2 R j) := by
  blk_ext [iblk, V, idx2 t]

theorem blk3 (c : Dev nD) (t : Fin cfg0.N) (q : Fin 6) (j : Fin 1024) (g : Fin 3) (h : g.val = 1 + t.val / 2) :
    (iblk m c 3 t : Vec Ideal S1x6x1024 .f32) (ix3 0 q j) = m (c.tc.loc main_arg3) (ix3 g q j) := by
  blk_ext [iblk, V, idx3 t]

theorem blk4 (c : Dev nD) (t : Fin cfg0.N) (j : Fin 1024) :
    (iblk m c 4 t : Vec Ideal S1x1024 .f32) (ix2 0 j) = m (c.tc.loc main_arg4) (ix2 0 j) := by
  blk_ext [iblk, V, idx4 t]

theorem blk5 (c : Dev nD) (t : Fin cfg0.N) (e : Fin 16) (k : Fin 1024) :
    (iblk m c 5 t : Vec Ideal S16x1024 .bf16) (ix2 e k) = m (c.tc.loc main_arg5) (ix2 e k) := by
  blk_ext [iblk, V, idx5 t]

theorem final6 (c : Dev nD) : (dats (F := Ideal) m 0 c).arrAt 6 cfg0.N =
    whole6 (m (c.tc.loc main_arg0)) (m (c.tc.loc main_arg1)) (m (c.tc.loc main_arg2)) (m (c.tc.loc main_arg3)) := by
  refine (dats (F := Ideal) m 0 c).arrAt_eq_of_covers 6 _ (by decide +kernel) fun t hf y => ?_
  blk_simp
  rw [after0_6]
  have ht : t.val < 4 := t.isLt
  obtain ⟨r, l, rfl⟩ : ∃ r l : Fin 1024, y = ix2 r l := ⟨y 0, y 1, eq_ix2 y⟩
  have he : (win0_6.blk t).view.emb (ix2 r l) = ix2 (⟨t.val * 1024 + r.val, by omega⟩ : Fin 4096) l := by
    blk_ext [idx6 t]
  rw [he]
  refine (block6 _ _ _ _ _ _ r l).trans ?_
  unfold whole6 sums
  simp only [blk0 m c t r _ ⟨t.val * 1024 + r.val, by omega⟩ rfl, blk1, blk2 m c t r _ ⟨t.val * 1024 + r.val, by omega⟩ rfl,
    blk3 m c t _ _ ⟨1 + (t.val * 1024 + r.val) / 2048, by omega⟩ (by dsimp only; omega)]
  rfl

theorem final7 (c : Dev nD) : (dats (F := Ideal) m 0 c).arrAt 7 cfg0.N =
    whole7 (m (c.tc.loc main_arg0)) (m (c.tc.loc main_arg1)) (m (c.tc.loc main_arg2)) (m (c.tc.loc main_arg3)) (m (c.tc.loc main_arg4)) := by
  refine (dats (F := Ideal) m 0 c).arrAt_eq_of_covers 7 _ (by decide +kernel) fun t hf y => ?_
  blk_simp
  rw [after0_7]
  have ht : t.val < 4 := t.isLt
  obtain ⟨r, l, rfl⟩ : ∃ r l : Fin 1024, y = ix2 r l := ⟨y 0, y 1, eq_ix2 y⟩
  have he : (win0_7.blk t).view.emb (ix2 r l) = ix2 (⟨t.val * 1024 + r.val, by omega⟩ : Fin 4096) l := by
    blk_ext [idx7 t]
  rw [he]
  refine (block7 _ _ _ _ _ _ r l).trans ?_
  unfold whole7 normed sums
  simp only [blk0 m c t r _ ⟨t.val * 1024 + r.val, by omega⟩ rfl, blk1, blk2 m c t r _ ⟨t.val * 1024 + r.val, by omega⟩ rfl, blk4,
    blk3 m c t _ _ ⟨1 + (t.val * 1024 + r.val) / 2048, by omega⟩ (by dsimp only; omega)]
  rfl

theorem final8 (c : Dev nD) : (dats (F := Ideal) m 0 c).arrAt 8 cfg0.N =
    whole8 (m (c.tc.loc main_arg0)) (m (c.tc.loc main_arg1)) (m (c.tc.loc main_arg2)) (m (c.tc.loc main_arg3)) (m (c.tc.loc main_arg4)) (m (c.tc.loc main_arg5)) := by
  refine (dats (F := Ideal) m 0 c).arrAt_eq_of_covers 8 _ (by decide +kernel) fun t hf y => ?_
  blk_simp
  rw [after0_8]
  have ht : t.val < 4 := t.isLt
  obtain ⟨e, r, rfl⟩ : ∃ (e : Fin 16) (r : Fin 1024), y = ix2 e r := ⟨y 0, y 1, eq_ix2 y⟩
  have he : (win0_8.blk t).view.emb (ix2 e r) = ix2 e (⟨t.val * 1024 + r.val, by omega⟩ : Fin 4096) := by
    blk_ext [idx8 t]
  rw [he]
  refine (block8 _ _ _ _ _ _ e r).trans ?_
  unfold whole8 weights normed sums
  simp only [blk0 m c t r _ ⟨t.val * 1024 + r.val, by omega⟩ rfl, blk1, blk2 m c t r _ ⟨t.val * 1024 + r.val, by omega⟩ rfl, blk4, blk5,
    blk3 m c t _ _ ⟨1 + (t.val * 1024 + r.val) / 2048, by omega⟩ (by dsimp only; omega)]
  rfl

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ref : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

theorem kept : Cert.preserves_Kernel5_Kernel5Ideal := trivial

theorem same (x0 : Vec Ideal S4096x1024 .bf16) (x1 : Vec Ideal S1024x1024 .bf16) (x2 : Vec Ideal S4096x1024 .f32) (x3 : Vec Ideal S3x6x1024 .f32)
    (x4 : Vec Ideal S1x1024 .f32) (x5 : Vec Ideal S16x1024 .bf16) (c : Dev nD)
    (h0 : x0 = m (c.tc.loc main_arg0)) (h1 : x1 = m (c.tc.loc main_arg1)) (h2 : x2 = m (c.tc.loc main_arg2)) (h3 : x3 = m (c.tc.loc main_arg3))
    (h4 : x4 = m (c.tc.loc main_arg4)) (h5 : x5 = m (c.tc.loc main_arg5)) :
    Cert.Reference5Ideal.Read.val_main_v50 (F := Ideal) x0 x1 x2 x3 =
        whole6 (m (c.tc.loc main_arg0)) (m (c.tc.loc main_arg1)) (m (c.tc.loc main_arg2)) (m (c.tc.loc main_arg3))
    ∧ Cert.Reference5Ideal.Read.val_main_v52 (F := Ideal) x0 x1 x2 x3 x4 =
        whole7 (m (c.tc.loc main_arg0)) (m (c.tc.loc main_arg1)) (m (c.tc.loc main_arg2)) (m (c.tc.loc main_arg3)) (m (c.tc.loc main_arg4))
    ∧ Cert.Reference5Ideal.Read.val_main_v54 (F := Ideal) x0 x1 x2 x3 x4 x5 =
        whole8 (m (c.tc.loc main_arg0)) (m (c.tc.loc main_arg1)) (m (c.tc.loc main_arg2)) (m (c.tc.loc main_arg3)) (m (c.tc.loc main_arg4)) (m (c.tc.loc main_arg5)) := by
  subst h0 h1 h2 h3 h4 h5
  exact ⟨ref6 _ _ _ _, ref7 _ _ _ _ _, ref8 _ _ _ _ _ _⟩

theorem algebraic : Cert.algebraic_Kernel5Ideal_Reference5Ideal := by
  intro m g m' g' _ hagree
  refine ⟨fun c => whole6 (m (c.tc.loc main_arg0)) (m (c.tc.loc main_arg1)) (m (c.tc.loc main_arg2)) (m (c.tc.loc main_arg3)),
    fun c => whole7 (m (c.tc.loc main_arg0)) (m (c.tc.loc main_arg1)) (m (c.tc.loc main_arg2)) (m (c.tc.loc main_arg3)) (m (c.tc.loc main_arg4)),
    fun c => whole8 (m (c.tc.loc main_arg0)) (m (c.tc.loc main_arg1)) (m (c.tc.loc main_arg2)) (m (c.tc.loc main_arg3)) (m (c.tc.loc main_arg4)) (m (c.tc.loc main_arg5)), ?_, ?_⟩
  · refine (θ_run defs _ _).mono (fun r h c => ?_) (run_blocks (F := Ideal) m g)
    exact ⟨(h c).1.trans (final6 m c), (h c).2.1.trans (final7 m c), (h c).2.2.1.trans (final8 m c), (h c).2.2.2⟩
  · refine (θ_run Cert.Reference5Ideal.defs _ _).mono (fun r h c => ?_) (Cert.Reference5Ideal.Value.run (F := Ideal) m' g')
    obtain ⟨a0, a1, a2, a3, a4, a5⟩ := hagree c
    obtain ⟨s0, s1, s2⟩ := same m _ _ _ _ _ _ c a0 a1 a2 a3 a4 a5
    exact ⟨(h c).1.trans s0, (h c).2.1.trans s1, (h c).2.2.1.trans ((Cert.Reference5Ideal.Read.val_main_v54_eq m' c).trans s2), (h c).2.2.2⟩

end Cert.Router
-- ==== Proof.CombineMath.lean ====
module

public import proofs.«01_k».proof.Proof.ModMath

/-! A token's sum of the experts' rows that hold it, and the final norm of a row. -/

@[expose] public section

noncomputable section

open Idealize.ShloMosaic

namespace Cert.Combine

/-- The sum of the rows `y s` over the slots `s` that the word `p` names. -/
def taken {n : ℕ} (p : BitVec 32) (y : Fin n → EReal) : EReal :=
  ∑ s : Fin n, Scalar.select (IntOp.cmpi .eq p (BitVec.ofNat 32 s.val)) (y s) 0

/-- Sixteen terms added in order. -/
theorem sixteen (f : Fin 16 → EReal) :
    f 0 + f 1 + f 2 + f 3 + f 4 + f 5 + f 6 + f 7 + f 8 + f 9 + f 10 + f 11 + f 12 + f 13 + f 14 + f 15 = ∑ e, f e := by
  simp only [Fin.sum_univ_castSucc, Fin.sum_univ_zero, zero_add]
  rfl

/-- The row divided by the root of its mean square, times the gain. -/
def normRow (x g : Fin 1024 → EReal) (k : Fin 1024) : EReal :=
  x k * Ideal.rsqrt ((∑ j, x j * x j) * Mod.share + Ideal.ofBits .f32 0x358637BD#32) * g k

/-- The residual row with the gated sum of the experts' rows. -/
def sumRow (x m s : Fin 1024 → EReal) (k : Fin 1024) : EReal := x k + m k * s k

theorem same_row {x x' a a' s s' g g' : Fin 1024 → EReal} {k : Fin 1024} (hx : ∀ j, x j = x' j) (ha : ∀ j, a j = a' j) (hs : ∀ j, s j = s' j)
    (hg : ∀ j, g j = g' j) : normRow (sumRow x a s) g k = normRow (sumRow x' a' s') g' k := by
  obtain rfl := funext hx
  obtain rfl := funext ha
  obtain rfl := funext hs
  obtain rfl := funext hg
  rfl

theorem same_taken {n : ℕ} {p p' : BitVec 32} {y y' : Fin n → EReal} (hp : p = p') (hy : ∀ s, y s = y' s) : taken p y = taken p' y' := by
  obtain rfl := hp
  obtain rfl := funext hy
  rfl

end Cert.Combine
-- ==== Proof.Latents.lean ====
module

public import proofs.«01_k».proof.Defs
public import proofs.«01_k».proof.Proof.CombineMath
public import Idealize.ShloMosaic.Lib.Tactic.CleanTypes
public import Idealize.ShloMosaic.Lib.Quiescent
public import proofs.«01_k».proof.Proof.Gen.Kernel6.Frame
public import proofs.«01_k».proof.Proof.Gen.Kernel6Ideal.Value
public import proofs.«01_k».proof.Proof.Gen.Reference6Ideal.Read

/-! The sum of the experts' outputs at the latent tokens, with the final norm: its frames and its value. -/

@[expose] public section

set_option maxRecDepth 16384

noncomputable section

open Idealize.ShloMosaic Idealize.ShloMosaic.TcCoe Idealize.SL.Sem
open Cert.Kernel6Ideal Cert.Kernel6Ideal.Gen Cert.Kernel6Ideal.Value

namespace Cert.Latents

open Cert.Combine

theorem in0 (x : Fin 256) (h : x.val / 256 < 2) : (⟨x.val / 256, h⟩ : Fin 2) = 0 := Fin.ext (by simp)
theorem in1 (x : Fin 256) (h : (256 + x.val) / 256 < 2) : (⟨(256 + x.val) / 256, h⟩ : Fin 2) = 1 := Fin.ext (by simp)
theorem at0 (x : Fin 256) (h : x.val % 256 < 256) : (⟨x.val % 256, h⟩ : Fin 256) = x := Fin.ext (by simp)
theorem at1 (x : Fin 256) (h : (256 + x.val) % 256 < 256) : (⟨(256 + x.val) % 256, h⟩ : Fin 256) = x := Fin.ext (by simp)

/-- The eight products with the marks of two experts each. -/
theorem pairs (v0 : Vec Ideal S16x512 .i32) (a0 a1 a2 a3 a4 a5 a6 a7 : Vec Ideal S2x256x1024 .bf16) (r : Fin 512) (k : Fin 1024) :
    k0_pay8 (F := Ideal) v0 (k0_pay6 v0 (k0_pay5 v0 (k0_pay2 v0 a0) (k0_pay3 v0) (k0_pay4 a1) a2 a3) (iota .tc S256x512 32 [0] iota_S256x512_d0_w32) a4 a5)
      (iota .tc S256x512 32 [0] iota_S256x512_d0_w32) (k0_pay7 v0) (Scalar.ofBits .f32 0x3F800000#32) a6 a7 (ix2 r k) =
    taken (v0 (ix2 0 r)) (fun s => a0 (ix3 0 s k)) + taken (v0 (ix2 1 r)) (fun s => a0 (ix3 1 s k))
      + taken (v0 (ix2 2 r)) (fun s => a1 (ix3 0 s k)) + taken (v0 (ix2 3 r)) (fun s => a1 (ix3 1 s k))
      + taken (v0 (ix2 4 r)) (fun s => a2 (ix3 0 s k)) + taken (v0 (ix2 5 r)) (fun s => a2 (ix3 1 s k))
      + taken (v0 (ix2 6 r)) (fun s => a3 (ix3 0 s k)) + taken (v0 (ix2 7 r)) (fun s => a3 (ix3 1 s k))
      + taken (v0 (ix2 8 r)) (fun s => a4 (ix3 0 s k)) + taken (v0 (ix2 9 r)) (fun s => a4 (ix3 1 s k))
      + taken (v0 (ix2 10 r)) (fun s => a5 (ix3 0 s k)) + taken (v0 (ix2 11 r)) (fun s => a5 (ix3 1 s k))
      + taken (v0 (ix2 12 r)) (fun s => a6 (ix3 0 s k)) + taken (v0 (ix2 13 r)) (fun s => a6 (ix3 1 s k))
      + taken (v0 (ix2 14 r)) (fun s => a7 (ix3 0 s k)) + taken (v0 (ix2 15 r)) (fun s => a7 (ix3 1 s k)) := by
  unfold k0_pay8 k0_pay7 k0_pay6 k0_pay5 k0_pay4 k0_pay3 k0_pay2
  pointwise [in0, in1, at0, at1]
  unfold taken
  simp only [add_assoc]

theorem normed (v161 : FVec Ideal S512x1024 .f32) (v162 : Vec Ideal S512x1024 .f32) (v163 : Vec Ideal S1x1x1024 .f32) (v168 : Vec Ideal S1x1024 .f32)
    (r : Fin 512) (k : Fin 1024) : k0_pay1 (F := Ideal) v161 v162 (k0_pay9 v163) v168 (ix2 r k) =
      normRow (sumRow (fun j => v162 (ix2 r j)) (fun j => v163 (ix3 0 0 j)) fun j => v161 (ix2 r j)) (fun j => v168 (ix2 0 j)) k := by
  unfold k0_pay1 k0_pay9
  pointwise []
  exact congrArg (fun s => (v162 (ix2 r k) + v163 (ix3 0 0 k) * v161 (ix2 r k)) * Ideal.rsqrt (s * Mod.share + Ideal.ofBits .f32 0x358637BD#32)
    * v168 (ix2 0 k)) (Mod.squares fun j => v162 (ix2 r j) + v163 (ix3 0 0 j) * v161 (ix2 r j))

/-- A row in one grid point's block. -/
theorem block (x0 : Vec Ideal S16x512 .i32) (x1 : Vec Ideal S16x256x1024 .bf16) (x2 : Vec Ideal S512x1024 .f32) (x3 : Vec Ideal S1x6x1024 .f32)
    (x4 : Vec Ideal S1x1024 .f32) (r : Fin 512) (k : Fin 1024) : out0_5 (F := Ideal) x0 x1 x2 x3 x4 (ix2 r k) =
      normRow (sumRow (fun j => x2 (ix2 r j)) (fun j => x3 (ix3 0 5 j)) fun j => ∑ e : Fin 16, taken (x0 (ix2 e r)) fun s : Fin 256 => x1 (ix3 e s j))
        (fun j => x4 (ix2 0 j)) k := by
  unfold out0_5
  canon_tiles z h
  all_goals
    idx_vars z
    obtain rfl : z0 = r := (Fin.ext h0).symm
    obtain rfl : z1 = k := (Fin.ext h1).symm
    refine (normed _ _ _ _ _ _).trans ?_
    refine (congrArg (fun u => normRow (sumRow _ _ u) _ _) (funext fun j => pairs _ _ _ _ _ _ _ _ _ _ j)).trans ?_
    simp only [← sixteen]
    pointwise []

abbrev grp (R : Fin 4096) : Fin 3 := ⟨1 + R.val / 2048, by omega⟩

section whole

variable (x0 : Vec Ideal S16x4096 .i32) (x1 : Vec Ideal S16x512x1024 .bf16) (x2 : Vec Ideal S4096x1024 .f32) (x3 : Vec Ideal S3x6x1024 .f32)
  (x4 : Vec Ideal S1x1024 .f32)

/-- The sum of the experts' rows that hold token `R`. -/
def experts (R : Fin 4096) (k : Fin 1024) : EReal :=
  ∑ e : Fin 16, taken (x0 (ix2 e R)) fun s : Fin 256 => x1 (ix3 e (⟨R.val / 2048 * 256 + s.val, by omega⟩ : Fin 512) k)

/-- Row `R` of the result. -/
def row (R : Fin 4096) : Fin 1024 → EReal :=
  normRow (sumRow (fun j => x2 (ix2 R j)) (fun j => x3 (ix3 (grp R) 5 j)) (experts x0 x1 R)) fun j => x4 (ix2 0 j)

def whole : Vec Ideal S4096x1024 .f32 := fun i => row x0 x1 x2 x3 x4 (i 0) (i 1)

theorem nothing : Ideal.ofBits .f32 0x00000000#32 = 0 := by simp [Ideal.ofBits, Ideal.ieee]

/-- The plain program's sum of the experts' rows, per request. -/
theorem stage (R : Fin 4096) (k : Fin 1024) :
    Cert.Reference6Ideal.Read.val_main_v15 (F := Ideal) x0 x1 (ix3 (⟨R.val / 2048, by omega⟩ : Fin 2) (⟨R.val % 2048, by omega⟩ : Fin 2048) k) =
      experts x0 x1 R k := by
  unfold Cert.Reference6Ideal.Read.val_main_v15 Cert.Reference6Ideal.Read.val_main_v14 Cert.Reference6Ideal.Read.val_main_v13
    Cert.Reference6Ideal.Read.val_main_call0_v3 Cert.Reference6Ideal.Read.val_main_call0_v2 Cert.Reference6Ideal.Read.val_main_call0_v1
    Cert.Reference6Ideal.Read.val_main_call0_v0 Cert.Reference6Ideal.Read.val_main_v12 Cert.Reference6Ideal.Read.val_main_v11
    Cert.Reference6Ideal.Read.val_main_v10 Cert.Reference6Ideal.Read.val_main_v9 Cert.Reference6Ideal.Read.val_main_v8 Cert.Reference6Ideal.Read.val_main_v7
    Cert.Reference6Ideal.Read.val_main_v6 Cert.Reference6Ideal.Read.val_main_v5 Cert.Reference6Ideal.Read.val_main_v4 Cert.Reference6Ideal.Read.val_main_cst
    Cert.Reference6Ideal.Read.val_main_cst_0 Cert.Reference6Ideal.Read.val_main_cst_1
  clean_types
  pointwise []
  exact Finset.sum_congr rfl fun e _ => Finset.sum_congr rfl fun s _ => congrArg (Scalar.select _ _) nothing

theorem ref : Cert.Reference6Ideal.Read.val_main_v33 (F := Ideal) x0 x1 x2 x3 x4 = whole x0 x1 x2 x3 x4 := by
  funext i
  obtain ⟨r, l, rfl⟩ : ∃ (r : Fin 4096) (l : Fin 1024), i = ix2 r l := ⟨i 0, i 1, eq_ix2 i⟩
  have hs := stage x0 x1 r
  unfold Cert.Reference6Ideal.Read.val_main_v33 Cert.Reference6Ideal.Read.val_main_v32 Cert.Reference6Ideal.Read.val_main_v31
    Cert.Reference6Ideal.Read.val_main_v30 Cert.Reference6Ideal.Read.val_main_v29 Cert.Reference6Ideal.Read.val_main_v28 Cert.Reference6Ideal.Read.val_main_v27
    Cert.Reference6Ideal.Read.val_main_v26 Cert.Reference6Ideal.Read.val_main_v25 Cert.Reference6Ideal.Read.val_main_v24 Cert.Reference6Ideal.Read.val_main_v23
    Cert.Reference6Ideal.Read.val_main_v22 Cert.Reference6Ideal.Read.val_main_v21 Cert.Reference6Ideal.Read.val_main_v20 Cert.Reference6Ideal.Read.val_main_v19
    Cert.Reference6Ideal.Read.val_main_v18 Cert.Reference6Ideal.Read.val_main_v17 Cert.Reference6Ideal.Read.val_main_v16 Cert.Reference6Ideal.Read.val_main_v3
    Cert.Reference6Ideal.Read.val_main_v2 Cert.Reference6Ideal.Read.val_main_v1 Cert.Reference6Ideal.Read.val_main_v0 Cert.Reference6Ideal.Read.val_main_cst_2
    Cert.Reference6Ideal.Read.val_main_cst_3 Cert.Reference6Ideal.Read.val_main_cst_4
  revert hs
  generalize Cert.Reference6Ideal.Read.val_main_v15 (F := Ideal) x0 x1 = y
  intro hs
  clean_types
  pointwise [Mod.div_len]
  simp only [hs]
  rfl

end whole

variable (m : (ℓ : Loc nD τ sig) → Buf (Elt Ideal) ℓ)

theorem idx0 : ∀ t : Fin cfg0.N, win0_0.index t = ![0, t.val] := by decide +kernel
theorem idx1 : ∀ t : Fin cfg0.N, win0_1.index t = ![0, t.val / 4, 0] := by decide +kernel
theorem idx2 : ∀ t : Fin cfg0.N, win0_2.index t = ![t.val, 0] := by decide +kernel
theorem idx3 : ∀ t : Fin cfg0.N, win0_3.index t = ![1 + t.val / 4, 0, 0] := by decide +kernel
theorem idx4 : ∀ t : Fin cfg0.N, win0_4.index t = ![0, 0] := by decide +kernel
theorem idx5 : ∀ t : Fin cfg0.N, win0_5.index t = ![t.val, 0] := by decide +kernel

theorem blk0 (c : Dev nD) (t : Fin cfg0.N) (e : Fin 16) (r : Fin 512) (R : Fin 4096) (h : R.val = t.val * 512 + r.val) :
    (iblk m c 0 t : Vec Ideal S16x512 .i32) (ix2 e r) = m (c.tc.loc main_arg0) (ix2 e R) := by
  blk_ext [iblk, V, idx0 t]

theorem blk1 (c : Dev nD) (t : Fin cfg0.N) (e : Fin 16) (s : Fin 256) (j : Fin 1024) (S : Fin 512) (h : S.val = t.val / 4 * 256 + s.val) :
    (iblk m c 1 t : Vec Ideal S16x256x1024 .bf16) (ix3 e s j) = m (c.tc.loc main_arg1) (ix3 e S j) := by
  blk_ext [iblk, V, idx1 t]

theorem blk2 (c : Dev nD) (t : Fin cfg0.N) (r : Fin 512) (j : Fin 1024) (R : Fin 4096) (h : R.val = t.val * 512 + r.val) :
    (iblk m c 2 t : Vec Ideal S512x1024 .f32) (ix2 r j) = m (c.tc.loc main_arg2) (ix2 R j) := by
  blk_ext [iblk, V, idx2 t]

theorem blk3 (c : Dev nD) (t : Fin cfg0.N) (q : Fin 6) (j : Fin 1024) (g : Fin 3) (h : g.val = 1 + t.val / 4) :
    (iblk m c 3 t : Vec Ideal S1x6x1024 .f32) (ix3 0 q j) = m (c.tc.loc main_arg3) (ix3 g q j) := by
  blk_ext [iblk, V, idx3 t]

theorem blk4 (c : Dev nD) (t : Fin cfg0.N) (j : Fin 1024) :
    (iblk m c 4 t : Vec Ideal S1x1024 .f32) (ix2 0 j) = m (c.tc.loc main_arg4) (ix2 0 j) := by
  blk_ext [iblk, V, idx4 t]

theorem final (c : Dev nD) : (dats (F := Ideal) m 0 c).arrAt 5 cfg0.N =
    whole (m (c.tc.loc main_arg0)) (m (c.tc.loc main_arg1)) (m (c.tc.loc main_arg2)) (m (c.tc.loc main_arg3)) (m (c.tc.loc main_arg4)) := by
  refine (dats (F := Ideal) m 0 c).arrAt_eq_of_covers 5 _ (by decide +kernel) fun t hf y => ?_
  blk_simp
  rw [after0_5]
  have ht : t.val < 8 := t.isLt
  obtain ⟨r, l, rfl⟩ : ∃ (r : Fin 512) (l : Fin 1024), y = ix2 r l := ⟨y 0, y 1, eq_ix2 y⟩
  have he : (win0_5.blk t).view.emb (ix2 r l) = ix2 (⟨t.val * 512 + r.val, by omega⟩ : Fin 4096) l := by
    blk_ext [idx5 t]
  rw [he]
  refine (block _ _ _ _ _ r l).trans ?_
  unfold whole row experts
  exact same_row (fun j => blk2 m c t r j _ rfl) (fun j => blk3 m c t 5 j _ (show 1 + (t.val * 512 + r.val) / 2048 = _ by omega))
    (fun j => Finset.sum_congr rfl fun e _ => same_taken (blk0 m c t e r _ rfl) fun s => blk1 m c t e s j _
      (show (t.val * 512 + r.val) / 2048 * 256 + s.val = _ by omega))
    (fun j => blk4 m c t j)

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ref : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem kept : Cert.preserves_Kernel6_Kernel6Ideal := trivial

theorem same (x0 : Vec Ideal S16x4096 .i32) (x1 : Vec Ideal S16x512x1024 .bf16) (x2 : Vec Ideal S4096x1024 .f32) (x3 : Vec Ideal S3x6x1024 .f32)
    (x4 : Vec Ideal S1x1024 .f32) (c : Dev nD)
    (h0 : x0 = m (c.tc.loc main_arg0)) (h1 : x1 = m (c.tc.loc main_arg1)) (h2 : x2 = m (c.tc.loc main_arg2)) (h3 : x3 = m (c.tc.loc main_arg3))
    (h4 : x4 = m (c.tc.loc main_arg4)) :
    Cert.Reference6Ideal.Read.val_main_v33 (F := Ideal) x0 x1 x2 x3 x4 =
      whole (m (c.tc.loc main_arg0)) (m (c.tc.loc main_arg1)) (m (c.tc.loc main_arg2)) (m (c.tc.loc main_arg3)) (m (c.tc.loc main_arg4)) := by
  subst h0 h1 h2 h3 h4
  exact ref _ _ _ _ _

theorem algebraic : Cert.algebraic_Kernel6Ideal_Reference6Ideal := by
  intro m g m' g' _ hagree
  refine ⟨fun c => whole (m (c.tc.loc main_arg0)) (m (c.tc.loc main_arg1)) (m (c.tc.loc main_arg2)) (m (c.tc.loc main_arg3)) (m (c.tc.loc main_arg4)), ?_, ?_⟩
  · refine (θ_run defs _ _).mono (fun r h c => ?_) (run_blocks (F := Ideal) m g)
    exact ⟨(h c).1.trans (final m c), (h c).2⟩
  · refine (θ_run Cert.Reference6Ideal.defs _ _).mono (fun r h c => ?_) (Cert.Reference6Ideal.Value.run (F := Ideal) m' g')
    obtain ⟨a0, a1, a2, a3, a4⟩ := hagree c
    exact ⟨(h c).1.trans ((Cert.Reference6Ideal.Read.val_main_v33_eq m' c).trans (same m _ _ _ _ _ c a0 a1 a2 a3 a4)), (h c).2⟩

end Cert.Latents
-- ==== Proof.PromptMath.lean ====
module

public import proofs.«01_k».proof.Proof.CombineMath

/-! The marks of sixteen experts' slots, one expert's 32 slots under the other, and their product with the experts' rows. -/

@[expose] public section

noncomputable section

open Idealize.ShloMosaic

namespace Cert.Combine

/-- The sixteen stacked parts read at row `x`: part `x / 32` at its row `x % 32`. -/
theorem stacked (P : Fin 16 → ℕ → EReal) (x : Fin 512) :
    (if h : x.val < 32 then P 0 (x.val) else
    (if h : x.val - 32 < 32 then P 1 (x.val - 32) else
    (if h : x.val - 32 - 32 < 32 then P 2 (x.val - 32 - 32) else
    (if h : x.val - 32 - 32 - 32 < 32 then P 3 (x.val - 32 - 32 - 32) else
    (if h : x.val - 32 - 32 - 32 - 32 < 32 then P 4 (x.val - 32 - 32 - 32 - 32) else
    (if h : x.val - 32 - 32 - 32 - 32 - 32 < 32 then P 5 (x.val - 32 - 32 - 32 - 32 - 32) else
    (if h : x.val - 32 - 32 - 32 - 32 - 32 - 32 < 32 then P 6 (x.val - 32 - 32 - 32 - 32 - 32 - 32) else
    (if h : x.val - 32 - 32 - 32 - 32 - 32 - 32 - 32 < 32 then P 7 (x.val - 32 - 32 - 32 - 32 - 32 - 32 - 32) else
    (if h : x.val - 32 - 32 - 32 - 32 - 32 - 32 - 32 - 32 < 32 then P 8 (x.val - 32 - 32 - 32 - 32 - 32 - 32 - 32 - 32) else
    (if h : x.val - 32 - 32 - 32 - 32 - 32 - 32 - 32 - 32 - 32 < 32 then P 9 (x.val - 32 - 32 - 32 - 32 - 32 - 32 - 32 - 32 - 32) else
    (if h : x.val - 32 - 32 - 32 - 32 - 32 - 32 - 32 - 32 - 32 - 32 < 32 then P 10 (x.val - 32 - 32 - 32 - 32 - 32 - 32 - 32 - 32 - 32 - 32) else
    (if h : x.val - 32 - 32 - 32 - 32 - 32 - 32 - 32 - 32 - 32 - 32 - 32 < 32 then P 11 (x.val - 32 - 32 - 32 - 32 - 32 - 32 - 32 - 32 - 32 - 32 - 32) else
    (if h : x.val - 32 - 32 - 32 - 32 - 32 - 32 - 32 - 32 - 32 - 32 - 32 - 32 < 32 then P 12 (x.val - 32 - 32 - 32 - 32 - 32 - 32 - 32 - 32 - 32 - 32 - 32 - 32) else
    (if h : x.val - 32 - 32 - 32 - 32 - 32 - 32 - 32 - 32 - 32 - 32 - 32 - 32 - 32 < 32 then P 13 (x.val - 32 - 32 - 32 - 32 - 32 - 32 - 32 - 32 - 32 - 32 - 32 - 32 - 32) else
    (if h : x.val - 32 - 32 - 32 - 32 - 32 - 32 - 32 - 32 - 32 - 32 - 32 - 32 - 32 - 32 < 32 then P 14 (x.val - 32 - 32 - 32 - 32 - 32 - 32 - 32 - 32 - 32 - 32 - 32 - 32 - 32 - 32) else
    P 15 (x.val - 32 - 32 - 32 - 32 - 32 - 32 - 32 - 32 - 32 - 32 - 32 - 32 - 32 - 32 - 32))))))))))))))))
    = P ⟨x.val / 32, by omega⟩ (x.val % 32) := by
  have hx := x.isLt
  by_cases h0 : x.val < 32
  · exact (dif_pos h0).trans (congr_arg₂ P (Fin.ext (show 0 = x.val / 32 by omega)) (by omega))
  refine (dif_neg h0).trans ?_
  by_cases h1 : x.val - 32 < 32
  · exact (dif_pos h1).trans (congr_arg₂ P (Fin.ext (show 1 = x.val / 32 by omega)) (by omega))
  refine (dif_neg h1).trans ?_
  by_cases h2 : x.val - 32 - 32 < 32
  · exact (dif_pos h2).trans (congr_arg₂ P (Fin.ext (show 2 = x.val / 32 by omega)) (by omega))
  refine (dif_neg h2).trans ?_
  by_cases h3 : x.val - 32 - 32 - 32 < 32
  · exact (dif_pos h3).trans (congr_arg₂ P (Fin.ext (show 3 = x.val / 32 by omega)) (by omega))
  refine (dif_neg h3).trans ?_
  by_cases h4 : x.val - 32 - 32 - 32 - 32 < 32
  · exact (dif_pos h4).trans (congr_arg₂ P (Fin.ext (show 4 = x.val / 32 by omega)) (by omega))
  refine (dif_neg h4).trans ?_
  by_cases h5 : x.val - 32 - 32 - 32 - 32 - 32 < 32
  · exact (dif_pos h5).trans (congr_arg₂ P (Fin.ext (show 5 = x.val / 32 by omega)) (by omega))
  refine (dif_neg h5).trans ?_
  by_cases h6 : x.val - 32 - 32 - 32 - 32 - 32 - 32 < 32
  · exact (dif_pos h6).trans (congr_arg₂ P (Fin.ext (show 6 = x.val / 32 by omega)) (by omega))
  refine (dif_neg h6).trans ?_
  by_cases h7 : x.val - 32 - 32 - 32 - 32 - 32 - 32 - 32 < 32
  · exact (dif_pos h7).trans (congr_arg₂ P (Fin.ext (show 7 = x.val / 32 by omega)) (by omega))
  refine (dif_neg h7).trans ?_
  by_cases h8 : x.val - 32 - 32 - 32 - 32 - 32 - 32 - 32 - 32 < 32
  · exact (dif_pos h8).trans (congr_arg₂ P (Fin.ext (show 8 = x.val / 32 by omega)) (by omega))
  refine (dif_neg h8).trans ?_
  by_cases h9 : x.val - 32 - 32 - 32 - 32 - 32 - 32 - 32 - 32 - 32 < 32
  · exact (dif_pos h9).trans (congr_arg₂ P (Fin.ext (show 9 = x.val / 32 by omega)) (by omega))
  refine (dif_neg h9).trans ?_
  by_cases h10 : x.val - 32 - 32 - 32 - 32 - 32 - 32 - 32 - 32 - 32 - 32 < 32
  · exact (dif_pos h10).trans (congr_arg₂ P (Fin.ext (show 10 = x.val / 32 by omega)) (by omega))
  refine (dif_neg h10).trans ?_
  by_cases h11 : x.val - 32 - 32 - 32 - 32 - 32 - 32 - 32 - 32 - 32 - 32 - 32 < 32
  · exact (dif_pos h11).trans (congr_arg₂ P (Fin.ext (show 11 = x.val / 32 by omega)) (by omega))
  refine (dif_neg h11).trans ?_
  by_cases h12 : x.val - 32 - 32 - 32 - 32 - 32 - 32 - 32 - 32 - 32 - 32 - 32 - 32 < 32
  · exact (dif_pos h12).trans (congr_arg₂ P (Fin.ext (show 12 = x.val / 32 by omega)) (by omega))
  refine (dif_neg h12).trans ?_
  by_cases h13 : x.val - 32 - 32 - 32 - 32 - 32 - 32 - 32 - 32 - 32 - 32 - 32 - 32 - 32 < 32
  · exact (dif_pos h13).trans (congr_arg₂ P (Fin.ext (show 13 = x.val / 32 by omega)) (by omega))
  refine (dif_neg h13).trans ?_
  by_cases h14 : x.val - 32 - 32 - 32 - 32 - 32 - 32 - 32 - 32 - 32 - 32 - 32 - 32 - 32 - 32 < 32
  · exact (dif_pos h14).trans (congr_arg₂ P (Fin.ext (show 14 = x.val / 32 by omega)) (by omega))
  refine (dif_neg h14).trans ?_
  exact congr_arg₂ P (Fin.ext (show 15 = x.val / 32 by omega)) (by omega)

theorem marked (c : BitVec 1) (y : EReal) : Scalar.select c 1 0 * y = Scalar.select c y 0 := by
  unfold Scalar.select
  split <;> simp

/-- The product of the marks with the rows is each expert's row that the word names, added over the experts. -/
theorem marks_rows (p : Fin 16 → BitVec 32) (y : Fin 16 → Fin 32 → EReal) :
    ∑ x : Fin 512, Scalar.select (IntOp.cmpi .eq (p ⟨x.val / 32, by omega⟩) (BitVec.ofNat 32 (x.val % 32))) 1 0
      * y ⟨x.val / 32, by omega⟩ ⟨x.val % 32, by omega⟩ = ∑ e, taken (p e) (y e) := by
  simp only [marked]
  unfold taken
  refine Eq.trans ?_ (Fintype.sum_prod_type (fun q : Fin 16 × Fin 32 =>
    (Scalar.select (IntOp.cmpi .eq (p q.1) (BitVec.ofNat 32 q.2.val)) (y q.1 q.2) 0 : EReal)))
  exact Fintype.sum_equiv (finProdFinEquiv (m := 16) (n := 32)).symm _ _ fun x => rfl

end Cert.Combine
-- ==== Proof.Prompt.lean ====
module

public import proofs.«01_k».proof.Defs
public import proofs.«01_k».proof.Proof.PromptMath
public import Idealize.ShloMosaic.Lib.Tactic.CleanTypes
public import Idealize.ShloMosaic.Lib.Quiescent
public import proofs.«01_k».proof.Proof.Gen.Kernel7.Frame
public import proofs.«01_k».proof.Proof.Gen.Kernel7Ideal.Value
public import proofs.«01_k».proof.Proof.Gen.Reference7Ideal.Read

/-! The sum of the experts' outputs at the prompts' tokens, with the final norm: its frames and its value. -/

@[expose] public section

set_option maxRecDepth 16384

noncomputable section

open Idealize.ShloMosaic Idealize.ShloMosaic.TcCoe Idealize.SL.Sem
open Cert.Kernel7Ideal Cert.Kernel7Ideal.Gen Cert.Kernel7Ideal.Value

namespace Cert.Prompt

open Cert.Combine

abbrev slots : IVec S32x256 32 := iota .tc S32x256 32 [0] iota_S32x256_d0_w32

/-- Whether row `e` of the words names slot `n` for token `r`. -/
abbrev mark (v0 : Vec Ideal S16x256 .i32) (r : Fin 256) (e : Fin 16) (n : ℕ) : EReal :=
  Scalar.select (IntOp.cmpi .eq (v0 (ix2 e r)) (BitVec.ofNat 32 n)) 1 0

/-- The experts' rows that hold token `r` of one request's block. -/
def added (v0 : Vec Ideal S16x256 .i32) (y : Vec Ideal S16x32x1024 .bf16) (r : Fin 256) (k : Fin 1024) : EReal :=
  ∑ e : Fin 16, taken (v0 (ix2 e r)) fun s : Fin 32 => y (ix3 e s k)

theorem rows (v0 : Vec Ideal S16x256 .i32) (y : Vec Ideal S16x32x1024 .bf16) (r : Fin 256) (k : Fin 1024) (h : Fin 512 → EReal)
    (hh : ∀ x : Fin 512, h x = mark v0 r ⟨x.val / 32, by omega⟩ (x.val % 32)) :
    ∑ x : Fin 512, h x * y (ix3 (⟨x.val / 32, by omega⟩ : Fin 16) (⟨x.val % 32, by omega⟩ : Fin 32) k) = added v0 y r k :=
  (Finset.sum_congr rfl fun x _ => congrArg (· * _) (hh x)).trans (marks_rows (fun e => v0 (ix2 e r)) fun e s => y (ix3 e s k))

/-- The residual row of one request's block with its gated sum. -/
def out (v0 : Vec Ideal S16x256 .i32) (y : Vec Ideal S16x32x1024 .bf16) (x : Vec Ideal S256x1024 .f32) (g : Vec Ideal S1x1x1024 .f32) (r : Fin 256) :
    Fin 1024 → EReal := sumRow (fun j => x (ix2 r j)) (fun j => g (ix3 0 0 j)) (added v0 y r)

theorem sum1 (v0 : Vec Ideal S16x256 .i32) (y : Vec Ideal S16x32x1024 .bf16) (x : Vec Ideal S256x1024 .f32) (g : Vec Ideal S1x1x1024 .f32) (r : Fin 256) (k : Fin 1024) :
    k0_pay18 (F := Ideal) v0 k0_pay1 slots (k0_pay2 v0) (k0_pay3 v0) (k0_pay4 v0) (k0_pay5 v0) (k0_pay6 v0) (k0_pay10 (k0_pay7 v0) k0_pay8 k0_pay9)
      (k0_pay11 v0 slots) (k0_pay12 v0 slots) (k0_pay13 v0 slots) (k0_pay14 v0 slots) (k0_pay15 v0 slots) (k0_pay16 v0 slots) (k0_pay17 v0 slots)
      (Scalar.ofBits .f32 0x3F800000#32) y x g (ix2 r k) = out v0 y x g r k := by
  unfold k0_pay18 k0_pay17 k0_pay16 k0_pay15 k0_pay14 k0_pay13 k0_pay12 k0_pay11 k0_pay10 k0_pay9 k0_pay8 k0_pay7 k0_pay6 k0_pay5 k0_pay4 k0_pay3
    k0_pay2 k0_pay1
  pointwise []
  exact congrArg (fun s => x (ix2 r k) + g (ix3 0 0 k) * s) (rows v0 y r k _ fun z => stacked (mark v0 r) z)

theorem sum3 (v0 : Vec Ideal S16x256 .i32) (y : Vec Ideal S16x32x1024 .bf16) (x : Vec Ideal S256x1024 .f32) (g : Vec Ideal S1x1x1024 .f32) (r : Fin 256) (k : Fin 1024) :
    k0_pay55 (F := Ideal) v0 (k0_pay39 (Scalar.ofBits .f32 0x00000000#32)) slots (k0_pay40 v0) (k0_pay41 v0) (k0_pay42 v0) (k0_pay43 v0) (k0_pay44 v0)
      (k0_pay45 v0) (k0_pay47 (k0_pay46 v0) (Scalar.ofBits .f32 0x3F800000#32)) (k0_pay48 v0 slots) (k0_pay49 v0 slots) (k0_pay50 v0 slots)
      (k0_pay51 v0 slots) (k0_pay52 v0 slots) (k0_pay53 v0 slots) (k0_pay54 v0) y x g (ix2 r k) = out v0 y x g r k := by
  unfold k0_pay55 k0_pay54 k0_pay53 k0_pay52 k0_pay51 k0_pay50 k0_pay49 k0_pay48 k0_pay47 k0_pay46 k0_pay45 k0_pay44 k0_pay43 k0_pay42 k0_pay41
    k0_pay40 k0_pay39
  pointwise []
  exact congrArg (fun s => x (ix2 r k) + g (ix3 0 0 k) * s) (rows v0 y r k _ fun z => stacked (mark v0 r) z)

theorem marks2 (v0 : Vec Ideal S16x256 .i32) (z : Fin 512) (r : Fin 256) :
    k0_pay37 (F := Ideal) v0 slots (k0_pay24 v0) (k0_pay25 v0) (k0_pay29 (k0_pay26 v0) k0_pay27 k0_pay28) (k0_pay30 v0 slots) (k0_pay31 v0 slots)
      (k0_pay32 v0 slots) (k0_pay33 v0 slots) (k0_pay34 v0 slots) (k0_pay35 v0 slots) (k0_pay36 v0 slots) (Scalar.ofBits .f32 0x3F800000#32) (ix2 z r) = mark v0 r ⟨z.val / 32, by omega⟩ (z.val % 32) := by
  unfold k0_pay37 k0_pay36 k0_pay35 k0_pay34 k0_pay33 k0_pay32 k0_pay31 k0_pay30 k0_pay29 k0_pay28 k0_pay27 k0_pay26 k0_pay25 k0_pay24
  pointwise []
  exact stacked (mark v0 r) z

theorem marks4 (v0 : Vec Ideal S16x256 .i32) (z : Fin 512) (r : Fin 256) :
    k0_pay73 (F := Ideal) v0 slots (k0_pay61 v0) (k0_pay62 v0) (k0_pay63 v0) (k0_pay65 (k0_pay64 v0) (Scalar.ofBits .f32 0x3F800000#32)) (k0_pay66 v0 slots)
      (k0_pay67 v0 slots) (k0_pay68 v0 slots) (k0_pay69 v0 slots) (k0_pay70 v0 slots) (k0_pay71 v0 slots) (k0_pay72 v0) (ix2 z r) = mark v0 r ⟨z.val / 32, by omega⟩ (z.val % 32) := by
  unfold k0_pay73 k0_pay72 k0_pay71 k0_pay70 k0_pay69 k0_pay68 k0_pay67 k0_pay66 k0_pay65 k0_pay64 k0_pay63 k0_pay62 k0_pay61
  pointwise []
  exact stacked (mark v0 r) z

theorem norm2 (h : FVec Ideal S512x256 .bf16) (y : Vec Ideal S16x32x1024 .bf16) (x : Vec Ideal S256x1024 .f32) (g : Vec Ideal S1x1x1024 .f32)
    (w : Vec Ideal S1x1024 .f32) (r : Fin 256) (k : Fin 1024) : k0_pay38 (F := Ideal) k0_pay23 h y x g w (ix2 r k) =
      normRow (sumRow (fun j => x (ix2 r j)) (fun j => g (ix3 0 0 j))
        fun j => ∑ z : Fin 512, h (ix2 z r) * y (ix3 (⟨z.val / 32, by omega⟩ : Fin 16) (⟨z.val % 32, by omega⟩ : Fin 32) j)) (fun j => w (ix2 0 j)) k := by
  unfold k0_pay38 k0_pay23
  pointwise []
  exact congrArg (fun s => (x (ix2 r k) + g (ix3 0 0 k) * _) * Ideal.rsqrt (s * Mod.share + Ideal.ofBits .f32 0x358637BD#32)
    * w (ix2 0 k)) (Mod.squares fun j => x (ix2 r j) + g (ix3 0 0 j) *
      ∑ z : Fin 512, h (ix2 z r) * y (ix3 (⟨z.val / 32, by omega⟩ : Fin 16) (⟨z.val % 32, by omega⟩ : Fin 32) j))

theorem norm4 (h : FVec Ideal S512x256 .bf16) (y : Vec Ideal S16x32x1024 .bf16) (x : Vec Ideal S256x1024 .f32) (g : Vec Ideal S1x1x1024 .f32)
    (w : Vec Ideal S1x1024 .f32) (r : Fin 256) (k : Fin 1024) : k0_pay75 (F := Ideal) k0_pay60 h (k0_pay74 y) (constant S256x1024 .f32 0x00000000#32) x g w (ix2 r k) =
      normRow (sumRow (fun j => x (ix2 r j)) (fun j => g (ix3 0 0 j))
        fun j => ∑ z : Fin 512, h (ix2 z r) * y (ix3 (⟨z.val / 32, by omega⟩ : Fin 16) (⟨z.val % 32, by omega⟩ : Fin 32) j)) (fun j => w (ix2 0 j)) k := by
  unfold k0_pay75 k0_pay74 k0_pay60
  pointwise []
  exact congrArg (fun s => (x (ix2 r k) + g (ix3 0 0 k) * _) * Ideal.rsqrt (s * Mod.share + Ideal.ofBits .f32 0x358637BD#32)
    * w (ix2 0 k)) (Mod.squares fun j => x (ix2 r j) + g (ix3 0 0 j) *
      ∑ z : Fin 512, h (ix2 z r) * y (ix3 (⟨z.val / 32, by omega⟩ : Fin 16) (⟨z.val % 32, by omega⟩ : Fin 32) j))

theorem piece1 (v0 : Vec Ideal S16x256 .i32) (y : Vec Ideal S16x32x1024 .bf16) (x : Vec Ideal S256x1024 .f32) (g : Vec Ideal S1x1x1024 .f32)
    (w : Vec Ideal S1x1024 .f32) (r : Fin 256) (k : Fin 1024) :
    k0_pay22 (F := Ideal) (k0_pay18 (F := Ideal) v0 k0_pay1 slots (k0_pay2 v0) (k0_pay3 v0) (k0_pay4 v0) (k0_pay5 v0) (k0_pay6 v0) (k0_pay10 (k0_pay7 v0) k0_pay8 k0_pay9)
      (k0_pay11 v0 slots) (k0_pay12 v0 slots) (k0_pay13 v0 slots) (k0_pay14 v0 slots) (k0_pay15 v0 slots) (k0_pay16 v0 slots) (k0_pay17 v0 slots)
      (Scalar.ofBits .f32 0x3F800000#32) y x g) w
      (k0_pay19 (F := Ideal) v0 k0_pay1 slots (k0_pay2 v0) (k0_pay3 v0) (k0_pay4 v0) (k0_pay5 v0) (k0_pay6 v0) (k0_pay10 (k0_pay7 v0) k0_pay8 k0_pay9)
      (k0_pay11 v0 slots) (k0_pay12 v0 slots) (k0_pay13 v0 slots) (k0_pay14 v0 slots) (k0_pay15 v0 slots) (k0_pay16 v0 slots) (k0_pay17 v0 slots)
      (Scalar.ofBits .f32 0x3F800000#32) y x g)
      (k0_pay20 (F := Ideal) v0 k0_pay1 slots (k0_pay2 v0) (k0_pay3 v0) (k0_pay4 v0) (k0_pay5 v0) (k0_pay6 v0) (k0_pay10 (k0_pay7 v0) k0_pay8 k0_pay9)
      (k0_pay11 v0 slots) (k0_pay12 v0 slots) (k0_pay13 v0 slots) (k0_pay14 v0 slots) (k0_pay15 v0 slots) (k0_pay16 v0 slots) (k0_pay17 v0 slots)
      (Scalar.ofBits .f32 0x3F800000#32) y x g)
      (k0_pay21 (F := Ideal) v0 k0_pay1 slots (k0_pay2 v0) (k0_pay3 v0) (k0_pay4 v0) (k0_pay5 v0) (k0_pay6 v0) (k0_pay10 (k0_pay7 v0) k0_pay8 k0_pay9)
      (k0_pay11 v0 slots) (k0_pay12 v0 slots) (k0_pay13 v0 slots) (k0_pay14 v0 slots) (k0_pay15 v0 slots) (k0_pay16 v0 slots) (k0_pay17 v0 slots)
      (Scalar.ofBits .f32 0x3F800000#32) y x g) (ix2 r k) =
      normRow (out v0 y x g r) (fun j => w (ix2 0 j)) k := by
  have hs := sum1 v0 y x g r
  unfold k0_pay22 k0_pay21 k0_pay20 k0_pay19
  revert hs
  generalize k0_pay18 (F := Ideal) v0 k0_pay1 slots (k0_pay2 v0) (k0_pay3 v0) (k0_pay4 v0) (k0_pay5 v0) (k0_pay6 v0) (k0_pay10 (k0_pay7 v0) k0_pay8 k0_pay9)
      (k0_pay11 v0 slots) (k0_pay12 v0 slots) (k0_pay13 v0 slots) (k0_pay14 v0 slots) (k0_pay15 v0 slots) (k0_pay16 v0 slots) (k0_pay17 v0 slots)
      (Scalar.ofBits .f32 0x3F800000#32) y x g = o
  intro hs
  pointwise []
  rw [← funext hs]
  exact congrArg (fun s => o (ix2 r k) * Ideal.rsqrt (s * Mod.share + Ideal.ofBits .f32 0x358637BD#32) * w (ix2 0 k))
    (Mod.squares fun j => o (ix2 r j))

theorem piece3 (v0 : Vec Ideal S16x256 .i32) (y : Vec Ideal S16x32x1024 .bf16) (x : Vec Ideal S256x1024 .f32) (g : Vec Ideal S1x1x1024 .f32)
    (w : Vec Ideal S1x1024 .f32) (r : Fin 256) (k : Fin 1024) :
    k0_pay59 (F := Ideal) (k0_pay55 (F := Ideal) v0 (k0_pay39 (Scalar.ofBits .f32 0x00000000#32)) slots (k0_pay40 v0) (k0_pay41 v0) (k0_pay42 v0) (k0_pay43 v0) (k0_pay44 v0)
      (k0_pay45 v0) (k0_pay47 (k0_pay46 v0) (Scalar.ofBits .f32 0x3F800000#32)) (k0_pay48 v0 slots) (k0_pay49 v0 slots) (k0_pay50 v0 slots)
      (k0_pay51 v0 slots) (k0_pay52 v0 slots) (k0_pay53 v0 slots) (k0_pay54 v0) y x g) w
      (k0_pay56 (F := Ideal) v0 (k0_pay39 (Scalar.ofBits .f32 0x00000000#32)) slots (k0_pay40 v0) (k0_pay41 v0) (k0_pay42 v0) (k0_pay43 v0) (k0_pay44 v0)
      (k0_pay45 v0) (k0_pay47 (k0_pay46 v0) (Scalar.ofBits .f32 0x3F800000#32)) (k0_pay48 v0 slots) (k0_pay49 v0 slots) (k0_pay50 v0 slots)
      (k0_pay51 v0 slots) (k0_pay52 v0 slots) (k0_pay53 v0 slots) (k0_pay54 v0) y x g)
      (k0_pay57 (F := Ideal) v0 (k0_pay39 (Scalar.ofBits .f32 0x00000000#32)) slots (k0_pay40 v0) (k0_pay41 v0) (k0_pay42 v0) (k0_pay43 v0) (k0_pay44 v0)
      (k0_pay45 v0) (k0_pay47 (k0_pay46 v0) (Scalar.ofBits .f32 0x3F800000#32)) (k0_pay48 v0 slots) (k0_pay49 v0 slots) (k0_pay50 v0 slots)
      (k0_pay51 v0 slots) (k0_pay52 v0 slots) (k0_pay53 v0 slots) (k0_pay54 v0) y x g)
      (k0_pay58 (F := Ideal) v0 (k0_pay39 (Scalar.ofBits .f32 0x00000000#32)) slots (k0_pay40 v0) (k0_pay41 v0) (k0_pay42 v0) (k0_pay43 v0) (k0_pay44 v0)
      (k0_pay45 v0) (k0_pay47 (k0_pay46 v0) (Scalar.ofBits .f32 0x3F800000#32)) (k0_pay48 v0 slots) (k0_pay49 v0 slots) (k0_pay50 v0 slots)
      (k0_pay51 v0 slots) (k0_pay52 v0 slots) (k0_pay53 v0 slots) (k0_pay54 v0) y x g) (ix2 r k) =
      normRow (out v0 y x g r) (fun j => w (ix2 0 j)) k := by
  have hs := sum3 v0 y x g r
  unfold k0_pay59 k0_pay58 k0_pay57 k0_pay56
  revert hs
  generalize k0_pay55 (F := Ideal) v0 (k0_pay39 (Scalar.ofBits .f32 0x00000000#32)) slots (k0_pay40 v0) (k0_pay41 v0) (k0_pay42 v0) (k0_pay43 v0) (k0_pay44 v0)
      (k0_pay45 v0) (k0_pay47 (k0_pay46 v0) (Scalar.ofBits .f32 0x3F800000#32)) (k0_pay48 v0 slots) (k0_pay49 v0 slots) (k0_pay50 v0 slots)
      (k0_pay51 v0 slots) (k0_pay52 v0 slots) (k0_pay53 v0 slots) (k0_pay54 v0) y x g = o
  intro hs
  pointwise []
  rw [← funext hs]
  exact congrArg (fun s => o (ix2 r k) * Ideal.rsqrt (s * Mod.share + Ideal.ofBits .f32 0x358637BD#32) * w (ix2 0 k))
    (Mod.squares fun j => o (ix2 r j))

theorem piece2 (v0 : Vec Ideal S16x256 .i32) (y : Vec Ideal S16x32x1024 .bf16) (x : Vec Ideal S256x1024 .f32) (g : Vec Ideal S1x1x1024 .f32)
    (w : Vec Ideal S1x1024 .f32) (r : Fin 256) (k : Fin 1024) :
    k0_pay38 (F := Ideal) k0_pay23 (k0_pay37 (F := Ideal) v0 slots (k0_pay24 v0) (k0_pay25 v0) (k0_pay29 (k0_pay26 v0) k0_pay27 k0_pay28) (k0_pay30 v0 slots) (k0_pay31 v0 slots)
      (k0_pay32 v0 slots) (k0_pay33 v0 slots) (k0_pay34 v0 slots) (k0_pay35 v0 slots) (k0_pay36 v0 slots) (Scalar.ofBits .f32 0x3F800000#32)) y x g w (ix2 r k) =
      normRow (out v0 y x g r) (fun j => w (ix2 0 j)) k :=
  (norm2 _ y x g w r k).trans (same_row (fun _ => rfl) (fun _ => rfl) (fun j => rows v0 y r j _ fun z => marks2 v0 z r) fun _ => rfl)

theorem piece4 (v0 : Vec Ideal S16x256 .i32) (y : Vec Ideal S16x32x1024 .bf16) (x : Vec Ideal S256x1024 .f32) (g : Vec Ideal S1x1x1024 .f32)
    (w : Vec Ideal S1x1024 .f32) (r : Fin 256) (k : Fin 1024) :
    k0_pay75 (F := Ideal) k0_pay60 (k0_pay73 (F := Ideal) v0 slots (k0_pay61 v0) (k0_pay62 v0) (k0_pay63 v0) (k0_pay65 (k0_pay64 v0) (Scalar.ofBits .f32 0x3F800000#32)) (k0_pay66 v0 slots)
      (k0_pay67 v0 slots) (k0_pay68 v0 slots) (k0_pay69 v0 slots) (k0_pay70 v0 slots) (k0_pay71 v0 slots) (k0_pay72 v0))
      (k0_pay74 y) (constant S256x1024 .f32 0x00000000#32) x g w (ix2 r k) =
      normRow (out v0 y x g r) (fun j => w (ix2 0 j)) k :=
  (norm4 _ y x g w r k).trans (same_row (fun _ => rfl) (fun _ => rfl) (fun j => rows v0 y r j _ fun z => marks4 v0 z r) fun _ => rfl)

abbrev slot (R : Fin 1024) (s : Fin 32) : Fin 128 := ⟨R.val / 256 * 32 + s.val, by omega⟩

/-- A row in one grid point's block. -/
theorem block (x0 : Vec Ideal S16x1024 .i32) (x1 : Vec Ideal S16x128x1024 .bf16) (x2 : Vec Ideal S1024x1024 .f32) (x3 : Vec Ideal S1x6x1024 .f32)
    (x4 : Vec Ideal S1x1024 .f32) (R k : Fin 1024) : out0_5 (F := Ideal) x0 x1 x2 x3 x4 (ix2 R k) =
      normRow (sumRow (fun j => x2 (ix2 R j)) (fun j => x3 (ix3 0 5 j)) fun j => ∑ e : Fin 16, taken (x0 (ix2 e R)) fun s : Fin 32 => x1 (ix3 e (slot R s) j))
        (fun j => x4 (ix2 0 j)) k := by
  unfold_out out0_5
  canon_tiles z h
  all_goals idx_vars z
  · obtain rfl : R = ⟨768 + z0.val, by clear h0; omega⟩ := Fin.ext h0
    obtain rfl : z1 = k := (Fin.ext h1).symm
    refine (piece4 _ _ _ _ _ _ _).trans (same_row (fun j => ?_) (fun j => ?_) (fun j => Finset.sum_congr rfl fun e _ => same_taken ?_ fun s => ?_) fun j => ?_)
    · pointwise []
    · pointwise []
    · pointwise []
    · pointwise []
      exact congrArg (fun q : Fin 128 => x1 (ix3 e q j)) (Fin.ext (show 96 + s.val = (768 + z0.val) / 256 * 32 + s.val by omega))
    · pointwise []
  · obtain rfl : R = ⟨512 + z0.val, by clear h0; omega⟩ := Fin.ext h0
    obtain rfl : z1 = k := (Fin.ext h1).symm
    refine (piece3 _ _ _ _ _ _ _).trans (same_row (fun j => ?_) (fun j => ?_) (fun j => Finset.sum_congr rfl fun e _ => same_taken ?_ fun s => ?_) fun j => ?_)
    · pointwise []
    · pointwise []
    · pointwise []
    · pointwise []
      exact congrArg (fun q : Fin 128 => x1 (ix3 e q j)) (Fin.ext (show 64 + s.val = (512 + z0.val) / 256 * 32 + s.val by omega))
    · pointwise []
  · obtain rfl : R = ⟨256 + z0.val, by clear h0; omega⟩ := Fin.ext h0
    obtain rfl : z1 = k := (Fin.ext h1).symm
    refine (piece2 _ _ _ _ _ _ _).trans (same_row (fun j => ?_) (fun j => ?_) (fun j => Finset.sum_congr rfl fun e _ => same_taken ?_ fun s => ?_) fun j => ?_)
    · pointwise []
    · pointwise []
    · pointwise []
    · pointwise []
      exact congrArg (fun q : Fin 128 => x1 (ix3 e q j)) (Fin.ext (show 32 + s.val = (256 + z0.val) / 256 * 32 + s.val by omega))
    · pointwise []
  · obtain rfl : R = ⟨z0.val, by clear h0; omega⟩ := Fin.ext h0
    obtain rfl : z1 = k := (Fin.ext h1).symm
    refine (piece1 _ _ _ _ _ _ _).trans (same_row (fun j => ?_) (fun j => ?_) (fun j => Finset.sum_congr rfl fun e _ => same_taken ?_ fun s => ?_) fun j => ?_)
    · pointwise []
    · pointwise []
    · pointwise []
    · pointwise []
      exact congrArg (fun q : Fin 128 => x1 (ix3 e q j)) (Fin.ext (show s.val = (z0.val) / 256 * 32 + s.val by omega))
    · pointwise []

section whole

variable (x0 : Vec Ideal S16x8192 .i32) (x1 : Vec Ideal S16x1024x1024 .bf16) (x2 : Vec Ideal S8192x1024 .f32) (x3 : Vec Ideal S3x6x1024 .f32)
  (x4 : Vec Ideal S1x1024 .f32)

/-- The sum of the experts' rows that hold token `R`. -/
def experts (R : Fin 8192) (k : Fin 1024) : EReal :=
  ∑ e : Fin 16, taken (x0 (ix2 e R)) fun s : Fin 32 => x1 (ix3 e (⟨R.val / 256 * 32 + s.val, by omega⟩ : Fin 1024) k)

/-- Row `R` of the result. -/
def row (R : Fin 8192) : Fin 1024 → EReal :=
  normRow (sumRow (fun j => x2 (ix2 R j)) (fun j => x3 (ix3 0 5 j)) (experts x0 x1 R)) fun j => x4 (ix2 0 j)

def whole : Vec Ideal S8192x1024 .f32 := fun i => row x0 x1 x2 x3 x4 (i 0) (i 1)

theorem nothing : Ideal.ofBits .f32 0x00000000#32 = 0 := by simp [Ideal.ofBits, Ideal.ieee]

/-- The plain program's sum of the experts' rows, per request. -/
theorem stage (R : Fin 8192) (k : Fin 1024) :
    Cert.Reference7Ideal.Read.val_main_v14 (F := Ideal) x0 x1 (ix3 (⟨R.val / 256, by omega⟩ : Fin 32) (⟨R.val % 256, by omega⟩ : Fin 256) k) =
      experts x0 x1 R k := by
  unfold Cert.Reference7Ideal.Read.val_main_v14 Cert.Reference7Ideal.Read.val_main_v13 Cert.Reference7Ideal.Read.val_main_v12
    Cert.Reference7Ideal.Read.val_main_call0_v3 Cert.Reference7Ideal.Read.val_main_call0_v2 Cert.Reference7Ideal.Read.val_main_call0_v1
    Cert.Reference7Ideal.Read.val_main_call0_v0 Cert.Reference7Ideal.Read.val_main_v11 Cert.Reference7Ideal.Read.val_main_v10
    Cert.Reference7Ideal.Read.val_main_v9 Cert.Reference7Ideal.Read.val_main_v8 Cert.Reference7Ideal.Read.val_main_v7 Cert.Reference7Ideal.Read.val_main_v6
    Cert.Reference7Ideal.Read.val_main_v5 Cert.Reference7Ideal.Read.val_main_v4 Cert.Reference7Ideal.Read.val_main_v3 Cert.Reference7Ideal.Read.val_main_cst
    Cert.Reference7Ideal.Read.val_main_cst_0 Cert.Reference7Ideal.Read.val_main_cst_1
  clean_types
  pointwise []
  exact Finset.sum_congr rfl fun e _ => Finset.sum_congr rfl fun s _ => congrArg (Scalar.select _ _) nothing

theorem ref : Cert.Reference7Ideal.Read.val_main_v33 (F := Ideal) x0 x1 x2 x3 x4 = whole x0 x1 x2 x3 x4 := by
  funext i
  obtain ⟨r, l, rfl⟩ : ∃ (r : Fin 8192) (l : Fin 1024), i = ix2 r l := ⟨i 0, i 1, eq_ix2 i⟩
  have hs := stage x0 x1 r
  unfold Cert.Reference7Ideal.Read.val_main_v33 Cert.Reference7Ideal.Read.val_main_v32 Cert.Reference7Ideal.Read.val_main_v31
    Cert.Reference7Ideal.Read.val_main_v30 Cert.Reference7Ideal.Read.val_main_v29 Cert.Reference7Ideal.Read.val_main_v28 Cert.Reference7Ideal.Read.val_main_v27
    Cert.Reference7Ideal.Read.val_main_v26 Cert.Reference7Ideal.Read.val_main_v25 Cert.Reference7Ideal.Read.val_main_v24 Cert.Reference7Ideal.Read.val_main_v23
    Cert.Reference7Ideal.Read.val_main_v22 Cert.Reference7Ideal.Read.val_main_v21 Cert.Reference7Ideal.Read.val_main_v20 Cert.Reference7Ideal.Read.val_main_v19
    Cert.Reference7Ideal.Read.val_main_v18 Cert.Reference7Ideal.Read.val_main_v17 Cert.Reference7Ideal.Read.val_main_v16 Cert.Reference7Ideal.Read.val_main_v15
    Cert.Reference7Ideal.Read.val_main_v2 Cert.Reference7Ideal.Read.val_main_v1 Cert.Reference7Ideal.Read.val_main_v0 Cert.Reference7Ideal.Read.val_main_cst_2
    Cert.Reference7Ideal.Read.val_main_cst_3 Cert.Reference7Ideal.Read.val_main_cst_4
  revert hs
  generalize Cert.Reference7Ideal.Read.val_main_v14 (F := Ideal) x0 x1 = y
  intro hs
  clean_types
  pointwise [Mod.div_len]
  simp only [hs]
  rfl

end whole

variable (m : (ℓ : Loc nD τ sig) → Buf (Elt Ideal) ℓ)

theorem idx0 : ∀ t : Fin cfg0.N, win0_0.index t = ![0, t.val] := by decide +kernel
theorem idx1 : ∀ t : Fin cfg0.N, win0_1.index t = ![0, t.val, 0] := by decide +kernel
theorem idx2 : ∀ t : Fin cfg0.N, win0_2.index t = ![t.val, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![t.val, 0] := by decide +kernel

theorem blk0 (c : Dev nD) (t : Fin cfg0.N) (e : Fin 16) (r : Fin 1024) (R : Fin 8192) (h : R.val = t.val * 1024 + r.val) :
    (iblk m c 0 t : Vec Ideal S16x1024 .i32) (ix2 e r) = m (c.tc.loc main_arg0) (ix2 e R) := by
  blk_ext [iblk, V, idx0 t]

theorem blk1 (c : Dev nD) (t : Fin cfg0.N) (e : Fin 16) (s : Fin 128) (j : Fin 1024) (S : Fin 1024) (h : S.val = t.val * 128 + s.val) :
    (iblk m c 1 t : Vec Ideal S16x128x1024 .bf16) (ix3 e s j) = m (c.tc.loc main_arg1) (ix3 e S j) := by
  blk_ext [iblk, V, idx1 t]

theorem blk2 (c : Dev nD) (t : Fin cfg0.N) (r j : Fin 1024) (R : Fin 8192) (h : R.val = t.val * 1024 + r.val) :
    (iblk m c 2 t : Vec Ideal S1024x1024 .f32) (ix2 r j) = m (c.tc.loc main_arg2) (ix2 R j) := by
  blk_ext [iblk, V, idx2 t]

theorem blk3 (c : Dev nD) (t : Fin cfg0.N) (q : Fin 6) (j : Fin 1024) :
    (iblk m c 3 t : Vec Ideal S1x6x1024 .f32) (ix3 0 q j) = m (c.tc.loc main_arg3) (ix3 0 q j) := by
  blk_ext [iblk, V, idx3 t]

theorem blk4 (c : Dev nD) (t : Fin cfg0.N) (j : Fin 1024) :
    (iblk m c 4 t : Vec Ideal S1x1024 .f32) (ix2 0 j) = m (c.tc.loc main_arg4) (ix2 0 j) := by
  blk_ext [iblk, V, idx4 t]

theorem final (c : Dev nD) : (dats (F := Ideal) m 0 c).arrAt 5 cfg0.N =
    whole (m (c.tc.loc main_arg0)) (m (c.tc.loc main_arg1)) (m (c.tc.loc main_arg2)) (m (c.tc.loc main_arg3)) (m (c.tc.loc main_arg4)) := by
  refine (dats (F := Ideal) m 0 c).arrAt_eq_of_covers 5 _ (by decide +kernel) fun t hf y => ?_
  blk_simp
  rw [after0_5]
  have ht : t.val < 8 := t.isLt
  obtain ⟨r, l, rfl⟩ : ∃ r l : Fin 1024, y = ix2 r l := ⟨y 0, y 1, eq_ix2 y⟩
  have he : (win0_5.blk t).view.emb (ix2 r l) = ix2 (⟨t.val * 1024 + r.val, by omega⟩ : Fin 8192) l := by
    blk_ext [idx5 t]
  rw [he]
  refine (block _ _ _ _ _ r l).trans ?_
  unfold whole row experts
  exact same_row (fun j => blk2 m c t r j _ rfl) (fun j => blk3 m c t 5 j)
    (fun j => Finset.sum_congr rfl fun e _ => same_taken (blk0 m c t e r _ rfl) fun s => blk1 m c t e (slot r s) j _
      (show (t.val * 1024 + r.val) / 256 * 32 + s.val = t.val * 128 + (r.val / 256 * 32 + s.val) by omega))
    (fun j => blk4 m c t j)

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_ref : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem kept : Cert.preserves_Kernel7_Kernel7Ideal := trivial

theorem same (x0 : Vec Ideal S16x8192 .i32) (x1 : Vec Ideal S16x1024x1024 .bf16) (x2 : Vec Ideal S8192x1024 .f32) (x3 : Vec Ideal S3x6x1024 .f32)
    (x4 : Vec Ideal S1x1024 .f32) (c : Dev nD)
    (h0 : x0 = m (c.tc.loc main_arg0)) (h1 : x1 = m (c.tc.loc main_arg1)) (h2 : x2 = m (c.tc.loc main_arg2)) (h3 : x3 = m (c.tc.loc main_arg3))
    (h4 : x4 = m (c.tc.loc main_arg4)) :
    Cert.Reference7Ideal.Read.val_main_v33 (F := Ideal) x0 x1 x2 x3 x4 =
      whole (m (c.tc.loc main_arg0)) (m (c.tc.loc main_arg1)) (m (c.tc.loc main_arg2)) (m (c.tc.loc main_arg3)) (m (c.tc.loc main_arg4)) := by
  subst h0 h1 h2 h3 h4
  exact ref _ _ _ _ _

theorem algebraic : Cert.algebraic_Kernel7Ideal_Reference7Ideal := by
  intro m g m' g' _ hagree
  refine ⟨fun c => whole (m (c.tc.loc main_arg0)) (m (c.tc.loc main_arg1)) (m (c.tc.loc main_arg2)) (m (c.tc.loc main_arg3)) (m (c.tc.loc main_arg4)), ?_, ?_⟩
  · refine (θ_run defs _ _).mono (fun r h c => ?_) (run_blocks (F := Ideal) m g)
    exact ⟨(h c).1.trans (final m c), (h c).2⟩
  · refine (θ_run Cert.Reference7Ideal.defs _ _).mono (fun r h c => ?_) (Cert.Reference7Ideal.Value.run (F := Ideal) m' g')
    obtain ⟨a0, a1, a2, a3, a4⟩ := hagree c
    exact ⟨(h c).1.trans ((Cert.Reference7Ideal.Read.val_main_v33_eq m' c).trans (same m _ _ _ _ _ c a0 a1 a2 a3 a4)), (h c).2⟩

end Cert.Prompt
-- ==== Proof.CacheMath.lean ====
module

public import proofs.«01_k».proof.Proof.AttnMath

/-! The latents of the cache over the extended reals. -/

@[expose] public section

noncomputable section

open Idealize.ShloMosaic

namespace Cert.Caches

/-- One 256th. -/
def share : EReal := Ideal.ofBits .f32 0x3B800000#32

theorem div_len (x : EReal) : Ideal.div x (Ideal.ofBits .f32 0x43800000#32) = x * share := by
  have h1 : Ideal.ofBits .f32 0x43800000#32 = ((256 : ℝ) : EReal) := by
    simp [Ideal.ofBits, Ideal.ieee, -EReal.coe_mul]
    norm_num
  have h2 : share = ((1 / 256 : ℝ) : EReal) := by
    unfold share
    simp [Ideal.ofBits, Ideal.ieee, -EReal.coe_mul]
    norm_num
  rw [h1, h2]
  exact Ideal.div_coe (by norm_num) x

/-- A latent of the cache: divided by the root of its mean square, times the gain. -/
def latent (y g : Fin 256 → EReal) (j : Fin 256) : EReal :=
  y j * Ideal.rsqrt ((∑ e, y e * y e) * share + Ideal.ofBits .f32 0x358637BD#32) * g j

/-- The squares' sum, taken over the two halves of 128 lanes. -/
theorem halves (y g : Fin 256 → EReal) (j : Fin 256) :
    y j * Ideal.rsqrt ((∑ e : Fin 128, (y ⟨e.val, by omega⟩ * y ⟨e.val, by omega⟩ + y ⟨128 + e.val, by omega⟩ * y ⟨128 + e.val, by omega⟩)) * share
      + Ideal.ofBits .f32 0x358637BD#32) * g j = latent y g j := by
  have h : ∑ e : Fin 128, (y ⟨e.val, by omega⟩ * y ⟨e.val, by omega⟩ + y ⟨128 + e.val, by omega⟩ * y ⟨128 + e.val, by omega⟩) =
      ∑ e : Fin 256, y e * y e :=
    Finset.sum_add_distrib.trans (Fin.sum_univ_add (a := 128) (b := 128) fun e : Fin 256 => y e * y e).symm
  unfold latent
  rw [h]

/-- The row of token `p` of request `b`. -/
def row (b : Fin 32) (p : Fin 256) : Fin 8192 := ⟨b.val * 256 + p.val, by omega⟩

theorem same_latent {y y' g g' : Fin 256 → EReal} {j : Fin 256} (hy : ∀ e, y e = y' e) (hg : ∀ e, g e = g' e) : latent y g j = latent y' g' j := by
  obtain rfl := funext hy
  obtain rfl := funext hg
  rfl

theorem same_first {l : ℕ} {x y : EReal} (h : x = y) : (if l = 0 then x else 0) = if l = 0 then y else 0 := by rw [h]

end Cert.Caches
-- ==== Proof.Caches.lean ====
module

public import proofs.«01_k».proof.Defs
public import proofs.«01_k».proof.Proof.CacheMath
public import Idealize.ShloMosaic.Lib.Tactic.CleanTypes
public import Idealize.ShloMosaic.Lib.Quiescent
public import proofs.«01_k».proof.Proof.Gen.Kernel8.Frame
public import proofs.«01_k».proof.Proof.Gen.Kernel8Ideal.Value
public import proofs.«01_k».proof.Proof.Gen.Reference8Ideal.Read

/-! The caches that the prompts' attention of the first attention layer writes: its frames and their values. -/

@[expose] public section

set_option maxRecDepth 16384

noncomputable section

open Idealize.ShloMosaic Idealize.ShloMosaic.TcCoe Idealize.SL.Sem
open Cert.Kernel8Ideal Cert.Kernel8Ideal.Gen Cert.Kernel8Ideal.Value

namespace Cert.Caches

theorem out7 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S4x2x256x256 .f32) (harg8 : arg8.IsWhole) (arg9 : Memref sig .tc .vmem S4x2x256x32 .f32) (harg9 : arg9.IsWhole) (arg10 : Memref sig .tc .vmem S4x2x256x128 .f32) (harg10 : arg10.IsWhole) (arg11 : Memref sig .tc .vmem S4x2x256x128 .f32) (harg11 : arg11.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (l : Fin 2) (p : Fin 256) (j : Fin 256) :
    out0_A_7 c i arg1 harg1 arg2 harg2 arg3 harg3 arg4 harg4 arg5 harg5 arg6 harg6 arg7 harg7 arg8 harg8 arg9 harg9 arg10 harg10 arg11 harg11 x0 x1 x2 x3 x4 x5 (ix4 b l p j) = if l.val = 0 then latent (fun e : Fin 256 => x1 (ix2 (⟨b.val * 256 + p.val, by omega⟩ : Fin 1024) (⟨384 + e.val, by omega⟩ : Fin 1536))) (fun e => x4 (ix2 0 e)) j else 0 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  canon_tiles z h
  all_goals try simp (disch := decide) only [View.readAt_eq_ld, Memref.IsWhole.read_unread]
  all_goals idx_vars z
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 3 := Fin.ext (show b.val = 3 by omega)
    unfold_payloads
    pointwise []
    refine Eq.trans ?_ (halves _ _ _)
    rfl
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 2 := Fin.ext (show b.val = 2 by omega)
    unfold_payloads
    pointwise []
    refine Eq.trans ?_ (halves _ _ _)
    rfl
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 1 := Fin.ext (show b.val = 1 by omega)
    unfold_payloads
    pointwise []
    refine Eq.trans ?_ (halves _ _ _)
    rfl
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 0 := Fin.ext (show b.val = 0 by omega)
    unfold_payloads
    pointwise []
    refine Eq.trans ?_ (halves _ _ _)
    rfl

theorem out8 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S4x2x256x256 .f32) (harg8 : arg8.IsWhole) (arg9 : Memref sig .tc .vmem S4x2x256x32 .f32) (harg9 : arg9.IsWhole) (arg10 : Memref sig .tc .vmem S4x2x256x128 .f32) (harg10 : arg10.IsWhole) (arg11 : Memref sig .tc .vmem S4x2x256x128 .f32) (harg11 : arg11.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (l : Fin 2) (p : Fin 256) (j : Fin 32) :
    out0_A_8 c i arg1 harg1 arg2 harg2 arg3 harg3 arg4 harg4 arg5 harg5 arg6 harg6 arg7 harg7 arg8 harg8 arg9 harg9 arg10 harg10 arg11 harg11 x0 x1 x2 x3 x4 x5 (ix4 b l p j) = if l.val = 0 then x1 (ix2 (⟨b.val * 256 + p.val, by omega⟩ : Fin 1024) (⟨1472 + j.val, by omega⟩ : Fin 1536)) else 0 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  canon_tiles z h
  all_goals try simp (disch := decide) only [View.readAt_eq_ld, Memref.IsWhole.read_unread]
  all_goals idx_vars z
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 3 := Fin.ext (show b.val = 3 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 2 := Fin.ext (show b.val = 2 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 1 := Fin.ext (show b.val = 1 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 0 := Fin.ext (show b.val = 0 by omega)
    unfold_payloads
    pointwise []

theorem out9 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S4x2x256x256 .f32) (harg8 : arg8.IsWhole) (arg9 : Memref sig .tc .vmem S4x2x256x32 .f32) (harg9 : arg9.IsWhole) (arg10 : Memref sig .tc .vmem S4x2x256x128 .f32) (harg10 : arg10.IsWhole) (arg11 : Memref sig .tc .vmem S4x2x256x128 .f32) (harg11 : arg11.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (l : Fin 2) (p : Fin 256) (j : Fin 128) :
    out0_A_9 c i arg1 harg1 arg2 harg2 arg3 harg3 arg4 harg4 arg5 harg5 arg6 harg6 arg7 harg7 arg8 harg8 arg9 harg9 arg10 harg10 arg11 harg11 x0 x1 x2 x3 x4 x5 (ix4 b l p j) = if l.val = 0 then x1 (ix2 (⟨b.val * 256 + p.val, by omega⟩ : Fin 1024) (⟨1152 + j.val, by omega⟩ : Fin 1536)) else 0 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  canon_tiles z h
  all_goals try simp (disch := decide) only [View.readAt_eq_ld, Memref.IsWhole.read_unread]
  all_goals idx_vars z
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 3 := Fin.ext (show b.val = 3 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 2 := Fin.ext (show b.val = 2 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 1 := Fin.ext (show b.val = 1 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 0 := Fin.ext (show b.val = 0 by omega)
    unfold_payloads
    pointwise []

theorem out10 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S4x2x256x256 .f32) (harg8 : arg8.IsWhole) (arg9 : Memref sig .tc .vmem S4x2x256x32 .f32) (harg9 : arg9.IsWhole) (arg10 : Memref sig .tc .vmem S4x2x256x128 .f32) (harg10 : arg10.IsWhole) (arg11 : Memref sig .tc .vmem S4x2x256x128 .f32) (harg11 : arg11.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (l : Fin 2) (p : Fin 256) (j : Fin 128) :
    out0_A_10 c i arg1 harg1 arg2 harg2 arg3 harg3 arg4 harg4 arg5 harg5 arg6 harg6 arg7 harg7 arg8 harg8 arg9 harg9 arg10 harg10 arg11 harg11 x0 x1 x2 x3 x4 x5 (ix4 b l p j) = if l.val = 0 then x1 (ix2 (⟨b.val * 256 + p.val, by omega⟩ : Fin 1024) (⟨1280 + j.val, by omega⟩ : Fin 1536)) else 0 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  canon_tiles z h
  all_goals try simp (disch := decide) only [View.readAt_eq_ld, Memref.IsWhole.read_unread]
  all_goals idx_vars z
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 3 := Fin.ext (show b.val = 3 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 2 := Fin.ext (show b.val = 2 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 1 := Fin.ext (show b.val = 1 by omega)
    unfold_payloads
    pointwise []
  · rw [if_neg (show ¬ l.val = 0 by omega)]
    unfold_payloads
    pointwise []
  · rw [if_pos (show l.val = 0 by omega)]
    obtain rfl : p = z2 := Fin.ext h2
    obtain rfl : j = z3 := Fin.ext h3
    obtain rfl : b = 0 := Fin.ext (show b.val = 0 by omega)
    unfold_payloads
    pointwise []

section whole

variable (x0 : Vec Ideal S8192x1536 .f32) (x4 : Vec Ideal S1x256 .f32)

/-- The cached latents: the first layer's, normalised, and nothing yet of the second. -/
def whole7 : Vec Ideal S32x2x256x256 .f32 := fun i =>
  if (i 1).val = 0 then latent (fun e : Fin 256 => x0 (ix2 (row (i 0) (i 2)) (⟨384 + e.val, by omega⟩ : Fin 1536))) (fun e => x4 (ix2 0 e)) (i 3) else 0

/-- The cached decoupled keys. -/
def whole8 : Vec Ideal S32x2x256x32 .f32 := fun i =>
  if (i 1).val = 0 then x0 (ix2 (row (i 0) (i 2)) (⟨1472 + (i 3).val, by have h : (i 3).val < 32 := (i 3).isLt; omega⟩ : Fin 1536)) else 0

/-- The cached keys of the grouped heads. -/
def whole9 : Vec Ideal S32x2x256x128 .f32 := fun i =>
  if (i 1).val = 0 then x0 (ix2 (row (i 0) (i 2)) (⟨1152 + (i 3).val, by have h : (i 3).val < 128 := (i 3).isLt; omega⟩ : Fin 1536)) else 0

/-- The cached values of the grouped heads. -/
def whole10 : Vec Ideal S32x2x256x128 .f32 := fun i =>
  if (i 1).val = 0 then x0 (ix2 (row (i 0) (i 2)) (⟨1280 + (i 3).val, by have h : (i 3).val < 128 := (i 3).isLt; omega⟩ : Fin 1536)) else 0

theorem at7 (b : Fin 32) (l : Fin 2) (p : Fin 256) (j : Fin 256) :
    whole7 x0 x4 (ix4 b l p j) = if l.val = 0 then latent (fun e : Fin 256 => x0 (ix2 (row b p) (⟨384 + e.val, by omega⟩ : Fin 1536))) (fun e => x4 (ix2 0 e)) j else 0 := rfl

theorem at8 (b : Fin 32) (l : Fin 2) (p : Fin 256) (j : Fin 32) :
    whole8 x0 (ix4 b l p j) = if l.val = 0 then x0 (ix2 (row b p) (⟨1472 + j.val, by omega⟩ : Fin 1536)) else 0 := rfl

theorem at9 (b : Fin 32) (l : Fin 2) (p : Fin 256) (j : Fin 128) :
    whole9 x0 (ix4 b l p j) = if l.val = 0 then x0 (ix2 (row b p) (⟨1152 + j.val, by omega⟩ : Fin 1536)) else 0 := rfl

theorem at10 (b : Fin 32) (l : Fin 2) (p : Fin 256) (j : Fin 128) :
    whole10 x0 (ix4 b l p j) = if l.val = 0 then x0 (ix2 (row b p) (⟨1280 + j.val, by omega⟩ : Fin 1536)) else 0 := rfl

theorem ref7 : Cert.Reference8Ideal.Read.val_main_v22 (F := Ideal) x0 x4 = whole7 x0 x4 := by
  funext i
  obtain ⟨b, l, p, j, rfl⟩ : ∃ (b : Fin 32) (l : Fin 2) (p : Fin 256) (j : Fin 256), i = ix4 b l p j := ⟨i 0, i 1, i 2, i 3, eq_ix4 i⟩
  rw [at7]
  unfold Cert.Reference8Ideal.Read.val_main_v22 Cert.Reference8Ideal.Read.val_main_v21 Cert.Reference8Ideal.Read.val_main_v20
    Cert.Reference8Ideal.Read.val_main_v19 Cert.Reference8Ideal.Read.val_main_cst_2 Cert.Reference8Ideal.Read.val_main_v15
    Cert.Reference8Ideal.Read.val_main_v14 Cert.Reference8Ideal.Read.val_main_v13 Cert.Reference8Ideal.Read.val_main_v12
    Cert.Reference8Ideal.Read.val_main_v11 Cert.Reference8Ideal.Read.val_main_v10 Cert.Reference8Ideal.Read.val_main_v9
    Cert.Reference8Ideal.Read.val_main_v8 Cert.Reference8Ideal.Read.val_main_v7 Cert.Reference8Ideal.Read.val_main_cst_1
    Cert.Reference8Ideal.Read.val_main_v6 Cert.Reference8Ideal.Read.val_main_v5 Cert.Reference8Ideal.Read.val_main_cst_0
    Cert.Reference8Ideal.Read.val_main_v4 Cert.Reference8Ideal.Read.val_main_v3 Cert.Reference8Ideal.Read.val_main_cst
    Cert.Reference8Ideal.Read.val_main_v2 Cert.Reference8Ideal.Read.val_main_v1 Cert.Reference8Ideal.Read.val_main_v0
  clean_types
  pointwise [div_len]
  by_cases h : l.val = 0
  · exact (dif_pos (show l.val < 1 by omega)).trans (if_pos h).symm
  · exact (dif_neg (show ¬ l.val < 1 by omega)).trans (if_neg h).symm

theorem ref8 : Cert.Reference8Ideal.Read.val_main_v26 (F := Ideal) x0 = whole8 x0 := by
  funext i
  obtain ⟨b, l, p, j, rfl⟩ : ∃ (b : Fin 32) (l : Fin 2) (p : Fin 256) (j : Fin 32), i = ix4 b l p j := ⟨i 0, i 1, i 2, i 3, eq_ix4 i⟩
  rw [at8]
  unfold Cert.Reference8Ideal.Read.val_main_v26 Cert.Reference8Ideal.Read.val_main_v25 Cert.Reference8Ideal.Read.val_main_v24
    Cert.Reference8Ideal.Read.val_main_v23 Cert.Reference8Ideal.Read.val_main_cst_3 Cert.Reference8Ideal.Read.val_main_v16
    Cert.Reference8Ideal.Read.val_main_v0
  clean_types
  pointwise [div_len]
  by_cases h : l.val = 0
  · exact (dif_pos (show l.val < 1 by omega)).trans (if_pos h).symm
  · exact (dif_neg (show ¬ l.val < 1 by omega)).trans (if_neg h).symm

theorem ref9 : Cert.Reference8Ideal.Read.val_main_v30 (F := Ideal) x0 = whole9 x0 := by
  funext i
  obtain ⟨b, l, p, j, rfl⟩ : ∃ (b : Fin 32) (l : Fin 2) (p : Fin 256) (j : Fin 128), i = ix4 b l p j := ⟨i 0, i 1, i 2, i 3, eq_ix4 i⟩
  rw [at9]
  unfold Cert.Reference8Ideal.Read.val_main_v30 Cert.Reference8Ideal.Read.val_main_v29 Cert.Reference8Ideal.Read.val_main_v28
    Cert.Reference8Ideal.Read.val_main_v27 Cert.Reference8Ideal.Read.val_main_cst_4 Cert.Reference8Ideal.Read.val_main_v17
    Cert.Reference8Ideal.Read.val_main_v0
  clean_types
  pointwise [div_len]
  by_cases h : l.val = 0
  · exact (dif_pos (show l.val < 1 by omega)).trans (if_pos h).symm
  · exact (dif_neg (show ¬ l.val < 1 by omega)).trans (if_neg h).symm

theorem ref10 : Cert.Reference8Ideal.Read.val_main_v34 (F := Ideal) x0 = whole10 x0 := by
  funext i
  obtain ⟨b, l, p, j, rfl⟩ : ∃ (b : Fin 32) (l : Fin 2) (p : Fin 256) (j : Fin 128), i = ix4 b l p j := ⟨i 0, i 1, i 2, i 3, eq_ix4 i⟩
  rw [at10]
  unfold Cert.Reference8Ideal.Read.val_main_v34 Cert.Reference8Ideal.Read.val_main_v33 Cert.Reference8Ideal.Read.val_main_v32
    Cert.Reference8Ideal.Read.val_main_v31 Cert.Reference8Ideal.Read.val_main_cst_5 Cert.Reference8Ideal.Read.val_main_v18
    Cert.Reference8Ideal.Read.val_main_v0
  clean_types
  pointwise [div_len]
  by_cases h : l.val = 0
  · exact (dif_pos (show l.val < 1 by omega)).trans (if_pos h).symm
  · exact (dif_neg (show ¬ l.val < 1 by omega)).trans (if_neg h).symm

end whole

variable (m : (ℓ : Loc nD τ sig) → Buf (Elt Ideal) ℓ)

theorem idx1 : ∀ t : Fin cfg0.N, win0_1.index t = ![t.val, 0] := by decide +kernel
theorem idx4 : ∀ t : Fin cfg0.N, win0_4.index t = ![0, 0] := by decide +kernel
theorem idx7 : ∀ t : Fin cfg0.N, win0_7.index t = ![t.val, 0, 0, 0] := by decide +kernel
theorem idx8 : ∀ t : Fin cfg0.N, win0_8.index t = ![t.val, 0, 0, 0] := by decide +kernel
theorem idx9 : ∀ t : Fin cfg0.N, win0_9.index t = ![t.val, 0, 0, 0] := by decide +kernel
theorem idx10 : ∀ t : Fin cfg0.N, win0_10.index t = ![t.val, 0, 0, 0] := by decide +kernel

theorem blk1 (c : Dev nD) (t : Fin cfg0.N) (r : Fin 1024) (j : Fin 1536) (R : Fin 8192) (h : R.val = t.val * 1024 + r.val) :
    (iblk m c 1 t : Vec Ideal S1024x1536 .f32) (ix2 r j) = m (c.tc.loc main_arg0) (ix2 R j) := by
  blk_ext [iblk, V, idx1 t]

theorem blk4 (c : Dev nD) (t : Fin cfg0.N) (j : Fin 256) :
    (iblk m c 4 t : Vec Ideal S1x256 .f32) (ix2 0 j) = m (c.tc.loc main_arg4) (ix2 0 j) := by
  blk_ext [iblk, V, idx4 t]

theorem final7 (c : Dev nD) : (dats (F := Ideal) m 0 c).arrAt 7 cfg0.N = whole7 (m (c.tc.loc main_arg0)) (m (c.tc.loc main_arg4)) := by
  refine (dats (F := Ideal) m 0 c).arrAt_eq_of_covers 7 _ (by decide +kernel) fun t hf y => ?_
  blk_simp
  rw [after0_7]
  have ht : t.val < 8 := t.isLt
  obtain ⟨b, l, p, j, rfl⟩ : ∃ (b : Fin 4) (l : Fin 2) (p : Fin 256) (j : Fin 256), y = ix4 b l p j := ⟨y 0, y 1, y 2, y 3, eq_ix4 y⟩
  have he : (win0_7.blk t).view.emb (ix4 b l p j) = ix4 (⟨t.val * 4 + b.val, by omega⟩ : Fin 32) l p j := by
    blk_ext [idx7 t]
  rw [he]
  unfold outsAt0
  dsimp only
  refine (out7 _ _ _ _ _ _ _ _ _ _ _ _ _ _ _ _ _ _ _ _ _ _ _ _ _ _ _ _ _ _ b l p j).trans ?_
  rw [at7]
  refine same_first ?_
  exact same_latent (fun e => blk1 m c t (⟨b.val * 256 + p.val, by omega⟩ : Fin 1024) _ (row ⟨t.val * 4 + b.val, by omega⟩ p) (show (t.val * 4 + b.val) * 256 + p.val = t.val * 1024 + (b.val * 256 + p.val) by omega)) fun e => blk4 m c t e

theorem final8 (c : Dev nD) : (dats (F := Ideal) m 0 c).arrAt 8 cfg0.N = whole8 (m (c.tc.loc main_arg0)) := by
  refine (dats (F := Ideal) m 0 c).arrAt_eq_of_covers 8 _ (by decide +kernel) fun t hf y => ?_
  blk_simp
  rw [after0_8]
  have ht : t.val < 8 := t.isLt
  obtain ⟨b, l, p, j, rfl⟩ : ∃ (b : Fin 4) (l : Fin 2) (p : Fin 256) (j : Fin 32), y = ix4 b l p j := ⟨y 0, y 1, y 2, y 3, eq_ix4 y⟩
  have he : (win0_8.blk t).view.emb (ix4 b l p j) = ix4 (⟨t.val * 4 + b.val, by omega⟩ : Fin 32) l p j := by
    blk_ext [idx8 t]
  rw [he]
  unfold outsAt0
  dsimp only
  refine (out8 _ _ _ _ _ _ _ _ _ _ _ _ _ _ _ _ _ _ _ _ _ _ _ _ _ _ _ _ _ _ b l p j).trans ?_
  rw [at8]
  refine same_first ?_
  exact blk1 m c t (⟨b.val * 256 + p.val, by omega⟩ : Fin 1024) _ (row ⟨t.val * 4 + b.val, by omega⟩ p) (show (t.val * 4 + b.val) * 256 + p.val = t.val * 1024 + (b.val * 256 + p.val) by omega)

theorem final9 (c : Dev nD) : (dats (F := Ideal) m 0 c).arrAt 9 cfg0.N = whole9 (m (c.tc.loc main_arg0)) := by
  refine (dats (F := Ideal) m 0 c).arrAt_eq_of_covers 9 _ (by decide +kernel) fun t hf y => ?_
  blk_simp
  rw [after0_9]
  have ht : t.val < 8 := t.isLt
  obtain ⟨b, l, p, j, rfl⟩ : ∃ (b : Fin 4) (l : Fin 2) (p : Fin 256) (j : Fin 128), y = ix4 b l p j := ⟨y 0, y 1, y 2, y 3, eq_ix4 y⟩
  have he : (win0_9.blk t).view.emb (ix4 b l p j) = ix4 (⟨t.val * 4 + b.val, by omega⟩ : Fin 32) l p j := by
    blk_ext [idx9 t]
  rw [he]
  unfold outsAt0
  dsimp only
  refine (out9 _ _ _ _ _ _ _ _ _ _ _ _ _ _ _ _ _ _ _ _ _ _ _ _ _ _ _ _ _ _ b l p j).trans ?_
  rw [at9]
  refine same_first ?_
  exact blk1 m c t (⟨b.val * 256 + p.val, by omega⟩ : Fin 1024) _ (row ⟨t.val * 4 + b.val, by omega⟩ p) (show (t.val * 4 + b.val) * 256 + p.val = t.val * 1024 + (b.val * 256 + p.val) by omega)

theorem final10 (c : Dev nD) : (dats (F := Ideal) m 0 c).arrAt 10 cfg0.N = whole10 (m (c.tc.loc main_arg0)) := by
  refine (dats (F := Ideal) m 0 c).arrAt_eq_of_covers 10 _ (by decide +kernel) fun t hf y => ?_
  blk_simp
  rw [after0_10]
  have ht : t.val < 8 := t.isLt
  obtain ⟨b, l, p, j, rfl⟩ : ∃ (b : Fin 4) (l : Fin 2) (p : Fin 256) (j : Fin 128), y = ix4 b l p j := ⟨y 0, y 1, y 2, y 3, eq_ix4 y⟩
  have he : (win0_10.blk t).view.emb (ix4 b l p j) = ix4 (⟨t.val * 4 + b.val, by omega⟩ : Fin 32) l p j := by
    blk_ext [idx10 t]
  rw [he]
  unfold outsAt0
  dsimp only
  refine (out10 _ _ _ _ _ _ _ _ _ _ _ _ _ _ _ _ _ _ _ _ _ _ _ _ _ _ _ _ _ _ b l p j).trans ?_
  rw [at10]
  refine same_first ?_
  exact blk1 m c t (⟨b.val * 256 + p.val, by omega⟩ : Fin 1024) _ (row ⟨t.val * 4 + b.val, by omega⟩ p) (show (t.val * 4 + b.val) * 256 + p.val = t.val * 1024 + (b.val * 256 + p.val) by omega)

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_ref : Cert.quiescent_Reference8Ideal := fun m ρ _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)

theorem kept : Cert.preserves_Kernel8_Kernel8Ideal := trivial

theorem same (x0 : Vec Ideal S8192x1536 .f32) (x4 : Vec Ideal S1x256 .f32) (c : Dev nD)
    (h0 : x0 = m (c.tc.loc main_arg0)) (h4 : x4 = m (c.tc.loc main_arg4)) :
    Cert.Reference8Ideal.Read.val_main_v22 (F := Ideal) x0 x4 = whole7 (m (c.tc.loc main_arg0)) (m (c.tc.loc main_arg4))
    ∧ Cert.Reference8Ideal.Read.val_main_v26 (F := Ideal) x0 = whole8 (m (c.tc.loc main_arg0))
    ∧ Cert.Reference8Ideal.Read.val_main_v30 (F := Ideal) x0 = whole9 (m (c.tc.loc main_arg0))
    ∧ Cert.Reference8Ideal.Read.val_main_v34 (F := Ideal) x0 = whole10 (m (c.tc.loc main_arg0)) := by
  subst h0 h4
  exact ⟨ref7 _ _, ref8 _, ref9 _, ref10 _⟩

theorem algebraic : Cert.algebraic_Kernel8Ideal_Reference8Ideal := by
  intro m g m' g' _ hagree
  refine ⟨fun c => whole7 (m (c.tc.loc main_arg0)) (m (c.tc.loc main_arg4)),
    fun c => whole8 (m (c.tc.loc main_arg0)), fun c => whole9 (m (c.tc.loc main_arg0)), fun c => whole10 (m (c.tc.loc main_arg0)), ?_, ?_⟩
  · refine (θ_run defs _ _).mono (fun r h c => ?_) (run_blocks (F := Ideal) m g)
    obtain ⟨_, h7, h8, h9, h10, hk⟩ := h c
    exact ⟨h7.trans (final7 m c), h8.trans (final8 m c), h9.trans (final9 m c), h10.trans (final10 m c), hk⟩
  · refine (θ_run Cert.Reference8Ideal.defs _ _).mono (fun r h c => ?_) (Cert.Reference8Ideal.Value.run (F := Ideal) m' g')
    obtain ⟨a0, _, _, _, a4, _⟩ := hagree c
    obtain ⟨s0, s1, s2, s3⟩ := same m _ _ c a0 a4
    exact ⟨(h c).1.trans s0, (h c).2.1.trans s1, (h c).2.2.1.trans s2, (h c).2.2.2.1.trans s3, (h c).2.2.2.2⟩

end Cert.Caches
-- ==== Proof.CachesNext.lean ====
module

public import proofs.«01_k».proof.Defs
public import proofs.«01_k».proof.Proof.CacheMath
public import Idealize.ShloMosaic.Lib.Tactic.CleanTypes
public import Idealize.ShloMosaic.Lib.Quiescent
public import proofs.«01_k».proof.Proof.Gen.Kernel9.Frame
public import proofs.«01_k».proof.Proof.Gen.Kernel9Ideal.Value
public import proofs.«01_k».proof.Proof.Gen.Reference9Ideal.Read

/-! The caches that the prompts' attention of the second attention layer writes, beside what the first one left in them. -/

@[expose] public section

set_option maxRecDepth 16384

noncomputable section

open Idealize.ShloMosaic Idealize.ShloMosaic.TcCoe Idealize.SL.Sem
open Cert.Kernel9Ideal Cert.Kernel9Ideal.Gen Cert.Kernel9Ideal.Value

namespace Cert.Caches.Second

theorem out7 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg11 : Memref sig .tc .vmem S1024x1024 .bf16) (harg11 : arg11.IsWhole) (arg12 : Memref sig .tc .vmem S4x1x256x256 .f32) (harg12 : arg12.IsWhole) (arg13 : Memref sig .tc .vmem S4x1x256x32 .f32) (harg13 : arg13.IsWhole) (arg14 : Memref sig .tc .vmem S4x1x256x128 .f32) (harg14 : arg14.IsWhole) (arg15 : Memref sig .tc .vmem S4x1x256x128 .f32) (harg15 : arg15.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (p : Fin 256) (j : Fin 256) :
    out0_A_7 c i arg1 harg1 arg2 harg2 arg3 harg3 arg4 harg4 arg5 harg5 arg6 harg6 arg11 harg11 arg12 harg12 arg13 harg13 arg14 harg14 arg15 harg15 x0 x1 x2 x3 x4 x5 (ix4 b 0 p j) = latent (fun e : Fin 256 => x1 (ix2 (⟨b.val * 256 + p.val, by omega⟩ : Fin 1024) (⟨384 + e.val, by omega⟩ : Fin 1536))) (fun e => x4 (ix2 0 e)) j := by
  unfold out0_A_7
  rw [View.read_writes_eq_canon _ _ _ (cover0_A_7 c i arg1 harg1 arg2 harg2 arg3 harg3 arg4 harg4 arg5 harg5 arg6 harg6 arg11 harg11 arg12 harg12 arg13 harg13 arg14 harg14 arg15 harg15 x0 x1 x2 x3 x4 x5)]
  unfold kernelRun0_A
  dsimp only
  sl_unfold_words
  canon_tiles z h
  all_goals try simp (disch := decide) only [View.readAt_eq_ld, Memref.IsWhole.read_unread]
  all_goals idx_vars z
  · obtain rfl : p = z2 := Fin.ext h2
    obtain rfl : j = z3 := Fin.ext h3
    obtain rfl : b = 3 := Fin.ext (show b.val = 3 by omega)
    unfold_payloads
    pointwise []
    refine Eq.trans ?_ (halves _ _ _)
    rfl
  · obtain rfl : p = z2 := Fin.ext h2
    obtain rfl : j = z3 := Fin.ext h3
    obtain rfl : b = 2 := Fin.ext (show b.val = 2 by omega)
    unfold_payloads
    pointwise []
    refine Eq.trans ?_ (halves _ _ _)
    rfl
  · obtain rfl : p = z2 := Fin.ext h2
    obtain rfl : j = z3 := Fin.ext h3
    obtain rfl : b = 1 := Fin.ext (show b.val = 1 by omega)
    unfold_payloads
    pointwise []
    refine Eq.trans ?_ (halves _ _ _)
    rfl
  · obtain rfl : p = z2 := Fin.ext h2
    obtain rfl : j = z3 := Fin.ext h3
    obtain rfl : b = 0 := Fin.ext (show b.val = 0 by omega)
    unfold_payloads
    pointwise []
    refine Eq.trans ?_ (halves _ _ _)
    rfl

theorem out8 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg11 : Memref sig .tc .vmem S1024x1024 .bf16) (harg11 : arg11.IsWhole) (arg12 : Memref sig .tc .vmem S4x1x256x256 .f32) (harg12 : arg12.IsWhole) (arg13 : Memref sig .tc .vmem S4x1x256x32 .f32) (harg13 : arg13.IsWhole) (arg14 : Memref sig .tc .vmem S4x1x256x128 .f32) (harg14 : arg14.IsWhole) (arg15 : Memref sig .tc .vmem S4x1x256x128 .f32) (harg15 : arg15.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (p : Fin 256) (j : Fin 32) :
    out0_A_8 c i arg1 harg1 arg2 harg2 arg3 harg3 arg4 harg4 arg5 harg5 arg6 harg6 arg11 harg11 arg12 harg12 arg13 harg13 arg14 harg14 arg15 harg15 x0 x1 x2 x3 x4 x5 (ix4 b 0 p j) = x1 (ix2 (⟨b.val * 256 + p.val, by omega⟩ : Fin 1024) (⟨1472 + j.val, by omega⟩ : Fin 1536)) := by
  unfold out0_A_8
  rw [View.read_writes_eq_canon _ _ _ (cover0_A_8 c i arg1 harg1 arg2 harg2 arg3 harg3 arg4 harg4 arg5 harg5 arg6 harg6 arg11 harg11 arg12 harg12 arg13 harg13 arg14 harg14 arg15 harg15 x0 x1 x2 x3 x4 x5)]
  unfold kernelRun0_A
  dsimp only
  sl_unfold_words
  canon_tiles z h
  all_goals try simp (disch := decide) only [View.readAt_eq_ld, Memref.IsWhole.read_unread]
  all_goals idx_vars z
  · obtain rfl : p = z2 := Fin.ext h2
    obtain rfl : j = z3 := Fin.ext h3
    obtain rfl : b = 3 := Fin.ext (show b.val = 3 by omega)
    unfold_payloads
    pointwise []
  · obtain rfl : p = z2 := Fin.ext h2
    obtain rfl : j = z3 := Fin.ext h3
    obtain rfl : b = 2 := Fin.ext (show b.val = 2 by omega)
    unfold_payloads
    pointwise []
  · obtain rfl : p = z2 := Fin.ext h2
    obtain rfl : j = z3 := Fin.ext h3
    obtain rfl : b = 1 := Fin.ext (show b.val = 1 by omega)
    unfold_payloads
    pointwise []
  · obtain rfl : p = z2 := Fin.ext h2
    obtain rfl : j = z3 := Fin.ext h3
    obtain rfl : b = 0 := Fin.ext (show b.val = 0 by omega)
    unfold_payloads
    pointwise []

theorem out9 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg11 : Memref sig .tc .vmem S1024x1024 .bf16) (harg11 : arg11.IsWhole) (arg12 : Memref sig .tc .vmem S4x1x256x256 .f32) (harg12 : arg12.IsWhole) (arg13 : Memref sig .tc .vmem S4x1x256x32 .f32) (harg13 : arg13.IsWhole) (arg14 : Memref sig .tc .vmem S4x1x256x128 .f32) (harg14 : arg14.IsWhole) (arg15 : Memref sig .tc .vmem S4x1x256x128 .f32) (harg15 : arg15.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (p : Fin 256) (j : Fin 128) :
    out0_A_9 c i arg1 harg1 arg2 harg2 arg3 harg3 arg4 harg4 arg5 harg5 arg6 harg6 arg11 harg11 arg12 harg12 arg13 harg13 arg14 harg14 arg15 harg15 x0 x1 x2 x3 x4 x5 (ix4 b 0 p j) = x1 (ix2 (⟨b.val * 256 + p.val, by omega⟩ : Fin 1024) (⟨1152 + j.val, by omega⟩ : Fin 1536)) := by
  unfold out0_A_9
  rw [View.read_writes_eq_canon _ _ _ (cover0_A_9 c i arg1 harg1 arg2 harg2 arg3 harg3 arg4 harg4 arg5 harg5 arg6 harg6 arg11 harg11 arg12 harg12 arg13 harg13 arg14 harg14 arg15 harg15 x0 x1 x2 x3 x4 x5)]
  unfold kernelRun0_A
  dsimp only
  sl_unfold_words
  canon_tiles z h
  all_goals try simp (disch := decide) only [View.readAt_eq_ld, Memref.IsWhole.read_unread]
  all_goals idx_vars z
  · obtain rfl : p = z2 := Fin.ext h2
    obtain rfl : j = z3 := Fin.ext h3
    obtain rfl : b = 3 := Fin.ext (show b.val = 3 by omega)
    unfold_payloads
    pointwise []
  · obtain rfl : p = z2 := Fin.ext h2
    obtain rfl : j = z3 := Fin.ext h3
    obtain rfl : b = 2 := Fin.ext (show b.val = 2 by omega)
    unfold_payloads
    pointwise []
  · obtain rfl : p = z2 := Fin.ext h2
    obtain rfl : j = z3 := Fin.ext h3
    obtain rfl : b = 1 := Fin.ext (show b.val = 1 by omega)
    unfold_payloads
    pointwise []
  · obtain rfl : p = z2 := Fin.ext h2
    obtain rfl : j = z3 := Fin.ext h3
    obtain rfl : b = 0 := Fin.ext (show b.val = 0 by omega)
    unfold_payloads
    pointwise []

theorem out10 (c : Dev nD) (i : grid0.Coords) (arg1 : Memref sig .tc .smem S8 .f32) (harg1 : arg1.IsWhole) (arg2 : Memref sig .tc .vmem S1024x1536 .f32) (harg2 : arg2.IsWhole) (arg3 : Memref sig .tc .vmem S1x384 .f32) (harg3 : arg3.IsWhole) (arg4 : Memref sig .tc .vmem S384x768 .bf16) (harg4 : arg4.IsWhole) (arg5 : Memref sig .tc .vmem S1x256 .f32) (harg5 : arg5.IsWhole) (arg6 : Memref sig .tc .vmem S256x1024 .bf16) (harg6 : arg6.IsWhole) (arg11 : Memref sig .tc .vmem S1024x1024 .bf16) (harg11 : arg11.IsWhole) (arg12 : Memref sig .tc .vmem S4x1x256x256 .f32) (harg12 : arg12.IsWhole) (arg13 : Memref sig .tc .vmem S4x1x256x32 .f32) (harg13 : arg13.IsWhole) (arg14 : Memref sig .tc .vmem S4x1x256x128 .f32) (harg14 : arg14.IsWhole) (arg15 : Memref sig .tc .vmem S4x1x256x128 .f32) (harg15 : arg15.IsWhole)
    (x0 : Vec Ideal S8 .f32) (x1 : Vec Ideal S1024x1536 .f32) (x2 : Vec Ideal S1x384 .f32) (x3 : Vec Ideal S384x768 .bf16) (x4 : Vec Ideal S1x256 .f32) (x5 : Vec Ideal S256x1024 .bf16) (b : Fin 4) (p : Fin 256) (j : Fin 128) :
    out0_A_10 c i arg1 harg1 arg2 harg2 arg3 harg3 arg4 harg4 arg5 harg5 arg6 harg6 arg11 harg11 arg12 harg12 arg13 harg13 arg14 harg14 arg15 harg15 x0 x1 x2 x3 x4 x5 (ix4 b 0 p j) = x1 (ix2 (⟨b.val * 256 + p.val, by omega⟩ : Fin 1024) (⟨1280 + j.val, by omega⟩ : Fin 1536)) := by
  unfold out0_A_10
  rw [View.read_writes_eq_canon _ _ _ (cover0_A_10 c i arg1 harg1 arg2 harg2 arg3 harg3 arg4 harg4 arg5 harg5 arg6 harg6 arg11 harg11 arg12 harg12 arg13 harg13 arg14 harg14 arg15 harg15 x0 x1 x2 x3 x4 x5)]
  unfold kernelRun0_A
  dsimp only
  sl_unfold_words
  canon_tiles z h
  all_goals try simp (disch := decide) only [View.readAt_eq_ld, Memref.IsWhole.read_unread]
  all_goals idx_vars z
  · obtain rfl : p = z2 := Fin.ext h2
    obtain rfl : j = z3 := Fin.ext h3
    obtain rfl : b = 3 := Fin.ext (show b.val = 3 by omega)
    unfold_payloads
    pointwise []
  · obtain rfl : p = z2 := Fin.ext h2
    obtain rfl : j = z3 := Fin.ext h3
    obtain rfl : b = 2 := Fin.ext (show b.val = 2 by omega)
    unfold_payloads
    pointwise []
  · obtain rfl : p = z2 := Fin.ext h2
    obtain rfl : j = z3 := Fin.ext h3
    obtain rfl : b = 1 := Fin.ext (show b.val = 1 by omega)
    unfold_payloads
    pointwise []
  · obtain rfl : p = z2 := Fin.ext h2
    obtain rfl : j = z3 := Fin.ext h3
    obtain rfl : b = 0 := Fin.ext (show b.val = 0 by omega)
    unfold_payloads
    pointwise []

section whole

variable (x0 : Vec Ideal S8192x1536 .f32) (x4 : Vec Ideal S1x256 .f32) (x6 : Vec Ideal S32x2x256x256 .f32) (x7 : Vec Ideal S32x2x256x32 .f32)
  (x8 x9 : Vec Ideal S32x2x256x128 .f32)

/-- The cached latents: the first layer's as they were, and the second's, normalised. -/
def whole7 : Vec Ideal S32x2x256x256 .f32 := fun i =>
  if (i 1).val = 0 then x6 (ix4 (i 0) 0 (i 2) (i 3)) else latent (fun e : Fin 256 => x0 (ix2 (row (i 0) (i 2)) (⟨384 + e.val, by omega⟩ : Fin 1536))) (fun e => x4 (ix2 0 e)) (i 3)

/-- The cached decoupled keys. -/
def whole8 : Vec Ideal S32x2x256x32 .f32 := fun i =>
  if (i 1).val = 0 then x7 (ix4 (i 0) 0 (i 2) (i 3)) else x0 (ix2 (row (i 0) (i 2)) (⟨1472 + (i 3).val, by have h : (i 3).val < 32 := (i 3).isLt; omega⟩ : Fin 1536))

/-- The cached keys of the grouped heads. -/
def whole9 : Vec Ideal S32x2x256x128 .f32 := fun i =>
  if (i 1).val = 0 then x8 (ix4 (i 0) 0 (i 2) (i 3)) else x0 (ix2 (row (i 0) (i 2)) (⟨1152 + (i 3).val, by have h : (i 3).val < 128 := (i 3).isLt; omega⟩ : Fin 1536))

/-- The cached values of the grouped heads. -/
def whole10 : Vec Ideal S32x2x256x128 .f32 := fun i =>
  if (i 1).val = 0 then x9 (ix4 (i 0) 0 (i 2) (i 3)) else x0 (ix2 (row (i 0) (i 2)) (⟨1280 + (i 3).val, by have h : (i 3).val < 128 := (i 3).isLt; omega⟩ : Fin 1536))

theorem at7 (b : Fin 32) (l : Fin 2) (p : Fin 256) (j : Fin 256) :
    whole7 x0 x4 x6 (ix4 b l p j) = if l.val = 0 then x6 (ix4 b 0 p j) else latent (fun e : Fin 256 => x0 (ix2 (row b p) (⟨384 + e.val, by omega⟩ : Fin 1536))) (fun e => x4 (ix2 0 e)) j := rfl

theorem ref7 : Cert.Reference9Ideal.Read.val_main_v23 (F := Ideal) x0 x4 x6 = whole7 x0 x4 x6 := by
  funext i
  obtain ⟨b, l, p, j, rfl⟩ : ∃ (b : Fin 32) (l : Fin 2) (p : Fin 256) (j : Fin 256), i = ix4 b l p j := ⟨i 0, i 1, i 2, i 3, eq_ix4 i⟩
  rw [at7]
  unfold Cert.Reference9Ideal.Read.val_main_v23 Cert.Reference9Ideal.Read.val_main_v22 Cert.Reference9Ideal.Read.val_main_v21
    Cert.Reference9Ideal.Read.val_main_v20 Cert.Reference9Ideal.Read.val_main_v19 Cert.Reference9Ideal.Read.val_main_v15
    Cert.Reference9Ideal.Read.val_main_v14 Cert.Reference9Ideal.Read.val_main_v13 Cert.Reference9Ideal.Read.val_main_v12
    Cert.Reference9Ideal.Read.val_main_v11 Cert.Reference9Ideal.Read.val_main_v10 Cert.Reference9Ideal.Read.val_main_v9
    Cert.Reference9Ideal.Read.val_main_v8 Cert.Reference9Ideal.Read.val_main_v7 Cert.Reference9Ideal.Read.val_main_cst_1
    Cert.Reference9Ideal.Read.val_main_v6 Cert.Reference9Ideal.Read.val_main_v5 Cert.Reference9Ideal.Read.val_main_cst_0
    Cert.Reference9Ideal.Read.val_main_v4 Cert.Reference9Ideal.Read.val_main_v3 Cert.Reference9Ideal.Read.val_main_cst
    Cert.Reference9Ideal.Read.val_main_v2 Cert.Reference9Ideal.Read.val_main_v1 Cert.Reference9Ideal.Read.val_main_v0
  clean_types
  pointwise [div_len]
  by_cases h : l.val = 0
  · exact (dif_pos (show l.val < 1 by omega)).trans (if_pos h).symm
  · exact (dif_neg (show ¬ l.val < 1 by omega)).trans (if_neg h).symm

theorem at8 (b : Fin 32) (l : Fin 2) (p : Fin 256) (j : Fin 32) :
    whole8 x0 x7 (ix4 b l p j) = if l.val = 0 then x7 (ix4 b 0 p j) else x0 (ix2 (row b p) (⟨1472 + j.val, by omega⟩ : Fin 1536)) := rfl

theorem ref8 : Cert.Reference9Ideal.Read.val_main_v28 (F := Ideal) x0 x7 = whole8 x0 x7 := by
  funext i
  obtain ⟨b, l, p, j, rfl⟩ : ∃ (b : Fin 32) (l : Fin 2) (p : Fin 256) (j : Fin 32), i = ix4 b l p j := ⟨i 0, i 1, i 2, i 3, eq_ix4 i⟩
  rw [at8]
  unfold Cert.Reference9Ideal.Read.val_main_v28 Cert.Reference9Ideal.Read.val_main_v27 Cert.Reference9Ideal.Read.val_main_v26
    Cert.Reference9Ideal.Read.val_main_v25 Cert.Reference9Ideal.Read.val_main_v24 Cert.Reference9Ideal.Read.val_main_v16
    Cert.Reference9Ideal.Read.val_main_v0
  clean_types
  pointwise [div_len]
  by_cases h : l.val = 0
  · exact (dif_pos (show l.val < 1 by omega)).trans (if_pos h).symm
  · exact (dif_neg (show ¬ l.val < 1 by omega)).trans (if_neg h).symm

theorem at9 (b : Fin 32) (l : Fin 2) (p : Fin 256) (j : Fin 128) :
    whole9 x0 x8 (ix4 b l p j) = if l.val = 0 then x8 (ix4 b 0 p j) else x0 (ix2 (row b p) (⟨1152 + j.val, by omega⟩ : Fin 1536)) := rfl

theorem ref9 : Cert.Reference9Ideal.Read.val_main_v33 (F := Ideal) x0 x8 = whole9 x0 x8 := by
  funext i
  obtain ⟨b, l, p, j, rfl⟩ : ∃ (b : Fin 32) (l : Fin 2) (p : Fin 256) (j : Fin 128), i = ix4 b l p j := ⟨i 0, i 1, i 2, i 3, eq_ix4 i⟩
  rw [at9]
  unfold Cert.Reference9Ideal.Read.val_main_v33 Cert.Reference9Ideal.Read.val_main_v32 Cert.Reference9Ideal.Read.val_main_v31
    Cert.Reference9Ideal.Read.val_main_v30 Cert.Reference9Ideal.Read.val_main_v29 Cert.Reference9Ideal.Read.val_main_v17
    Cert.Reference9Ideal.Read.val_main_v0
  clean_types
  pointwise [div_len]
  by_cases h : l.val = 0
  · exact (dif_pos (show l.val < 1 by omega)).trans (if_pos h).symm
  · exact (dif_neg (show ¬ l.val < 1 by omega)).trans (if_neg h).symm

theorem at10 (b : Fin 32) (l : Fin 2) (p : Fin 256) (j : Fin 128) :
    whole10 x0 x9 (ix4 b l p j) = if l.val = 0 then x9 (ix4 b 0 p j) else x0 (ix2 (row b p) (⟨1280 + j.val, by omega⟩ : Fin 1536)) := rfl

theorem ref10 : Cert.Reference9Ideal.Read.val_main_v38 (F := Ideal) x0 x9 = whole10 x0 x9 := by
  funext i
  obtain ⟨b, l, p, j, rfl⟩ : ∃ (b : Fin 32) (l : Fin 2) (p : Fin 256) (j : Fin 128), i = ix4 b l p j := ⟨i 0, i 1, i 2, i 3, eq_ix4 i⟩
  rw [at10]
  unfold Cert.Reference9Ideal.Read.val_main_v38 Cert.Reference9Ideal.Read.val_main_v37 Cert.Reference9Ideal.Read.val_main_v36
    Cert.Reference9Ideal.Read.val_main_v35 Cert.Reference9Ideal.Read.val_main_v34 Cert.Reference9Ideal.Read.val_main_v18
    Cert.Reference9Ideal.Read.val_main_v0
  clean_types
  pointwise [div_len]
  by_cases h : l.val = 0
  · exact (dif_pos (show l.val < 1 by omega)).trans (if_pos h).symm
  · exact (dif_neg (show ¬ l.val < 1 by omega)).trans (if_neg h).symm

end whole

variable (m : (ℓ : Loc nD τ sig) → Buf (Elt Ideal) ℓ)

theorem idx1 : ∀ t : Fin cfg0.N, win0_1.index t = ![t.val, 0] := by decide +kernel
theorem idx4 : ∀ t : Fin cfg0.N, win0_4.index t = ![0, 0] := by decide +kernel
theorem idx7 : ∀ t : Fin cfg0.N, win0_7.index t = ![t.val, 1, 0, 0] := by decide +kernel
theorem idx8 : ∀ t : Fin cfg0.N, win0_8.index t = ![t.val, 1, 0, 0] := by decide +kernel
theorem idx9 : ∀ t : Fin cfg0.N, win0_9.index t = ![t.val, 1, 0, 0] := by decide +kernel
theorem idx10 : ∀ t : Fin cfg0.N, win0_10.index t = ![t.val, 1, 0, 0] := by decide +kernel
theorem flush7 : ∀ t : Fin cfg0.N, (cfg0.win 7).flush t = true := by decide +kernel
theorem flush8 : ∀ t : Fin cfg0.N, (cfg0.win 8).flush t = true := by decide +kernel
theorem flush9 : ∀ t : Fin cfg0.N, (cfg0.win 9).flush t = true := by decide +kernel
theorem flush10 : ∀ t : Fin cfg0.N, (cfg0.win 10).flush t = true := by decide +kernel

theorem blk1 (c : Dev nD) (t : Fin cfg0.N) (r : Fin 1024) (j : Fin 1536) (R : Fin 8192) (h : R.val = t.val * 1024 + r.val) :
    (iblk m c 1 t : Vec Ideal S1024x1536 .f32) (ix2 r j) = m (c.tc.loc main_arg0) (ix2 R j) := by
  blk_ext [iblk, V_main_arg0, idx1 t]

theorem blk4 (c : Dev nD) (t : Fin cfg0.N) (j : Fin 256) :
    (iblk m c 4 t : Vec Ideal S1x256 .f32) (ix2 0 j) = m (c.tc.loc main_arg4) (ix2 0 j) := by
  blk_ext [iblk, V_main_arg4, idx4 t]

theorem entered7 (c : Dev nD) : V m c main_v0_1 = m (c.tc.loc main_arg6) := by
  simp only [V, hostOps0, List.flatten_cons, List.flatten_nil, List.append_nil, List.cons_append, List.nil_append]
  after_results_simp
  rfl

theorem entered8 (c : Dev nD) : V m c main_v0_2 = m (c.tc.loc main_arg7) := by
  simp only [V, hostOps0, List.flatten_cons, List.flatten_nil, List.append_nil, List.cons_append, List.nil_append]
  after_results_simp
  rfl

theorem entered9 (c : Dev nD) : V m c main_v0_3 = m (c.tc.loc main_arg8) := by
  simp only [V, hostOps0, List.flatten_cons, List.flatten_nil, List.append_nil, List.cons_append, List.nil_append]
  after_results_simp
  rfl

theorem entered10 (c : Dev nD) : V m c main_v0_4 = m (c.tc.loc main_arg9) := by
  simp only [V, hostOps0, List.flatten_cons, List.flatten_nil, List.append_nil, List.cons_append, List.nil_append]
  after_results_simp
  rfl

theorem place7 (t : Fin cfg0.N) (b : Fin 4) (l : Fin 1) (p : Fin 256) (j : Fin 256) (h : t.val * 4 + b.val < 32) :
    (win0_7.blk t).view.emb (ix4 b l p j) = ix4 (⟨t.val * 4 + b.val, h⟩ : Fin 32) (1 : Fin 2) p j := by
  blk_ext [idx7 t]

theorem written7 (c : Dev nD) (t : Fin cfg0.N) (ht : t.val < 8) (b : Fin 4) (p : Fin 256) (j : Fin 256) :
    (dats (F := Ideal) m 0 c).arrAt 7 cfg0.N (ix4 (⟨t.val * 4 + b.val, by omega⟩ : Fin 32) (1 : Fin 2) p j) = latent (fun e : Fin 256 => m (c.tc.loc main_arg0) (ix2 (row ⟨t.val * 4 + b.val, by omega⟩ p) (⟨384 + e.val, by omega⟩ : Fin 1536))) (fun e => m (c.tc.loc main_arg4) (ix2 0 e)) j := by
  have e := congrFun (blocks7 m c t (flush7 t)) (ix4 b (0 : Fin 1) p j)
  rw [flushed7] at e
  unfold outsAt0 at e
  dsimp only at e
  refine Eq.trans (congrArg _ (place7 t b 0 p j (by omega)).symm) (e.trans ((out7 _ _ _ _ _ _ _ _ _ _ _ _ _ _ _ _ _ _ _ _ _ _ _ _ _ _ _ _ _ _ b p j).trans ?_))
  exact same_latent (fun e => blk1 m c t (⟨b.val * 256 + p.val, by omega⟩ : Fin 1024) _ (row ⟨t.val * 4 + b.val, by omega⟩ p) (show (t.val * 4 + b.val) * 256 + p.val = t.val * 1024 + (b.val * 256 + p.val) by omega)) fun e => blk4 m c t e

theorem final7 (c : Dev nD) : (dats (F := Ideal) m 0 c).arrAt 7 cfg0.N = whole7 (m (c.tc.loc main_arg0)) (m (c.tc.loc main_arg4)) (m (c.tc.loc main_arg6)) := by
  funext i
  obtain ⟨b, l, p, j, rfl⟩ : ∃ (b : Fin 32) (l : Fin 2) (p : Fin 256) (j : Fin 256), i = ix4 b l p j := ⟨i 0, i 1, i 2, i 3, eq_ix4 i⟩
  rw [at7]
  by_cases h : l.val = 0
  · obtain rfl : l = 0 := Fin.ext h
    rw [if_pos h]
    refine (entry7 m c _ fun t _ hm => ?_).trans (congrFun (entered7 m c) _)
    obtain ⟨y, _, hy⟩ := Finset.mem_map.mp hm
    obtain ⟨b', l', p', j', rfl⟩ : ∃ (b : Fin 4) (l : Fin 1) (p : Fin 256) (j : Fin 256), y = ix4 b l p j := ⟨y 0, y 1, y 2, y 3, eq_ix4 y⟩
    have ht : t.val < 8 := t.isLt
    have hp := (place7 t b' l' p' j' (by omega)).symm.trans hy
    exact absurd (show (1 : Nat) = 0 from congrArg Fin.val (congrFun hp 1)) (by omega)
  · obtain rfl : l = 1 := Fin.ext (show l.val = 1 by omega)
    rw [if_neg h]
    have e := written7 m c ⟨b.val / 4, show b.val / 4 < 8 by omega⟩ (show b.val / 4 < 8 by omega) ⟨b.val % 4, by omega⟩ p j
    have hb : (⟨b.val / 4 * 4 + b.val % 4, by omega⟩ : Fin 32) = b := Fin.ext (show b.val / 4 * 4 + b.val % 4 = b.val by omega)
    dsimp only at e
    rw [hb] at e
    exact e

theorem place8 (t : Fin cfg0.N) (b : Fin 4) (l : Fin 1) (p : Fin 256) (j : Fin 32) (h : t.val * 4 + b.val < 32) :
    (win0_8.blk t).view.emb (ix4 b l p j) = ix4 (⟨t.val * 4 + b.val, h⟩ : Fin 32) (1 : Fin 2) p j := by
  blk_ext [idx8 t]

theorem written8 (c : Dev nD) (t : Fin cfg0.N) (ht : t.val < 8) (b : Fin 4) (p : Fin 256) (j : Fin 32) :
    (dats (F := Ideal) m 0 c).arrAt 8 cfg0.N (ix4 (⟨t.val * 4 + b.val, by omega⟩ : Fin 32) (1 : Fin 2) p j) = m (c.tc.loc main_arg0) (ix2 (row ⟨t.val * 4 + b.val, by omega⟩ p) (⟨1472 + j.val, by omega⟩ : Fin 1536)) := by
  have e := congrFun (blocks8 m c t (flush8 t)) (ix4 b (0 : Fin 1) p j)
  rw [flushed8] at e
  unfold outsAt0 at e
  dsimp only at e
  refine Eq.trans (congrArg _ (place8 t b 0 p j (by omega)).symm) (e.trans ((out8 _ _ _ _ _ _ _ _ _ _ _ _ _ _ _ _ _ _ _ _ _ _ _ _ _ _ _ _ _ _ b p j).trans ?_))
  exact blk1 m c t (⟨b.val * 256 + p.val, by omega⟩ : Fin 1024) _ (row ⟨t.val * 4 + b.val, by omega⟩ p) (show (t.val * 4 + b.val) * 256 + p.val = t.val * 1024 + (b.val * 256 + p.val) by omega)

theorem final8 (c : Dev nD) : (dats (F := Ideal) m 0 c).arrAt 8 cfg0.N = whole8 (m (c.tc.loc main_arg0)) (m (c.tc.loc main_arg7)) := by
  funext i
  obtain ⟨b, l, p, j, rfl⟩ : ∃ (b : Fin 32) (l : Fin 2) (p : Fin 256) (j : Fin 32), i = ix4 b l p j := ⟨i 0, i 1, i 2, i 3, eq_ix4 i⟩
  rw [at8]
  by_cases h : l.val = 0
  · obtain rfl : l = 0 := Fin.ext h
    rw [if_pos h]
    refine (entry8 m c _ fun t _ hm => ?_).trans (congrFun (entered8 m c) _)
    obtain ⟨y, _, hy⟩ := Finset.mem_map.mp hm
    obtain ⟨b', l', p', j', rfl⟩ : ∃ (b : Fin 4) (l : Fin 1) (p : Fin 256) (j : Fin 32), y = ix4 b l p j := ⟨y 0, y 1, y 2, y 3, eq_ix4 y⟩
    have ht : t.val < 8 := t.isLt
    have hp := (place8 t b' l' p' j' (by omega)).symm.trans hy
    exact absurd (show (1 : Nat) = 0 from congrArg Fin.val (congrFun hp 1)) (by omega)
  · obtain rfl : l = 1 := Fin.ext (show l.val = 1 by omega)
    rw [if_neg h]
    have e := written8 m c ⟨b.val / 4, show b.val / 4 < 8 by omega⟩ (show b.val / 4 < 8 by omega) ⟨b.val % 4, by omega⟩ p j
    have hb : (⟨b.val / 4 * 4 + b.val % 4, by omega⟩ : Fin 32) = b := Fin.ext (show b.val / 4 * 4 + b.val % 4 = b.val by omega)
    dsimp only at e
    rw [hb] at e
    exact e

theorem place9 (t : Fin cfg0.N) (b : Fin 4) (l : Fin 1) (p : Fin 256) (j : Fin 128) (h : t.val * 4 + b.val < 32) :
    (win0_9.blk t).view.emb (ix4 b l p j) = ix4 (⟨t.val * 4 + b.val, h⟩ : Fin 32) (1 : Fin 2) p j := by
  blk_ext [idx9 t]

theorem written9 (c : Dev nD) (t : Fin cfg0.N) (ht : t.val < 8) (b : Fin 4) (p : Fin 256) (j : Fin 128) :
    (dats (F := Ideal) m 0 c).arrAt 9 cfg0.N (ix4 (⟨t.val * 4 + b.val, by omega⟩ : Fin 32) (1 : Fin 2) p j) = m (c.tc.loc main_arg0) (ix2 (row ⟨t.val * 4 + b.val, by omega⟩ p) (⟨1152 + j.val, by omega⟩ : Fin 1536)) := by
  have e := congrFun (blocks9 m c t (flush9 t)) (ix4 b (0 : Fin 1) p j)
  rw [flushed9] at e
  unfold outsAt0 at e
  dsimp only at e
  refine Eq.trans (congrArg _ (place9 t b 0 p j (by omega)).symm) (e.trans ((out9 _ _ _ _ _ _ _ _ _ _ _ _ _ _ _ _ _ _ _ _ _ _ _ _ _ _ _ _ _ _ b p j).trans ?_))
  exact blk1 m c t (⟨b.val * 256 + p.val, by omega⟩ : Fin 1024) _ (row ⟨t.val * 4 + b.val, by omega⟩ p) (show (t.val * 4 + b.val) * 256 + p.val = t.val * 1024 + (b.val * 256 + p.val) by omega)

theorem final9 (c : Dev nD) : (dats (F := Ideal) m 0 c).arrAt 9 cfg0.N = whole9 (m (c.tc.loc main_arg0)) (m (c.tc.loc main_arg8)) := by
  funext i
  obtain ⟨b, l, p, j, rfl⟩ : ∃ (b : Fin 32) (l : Fin 2) (p : Fin 256) (j : Fin 128), i = ix4 b l p j := ⟨i 0, i 1, i 2, i 3, eq_ix4 i⟩
  rw [at9]
  by_cases h : l.val = 0
  · obtain rfl : l = 0 := Fin.ext h
    rw [if_pos h]
    refine (entry9 m c _ fun t _ hm => ?_).trans (congrFun (entered9 m c) _)
    obtain ⟨y, _, hy⟩ := Finset.mem_map.mp hm
    obtain ⟨b', l', p', j', rfl⟩ : ∃ (b : Fin 4) (l : Fin 1) (p : Fin 256) (j : Fin 128), y = ix4 b l p j := ⟨y 0, y 1, y 2, y 3, eq_ix4 y⟩
    have ht : t.val < 8 := t.isLt
    have hp := (place9 t b' l' p' j' (by omega)).symm.trans hy
    exact absurd (show (1 : Nat) = 0 from congrArg Fin.val (congrFun hp 1)) (by omega)
  · obtain rfl : l = 1 := Fin.ext (show l.val = 1 by omega)
    rw [if_neg h]
    have e := written9 m c ⟨b.val / 4, show b.val / 4 < 8 by omega⟩ (show b.val / 4 < 8 by omega) ⟨b.val % 4, by omega⟩ p j
    have hb : (⟨b.val / 4 * 4 + b.val % 4, by omega⟩ : Fin 32) = b := Fin.ext (show b.val / 4 * 4 + b.val % 4 = b.val by omega)
    dsimp only at e
    rw [hb] at e
    exact e

theorem place10 (t : Fin cfg0.N) (b : Fin 4) (l : Fin 1) (p : Fin 256) (j : Fin 128) (h : t.val * 4 + b.val < 32) :
    (win0_10.blk t).view.emb (ix4 b l p j) = ix4 (⟨t.val * 4 + b.val, h⟩ : Fin 32) (1 : Fin 2) p j := by
  blk_ext [idx10 t]

theorem written10 (c : Dev nD) (t : Fin cfg0.N) (ht : t.val < 8) (b : Fin 4) (p : Fin 256) (j : Fin 128) :
    (dats (F := Ideal) m 0 c).arrAt 10 cfg0.N (ix4 (⟨t.val * 4 + b.val, by omega⟩ : Fin 32) (1 : Fin 2) p j) = m (c.tc.loc main_arg0) (ix2 (row ⟨t.val * 4 + b.val, by omega⟩ p) (⟨1280 + j.val, by omega⟩ : Fin 1536)) := by
  have e := congrFun (blocks10 m c t (flush10 t)) (ix4 b (0 : Fin 1) p j)
  rw [flushed10] at e
  unfold outsAt0 at e
  dsimp only at e
  refine Eq.trans (congrArg _ (place10 t b 0 p j (by omega)).symm) (e.trans ((out10 _ _ _ _ _ _ _ _ _ _ _ _ _ _ _ _ _ _ _ _ _ _ _ _ _ _ _ _ _ _ b p j).trans ?_))
  exact blk1 m c t (⟨b.val * 256 + p.val, by omega⟩ : Fin 1024) _ (row ⟨t.val * 4 + b.val, by omega⟩ p) (show (t.val * 4 + b.val) * 256 + p.val = t.val * 1024 + (b.val * 256 + p.val) by omega)

theorem final10 (c : Dev nD) : (dats (F := Ideal) m 0 c).arrAt 10 cfg0.N = whole10 (m (c.tc.loc main_arg0)) (m (c.tc.loc main_arg9)) := by
  funext i
  obtain ⟨b, l, p, j, rfl⟩ : ∃ (b : Fin 32) (l : Fin 2) (p : Fin 256) (j : Fin 128), i = ix4 b l p j := ⟨i 0, i 1, i 2, i 3, eq_ix4 i⟩
  rw [at10]
  by_cases h : l.val = 0
  · obtain rfl : l = 0 := Fin.ext h
    rw [if_pos h]
    refine (entry10 m c _ fun t _ hm => ?_).trans (congrFun (entered10 m c) _)
    obtain ⟨y, _, hy⟩ := Finset.mem_map.mp hm
    obtain ⟨b', l', p', j', rfl⟩ : ∃ (b : Fin 4) (l : Fin 1) (p : Fin 256) (j : Fin 128), y = ix4 b l p j := ⟨y 0, y 1, y 2, y 3, eq_ix4 y⟩
    have ht : t.val < 8 := t.isLt
    have hp := (place10 t b' l' p' j' (by omega)).symm.trans hy
    exact absurd (show (1 : Nat) = 0 from congrArg Fin.val (congrFun hp 1)) (by omega)
  · obtain rfl : l = 1 := Fin.ext (show l.val = 1 by omega)
    rw [if_neg h]
    have e := written10 m c ⟨b.val / 4, show b.val / 4 < 8 by omega⟩ (show b.val / 4 < 8 by omega) ⟨b.val % 4, by omega⟩ p j
    have hb : (⟨b.val / 4 * 4 + b.val % 4, by omega⟩ : Fin 32) = b := Fin.ext (show b.val / 4 * 4 + b.val % 4 = b.val by omega)
    dsimp only at e
    rw [hb] at e
    exact e

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_ref : Cert.quiescent_Reference9Ideal := fun m ρ _ =>
  (θ_run Cert.Reference9Ideal.defs _ _).mono
    (fun r h => ⟨fun c => (h c).2.2.2.2, Idealize.ShloMosaic.sem_eq_zero_of_no_sems (by decide) r.2⟩)
    (Cert.Reference9Ideal.Value.run (F := Ideal) m ρ)

theorem kept : Cert.preserves_Kernel9_Kernel9Ideal := trivial

theorem same (x0 : Vec Ideal S8192x1536 .f32) (x4 : Vec Ideal S1x256 .f32) (x6 : Vec Ideal S32x2x256x256 .f32) (x7 : Vec Ideal S32x2x256x32 .f32)
    (x8 x9 : Vec Ideal S32x2x256x128 .f32) (c : Dev nD)
    (h0 : x0 = m (c.tc.loc main_arg0)) (h4 : x4 = m (c.tc.loc main_arg4)) (h6 : x6 = m (c.tc.loc main_arg6)) (h7 : x7 = m (c.tc.loc main_arg7))
    (h8 : x8 = m (c.tc.loc main_arg8)) (h9 : x9 = m (c.tc.loc main_arg9)) :
    Cert.Reference9Ideal.Read.val_main_v23 (F := Ideal) x0 x4 x6 = whole7 (m (c.tc.loc main_arg0)) (m (c.tc.loc main_arg4)) (m (c.tc.loc main_arg6))
    ∧ Cert.Reference9Ideal.Read.val_main_v28 (F := Ideal) x0 x7 = whole8 (m (c.tc.loc main_arg0)) (m (c.tc.loc main_arg7))
    ∧ Cert.Reference9Ideal.Read.val_main_v33 (F := Ideal) x0 x8 = whole9 (m (c.tc.loc main_arg0)) (m (c.tc.loc main_arg8))
    ∧ Cert.Reference9Ideal.Read.val_main_v38 (F := Ideal) x0 x9 = whole10 (m (c.tc.loc main_arg0)) (m (c.tc.loc main_arg9)) := by
  subst h0 h4 h6 h7 h8 h9
  exact ⟨ref7 _ _ _, ref8 _ _, ref9 _ _, ref10 _ _⟩

theorem algebraic : Cert.algebraic_Kernel9Ideal_Reference9Ideal := by
  intro m g m' g' _ hagree
  refine ⟨fun c => whole7 (m (c.tc.loc main_arg0)) (m (c.tc.loc main_arg4)) (m (c.tc.loc main_arg6)),
    fun c => whole8 (m (c.tc.loc main_arg0)) (m (c.tc.loc main_arg7)), fun c => whole9 (m (c.tc.loc main_arg0)) (m (c.tc.loc main_arg8)), fun c => whole10 (m (c.tc.loc main_arg0)) (m (c.tc.loc main_arg9)), ?_, ?_⟩
  · refine (θ_run defs _ _).mono (fun r h c => ?_) (run_blocks (F := Ideal) m g)
    obtain ⟨_, h7, h8, h9, h10, hk⟩ := h c
    exact ⟨h7.trans (final7 m c), h8.trans (final8 m c), h9.trans (final9 m c), h10.trans (final10 m c), hk⟩
  · refine (θ_run Cert.Reference9Ideal.defs _ _).mono (fun r h c => ?_) (Cert.Reference9Ideal.Value.run (F := Ideal) m' g')
    obtain ⟨a0, _, _, _, a4, _, a6, a7, a8, a9⟩ := hagree c
    obtain ⟨s0, s1, s2, s3⟩ := same m _ _ _ _ _ _ c a0 a4 a6 a7 a8 a9
    exact ⟨(h c).1.trans s0, (h c).2.1.trans s1, (h c).2.2.1.trans s2, (h c).2.2.2.1.trans s3, (h c).2.2.2.2⟩

end Cert.Caches.Second
-- ==== Proof.lean ====
/- The claims of this directory, put together: the attention call (Proof/AttnFrames.lean, Proof/AttnClaims.lean), the experts'
call (Proof/FfnClaims.lean), the modulated projections into the layers (Proof/ModWide.lean, Proof/ModNarrow.lean), the projection
out of the mixers with the router (Proof/Router.lean), the sum of the experts' outputs with the final norm (Proof/Latents.lean,
Proof/Prompt.lean) and the caches that the prompts' attention writes (Proof/Caches.lean, Proof/CachesNext.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.KernelIdeal.Value
public import proofs.«01_k».proof.Proof.Gen.ReferenceIdeal.Run
public import proofs.«01_k».proof.Proof.AttnFrames
public import proofs.«01_k».proof.Proof.AttnClaims
public import proofs.«01_k».proof.Proof.FfnClaims
public import proofs.«01_k».proof.Proof.ModWide
public import proofs.«01_k».proof.Proof.ModNarrow
public import proofs.«01_k».proof.Proof.Router
public import proofs.«01_k».proof.Proof.Latents
public import proofs.«01_k».proof.Proof.Prompt
public import proofs.«01_k».proof.Proof.Caches
public import proofs.«01_k».proof.Proof.CachesNext

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Attn.facts_pre,
  Cert.Attn.frame_kernel, Cert.Attn.frame_ideal, Cert.Attn.frame_ideal_pre, Cert.Attn.frame_ref, Cert.Attn.frame_ref_pre,
  Cert.Ffn.frame_kernel, Cert.Ffn.frame_ideal, Cert.Ffn.frame_ref,
  Cert.Mod.Wide.frame_kernel, Cert.Mod.Wide.frame_ideal, Cert.Mod.Wide.frame_ref,
  Cert.Mod.Narrow.frame_kernel, Cert.Mod.Narrow.frame_ideal, Cert.Mod.Narrow.frame_ref,
  Cert.Router.frame_kernel, Cert.Router.frame_ideal, Cert.Router.frame_ref,
  Cert.Latents.frame_kernel, Cert.Latents.frame_ideal, Cert.Latents.frame_ref,
  Cert.Prompt.frame_kernel, Cert.Prompt.frame_ideal, Cert.Prompt.frame_ref,
  Cert.Caches.frame_kernel, Cert.Caches.frame_ideal, Cert.Caches.frame_ref,
  Cert.Caches.Second.frame_kernel, Cert.Caches.Second.frame_ideal, Cert.Caches.Second.frame_ref,
  Cert.Attn.kept, Cert.Attn.algebraic, Cert.Ffn.kept, Cert.Ffn.algebraic, Cert.Mod.Wide.kept, Cert.Mod.Wide.algebraic, Cert.Mod.Narrow.kept,
  Cert.Mod.Narrow.algebraic, Cert.Router.kept, Cert.Router.algebraic,
  Cert.Latents.kept, Cert.Latents.algebraic, Cert.Prompt.kept, Cert.Prompt.algebraic,
  Cert.Caches.kept, Cert.Caches.algebraic, Cert.Caches.Second.kept, Cert.Caches.Second.algebraic⟩

end Cert.Proof
